-- ==== Defs.lean ====
def Pre_Kernel [hPre_names_in_range : Cert.Pre_names_in_range.Facts] (m : (ℓ : Loc Cert.Kernel.nD Cert.Kernel.τ Cert.Kernel.sig) → Buf (Elt Bits) ℓ) : Prop :=
  ∀ c : Dev Cert.Kernel.nD,
    (Cert.Pre_names_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_names_in_range : Cert.Pre_names_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_names_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_in_range [hPre_names_in_range : Cert.Pre_names_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_names_in_range : Cert.Pre_names_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_names_in_range : Cert.Pre_names_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_names_in_range [hReferenceIdeal : Cert.ReferenceIdeal.Facts] [hPre_names_in_range : Cert.Pre_names_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_in_range : Cert.Pre_names_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_names_in_range : Cert.Pre_names_in_range.Facts),
    quiescent_Kernel (hKernel := hKernel) (hPre_names_in_range := hPre_names_in_range)
    ∧ quiescent_KernelIdeal (hKernelIdeal := hKernelIdeal) (hPre_names_in_range := hPre_names_in_range)
    ∧ quiescent_ReferenceIdeal (hReferenceIdeal := hReferenceIdeal)
    ∧ quiescent_ReferenceIdeal_pre_names_in_range (hReferenceIdeal := hReferenceIdeal) (hPre_names_in_range := hPre_names_in_range)
    ∧ preserves_Kernel_KernelIdeal
    ∧ algebraic_KernelIdeal_ReferenceIdeal (hKernelIdeal := hKernelIdeal) (hReferenceIdeal := hReferenceIdeal) (hPre_names_in_range := hPre_names_in_range)
-- ==== Pre_names_in_range.lean ====
abbrev S1024x12288 : Shape := ⟨2, ![1024, 12288]⟩
abbrev S1024x4096 : Shape := ⟨2, ![1024, 4096]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x12288 .f32) (main_arg1 : IVec S1024x4096 32) (main_arg2 : IVec S1024x4096 32) (main_arg3 : IVec S1024 32) : IVec S_ 1 :=
  let main_c : IVec S_ 32 := constantI S_ 32 0#32
  let main_v0 : IVec S1024x4096 32 := broadcastInDim S1024x4096 ![] bcast_S_S1024x4096 main_c
  let main_v1 : IVec S1024x4096 1 := cmpi .sge main_arg1 main_v0
  let main_c_0 : IVec S_ 32 := constantI S_ 32 21#32
  let main_v2 : IVec S1024x4096 32 := broadcastInDim S1024x4096 ![] bcast_S_S1024x4096 main_c_0
  let main_v3 : IVec S1024x4096 1 := cmpi .slt main_arg1 main_v2
  let main_v4 : IVec S1024x4096 1 := andi main_v1 main_v3
  let main_c_1 : IVec S_ 1 := constantI S_ 1 1#1
  let main_v5 : IVec S_ 1 := (fun x v => Host.reduce IntOp.andi x v reducesTo_S1024x4096_S_d0_1 h_S_) main_v4 main_c_1
  let main_c_2 : IVec S_ 32 := constantI S_ 32 0#32
  let main_v6 : IVec S1024x4096 32 := broadcastInDim S1024x4096 ![] bcast_S_S1024x4096 main_c_2
  let main_v7 : IVec S1024x4096 1 := cmpi .sge main_arg2 main_v6
  let main_c_3 : IVec S_ 32 := constantI S_ 32 38#32
  let main_v8 : IVec S1024x4096 32 := broadcastInDim S1024x4096 ![] bcast_S_S1024x4096 main_c_3
  let main_v9 : IVec S1024x4096 1 := cmpi .slt main_arg2 main_v8
  let main_v10 : IVec S1024x4096 1 := andi main_v7 main_v9
  let main_c_4 : IVec S_ 1 := constantI S_ 1 1#1
  let main_v11 : IVec S_ 1 := (fun x v => Host.reduce IntOp.andi x v reducesTo_S1024x4096_S_d0_1 h_S_) main_v10 main_c_4
  let main_v12 : IVec S_ 1 := andi main_v5 main_v11
  main_v12
-- ==== Kernel.lean ====
abbrev S1024x12288 : Shape := ⟨2, ![1024, 12288]⟩
abbrev S1024x4096 : Shape := ⟨2, ![1024, 4096]⟩
abbrev S1024 : Shape := ⟨1, ![1024]⟩
abbrev S1024x1024 : Shape := ⟨2, ![1024, 1024]⟩
abbrev S128x4096 : Shape := ⟨2, ![128, 4096]⟩
abbrev S128x1024 : Shape := ⟨2, ![128, 1024]⟩
abbrev S11264 : Shape := ⟨1, ![11264]⟩
abbrev S12288 : Shape := ⟨1, ![12288]⟩
abbrev S4096 : Shape := ⟨1, ![4096]⟩
abbrev S16 : Shape := ⟨1, ![16]⟩
abbrev S32 : Shape := ⟨1, ![32]⟩
abbrev S352 : Shape := ⟨1, ![352]⟩
abbrev S_ : Shape := ⟨0, ![]⟩
abbrev S1x1024 : Shape := ⟨2, ![1, 1024]⟩
abbrev S1x12288 : Shape := ⟨2, ![1, 12288]⟩
abbrev S1024x11 : Shape := ⟨2, ![1024, 11]⟩

abbrev nBuf : Table → Nat
  | .hbm => 10
  | .local .tc .vmem => 6
  | .local .scVector .vmem => 12
  | _ => 0

abbrev bufTy : (tb : Table) → Fin (nBuf tb) → BufTy
  | .hbm, ⟨0, _⟩ => ⟨S1024x12288, .f32⟩
  | .hbm, ⟨1, _⟩ => ⟨S1024x4096, .i32⟩
  | .hbm, ⟨2, _⟩ => ⟨S1024x4096, .i32⟩
  | .hbm, ⟨3, _⟩ => ⟨S1024, .i32⟩
  | .hbm, ⟨4, _⟩ => ⟨S1024x1024, .i32⟩
  | .hbm, ⟨5, _⟩ => ⟨S1024x12288, .f32⟩
  | .hbm, ⟨6, _⟩ => ⟨S11264, .i32⟩
  | .hbm, ⟨7, _⟩ => ⟨S11264, .i32⟩
  | .hbm, ⟨8, _⟩ => ⟨S1024x11, .i32⟩
  | .hbm, ⟨9, _⟩ => ⟨S1024x11, .i32⟩
  | .local .tc .vmem, ⟨0, _⟩ => ⟨S128x4096, .i32⟩
  | .local .tc .vmem, ⟨1, _⟩ => ⟨S128x4096, .i32⟩
  | .local .tc .vmem, ⟨2, _⟩ => ⟨S128x4096, .i32⟩
  | .local .tc .vmem, ⟨3, _⟩ => ⟨S128x4096, .i32⟩
  | .local .tc .vmem, ⟨4, _⟩ => ⟨S128x1024, .i32⟩
  | .local .tc .vmem, ⟨5, _⟩ => ⟨S128x1024, .i32⟩
  | .local .scVector .vmem, ⟨0, _⟩ => ⟨S1024, .i32⟩
  | .local .scVector .vmem, ⟨1, _⟩ => ⟨S1024, .i32⟩
  | .local .scVector .vmem, ⟨2, _⟩ => ⟨S12288, .f32⟩
  | .local .scVector .vmem, ⟨3, _⟩ => ⟨S12288, .f32⟩
  | .local .scVector .vmem, ⟨4, _⟩ => ⟨S12288, .f32⟩
  | .local .scVector .vmem, ⟨5, _⟩ => ⟨S12288, .f32⟩
  | .local .scVector .vmem, ⟨6, _⟩ => ⟨S4096, .i32⟩
  | .local .scVector .vmem, ⟨7, _⟩ => ⟨S4096, .i32⟩
  | .local .scVector .vmem, ⟨8, _⟩ => ⟨S16, .i32⟩
  | .local .scVector .vmem, ⟨9, _⟩ => ⟨S32, .i32⟩
  | .local .scVector .vmem, ⟨10, _⟩ => ⟨S352, .i32⟩
  | .local .scVector .vmem, ⟨11, _⟩ => ⟨S352, .i32⟩
  | _, _ => ⟨S1024x12288, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_v0_scv : Ref sig .scVector := ⟨.hbm, 4, rfl⟩
abbrev main_arg3_scv : Ref sig .scVector := ⟨.hbm, 3, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  ![v2.toNat]
def k1_off2 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32 : BitVec 32 := 0#32
  let v5 : BitVec 32 := Scalar.addi v2 c0_i32
  let c0_i32_0 : BitVec 32 := 0#32
  ![v5.toNat, 0]
def k1_off3 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32 : BitVec 32 := 0#32
  let v5 : BitVec 32 := Scalar.addi v2 c0_i32
  let c0_i32_2 : BitVec 32 := 0#32
  ![v5.toNat, 0]
@[reducible] def k1_t1_loop : Scf.Loop 32 :=
  let c0_i32_5 : BitVec 32 := 0#32
  let c16_i32_6 : BitVec 32 := 16#32
  let v14 : BitVec 32 := Scalar.addi c0_i32_5 c16_i32_6
  let c1_i32 : BitVec 32 := 1#32
  ⟨c0_i32_5, v14, c1_i32⟩
def k1_cond1 (k1_t1 : Fin k1_t1_loop.trips) : BitVec 1 :=
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let c1_i32_18 : BitVec 32 := 1#32
  let v32 : BitVec 32 := Scalar.addi v31 c1_i32_18
  let c32_i32_19 : BitVec 32 := 32#32
  let v33 : BitVec 1 := Scalar.cmpi .slt v32 c32_i32_19
  let v34 : BitVec 32 := Scalar.extui v33
  let c0_i32_20 : BitVec 32 := 0#32
  let v35 : BitVec 1 := Scalar.cmpi .ne v34 c0_i32_20
  v35

def k1_off4 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let c1_i32_85 : BitVec 32 := 1#32
  let v118 : BitVec 32 := Scalar.addi v31 c1_i32_85
  let v119 : BitVec 32 := Scalar.addi v2 v118
  let c0_i32_86 : BitVec 32 := 0#32
  ![v119.toNat, 0]
def k1_off5 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let c1_i32_85 : BitVec 32 := 1#32
  let v118 : BitVec 32 := Scalar.addi v31 c1_i32_85
  let v119 : BitVec 32 := Scalar.addi v2 v118
  let c0_i32_88 : BitVec 32 := 0#32
  ![v119.toNat, 0]
def k1_off6 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let v36 : BitVec 32 := Scalar.addi v2 v31
  let c0_i32_21 : BitVec 32 := 0#32
  ![v36.toNat, 0]
def k1_off7 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let v36 : BitVec 32 := Scalar.addi v2 v31
  let c0_i32_23 : BitVec 32 := 0#32
  ![v36.toNat, 0]

def k1_chk1 (v47 : IVec S16 32) : Prop :=
  (∀ a x, ((![v47] : Fin 1 → IVec S16 32) a x).toNat < S32.size a)
theorem k1_idx1_inb : ∀ (v47 : IVec S16 32) (k1_hw1 : k1_chk1 v47), ∀ a x, ((![v47] : Fin 1 → IVec S16 32) a x).toNat < S32.size a := fun v47 k1_hw1 => k1_hw1
@[reducible] def k1_t2_loop : Scf.Loop 32 :=
  let c0_i32_26 : BitVec 32 := 0#32
  let c256_i32 : BitVec 32 := 256#32
  let v49 : BitVec 32 := Scalar.addi c0_i32_26 c256_i32
  let c1_i32_27 : BitVec 32 := 1#32
  ⟨c0_i32_26, v49, c1_i32_27⟩
def k1_off8 (k1_t2 : Fin k1_t2_loop.trips) : Fin 1 → Nat :=
  let c0_i32_86 : BitVec 32 := 0#32
  let c0_i32_26 : BitVec 32 := 0#32
  let c1_i32_27 : BitVec 32 := 1#32
  let arg28 : BitVec 32 := Scf.iv c0_i32_26 c1_i32_27 k1_t2
  let c1_i32_85 : BitVec 32 := 1#32
  let v118 : BitVec 32 := Scalar.muli arg28 c1_i32_85
  let v119 : BitVec 32 := Scalar.addi c0_i32_86 v118
  let c16_i32_88 : BitVec 32 := 16#32
  let v121 : BitVec 32 := Scalar.muli v119 c16_i32_88
  let v122 : Index := Scalar.indexCast v121
  ![v122.toNat]
@[reducible] def k1_t3_loop : Scf.Loop 32 :=
  let c0_i32_29 : BitVec 32 := 0#32
  let c64_i32 : BitVec 32 := 64#32
  let v50 : BitVec 32 := Scalar.addi c0_i32_29 c64_i32
  let c1_i32_30 : BitVec 32 := 1#32
  ⟨c0_i32_29, v50, c1_i32_30⟩
def k1_off9 (k1_t3 : Fin k1_t3_loop.trips) : Fin 1 → Nat :=
  let c0_i32_86 : BitVec 32 := 0#32
  let c0_i32_29 : BitVec 32 := 0#32
  let c1_i32_30 : BitVec 32 := 1#32
  let arg28 : BitVec 32 := Scf.iv c0_i32_29 c1_i32_30 k1_t3
  let c1_i32_85 : BitVec 32 := 1#32
  let v118 : BitVec 32 := Scalar.muli arg28 c1_i32_85
  let v119 : BitVec 32 := Scalar.addi c0_i32_86 v118
  let c16_i32_87 : BitVec 32 := 16#32
  let v120 : BitVec 32 := Scalar.muli v119 c16_i32_87
  let v121 : Index := Scalar.indexCast v120
  ![v121.toNat]
def k1_off10 (k1_t3 : Fin k1_t3_loop.trips) : Fin 1 → Nat :=
  let c0_i32_88 : BitVec 32 := 0#32
  let c0_i32_86 : BitVec 32 := 0#32
  let c0_i32_29 : BitVec 32 := 0#32
  let c1_i32_30 : BitVec 32 := 1#32
  let arg28 : BitVec 32 := Scf.iv c0_i32_29 c1_i32_30 k1_t3
  let c1_i32_85 : BitVec 32 := 1#32
  let v118 : BitVec 32 := Scalar.muli arg28 c1_i32_85
  let v119 : BitVec 32 := Scalar.addi c0_i32_86 v118
  let v123 : BitVec 32 := Scalar.addi c0_i32_88 v119
  let c16_i32_95 : BitVec 32 := 16#32
  let v140 : BitVec 32 := Scalar.muli v123 c16_i32_95
  let v141 : Index := Scalar.indexCast v140
  ![v141.toNat]

def k1_chk2 (v145 : IVec S16 32) : Prop :=
  (∀ a x, ((![v145] : Fin 1 → IVec S16 32) a x).toNat < S4096.size a)
theorem k1_idx2_inb : ∀ (v145 : IVec S16 32) (k1_hw2 : k1_chk2 v145), ∀ a x, ((![v145] : Fin 1 → IVec S16 32) a x).toNat < S4096.size a := fun v145 k1_hw2 => k1_hw2
def k1_off11 (k1_t3 : Fin k1_t3_loop.trips) : Fin 1 → Nat :=
  let c64_i32_97 : BitVec 32 := 64#32
  let c0_i32_86 : BitVec 32 := 0#32
  let c0_i32_29 : BitVec 32 := 0#32
  let c1_i32_30 : BitVec 32 := 1#32
  let arg28 : BitVec 32 := Scf.iv c0_i32_29 c1_i32_30 k1_t3
  let c1_i32_85 : BitVec 32 := 1#32
  let v118 : BitVec 32 := Scalar.muli arg28 c1_i32_85
  let v119 : BitVec 32 := Scalar.addi c0_i32_86 v118
  let v146 : BitVec 32 := Scalar.addi c64_i32_97 v119
  let c16_i32_106 : BitVec 32 := 16#32
  let v163 : BitVec 32 := Scalar.muli v146 c16_i32_106
  let v164 : Index := Scalar.indexCast v163
  ![v164.toNat]

def k1_chk3 (v168 : IVec S16 32) : Prop :=
  (∀ a x, ((![v168] : Fin 1 → IVec S16 32) a x).toNat < S4096.size a)
theorem k1_idx3_inb : ∀ (v168 : IVec S16 32) (k1_hw3 : k1_chk3 v168), ∀ a x, ((![v168] : Fin 1 → IVec S16 32) a x).toNat < S4096.size a := fun v168 k1_hw3 => k1_hw3
def k1_off12 (k1_t3 : Fin k1_t3_loop.trips) : Fin 1 → Nat :=
  let c128_i32 : BitVec 32 := 128#32
  let c0_i32_86 : BitVec 32 := 0#32
  let c0_i32_29 : BitVec 32 := 0#32
  let c1_i32_30 : BitVec 32 := 1#32
  let arg28 : BitVec 32 := Scf.iv c0_i32_29 c1_i32_30 k1_t3
  let c1_i32_85 : BitVec 32 := 1#32
  let v118 : BitVec 32 := Scalar.muli arg28 c1_i32_85
  let v119 : BitVec 32 := Scalar.addi c0_i32_86 v118
  let v169 : BitVec 32 := Scalar.addi c128_i32 v119
  let c16_i32_117 : BitVec 32 := 16#32
  let v186 : BitVec 32 := Scalar.muli v169 c16_i32_117
  let v187 : Index := Scalar.indexCast v186
  ![v187.toNat]

def k1_chk4 (v191 : IVec S16 32) : Prop :=
  (∀ a x, ((![v191] : Fin 1 → IVec S16 32) a x).toNat < S4096.size a)
theorem k1_idx4_inb : ∀ (v191 : IVec S16 32) (k1_hw4 : k1_chk4 v191), ∀ a x, ((![v191] : Fin 1 → IVec S16 32) a x).toNat < S4096.size a := fun v191 k1_hw4 => k1_hw4
def k1_off13 (k1_t3 : Fin k1_t3_loop.trips) : Fin 1 → Nat :=
  let c192_i32 : BitVec 32 := 192#32
  let c0_i32_86 : BitVec 32 := 0#32
  let c0_i32_29 : BitVec 32 := 0#32
  let c1_i32_30 : BitVec 32 := 1#32
  let arg28 : BitVec 32 := Scf.iv c0_i32_29 c1_i32_30 k1_t3
  let c1_i32_85 : BitVec 32 := 1#32
  let v118 : BitVec 32 := Scalar.muli arg28 c1_i32_85
  let v119 : BitVec 32 := Scalar.addi c0_i32_86 v118
  let v192 : BitVec 32 := Scalar.addi c192_i32 v119
  let c16_i32_127 : BitVec 32 := 16#32
  let v209 : BitVec 32 := Scalar.muli v192 c16_i32_127
  let v210 : Index := Scalar.indexCast v209
  ![v210.toNat]

def k1_chk5 (v214 : IVec S16 32) : Prop :=
  (∀ a x, ((![v214] : Fin 1 → IVec S16 32) a x).toNat < S4096.size a)
theorem k1_idx5_inb : ∀ (v214 : IVec S16 32) (k1_hw5 : k1_chk5 v214), ∀ a x, ((![v214] : Fin 1 → IVec S16 32) a x).toNat < S4096.size a := fun v214 k1_hw5 => k1_hw5
@[reducible] def k1_t4_loop : Scf.Loop 32 :=
  let c0_i32_33 : BitVec 32 := 0#32
  let c256_i32_34 : BitVec 32 := 256#32
  let v52 : BitVec 32 := Scalar.addi c0_i32_33 c256_i32_34
  let c1_i32_35 : BitVec 32 := 1#32
  ⟨c0_i32_33, v52, c1_i32_35⟩
def k1_off14 (k1_t4 : Fin k1_t4_loop.trips) : Fin 1 → Nat :=
  let c0_i32_33 : BitVec 32 := 0#32
  let c1_i32_35 : BitVec 32 := 1#32
  let arg28 : BitVec 32 := Scf.iv c0_i32_33 c1_i32_35 k1_t4
  let c16_i32_85 : BitVec 32 := 16#32
  let v118 : BitVec 32 := Scalar.muli arg28 c16_i32_85
  let v119 : Index := Scalar.indexCast v118
  ![v119.toNat]

def k1_chk6 (v64 : IVec S16 32) : Prop :=
  (∀ a x, ((![v64] : Fin 1 → IVec S16 32) a x).toNat < S352.size a) ∧
  (∀ a x, ((![v64] : Fin 1 → IVec S16 32) a x).toNat < S352.size a)
theorem k1_idx6_inb : ∀ (v64 : IVec S16 32) (k1_hw6 : k1_chk6 v64), ∀ a x, ((![v64] : Fin 1 → IVec S16 32) a x).toNat < S352.size a := fun v64 k1_hw6 => k1_hw6.1
theorem k1_idx7_inb : ∀ (v64 : IVec S16 32) (k1_hw6 : k1_chk6 v64), ∀ a x, ((![v64] : Fin 1 → IVec S16 32) a x).toNat < S352.size a := fun v64 k1_hw6 => k1_hw6.2
def k1_cond2 (k1_t1 : Fin k1_t1_loop.trips) : BitVec 1 :=
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let c2_i32_40 : BitVec 32 := 2#32
  let v65 : BitVec 1 := Scalar.cmpi .sge v31 c2_i32_40
  let v66 : BitVec 32 := Scalar.extui v65
  let c0_i32_41 : BitVec 32 := 0#32
  let v67 : BitVec 1 := Scalar.cmpi .ne v66 c0_i32_41
  v67

def k1_off15 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let c0_i32_17 : BitVec 32 := 0#32
  let v31 : BitVec 32 := Scalar.addi v30 c0_i32_17
  let v118 : BitVec 32 := Scalar.addi v2 v31
  let c2_i32_85 : BitVec 32 := 2#32
  let v119 : BitVec 32 := Scalar.subi v118 c2_i32_85
  let c0_i32_86 : BitVec 32 := 0#32
  ![v119.toNat, 0]
@[reducible] def k1_t5_loop : Scf.Loop 32 :=
  let c0_i32_42 : BitVec 32 := 0#32
  let c256_i32_43 : BitVec 32 := 256#32
  let v68 : BitVec 32 := Scalar.addi c0_i32_42 c256_i32_43
  let c1_i32_44 : BitVec 32 := 1#32
  ⟨c0_i32_42, v68, c1_i32_44⟩
def k1_off16 (k1_t5 : Fin k1_t5_loop.trips) : Fin 1 → Nat :=
  let c0_i32_86 : BitVec 32 := 0#32
  let c0_i32_42 : BitVec 32 := 0#32
  let c1_i32_44 : BitVec 32 := 1#32
  let arg28 : BitVec 32 := Scf.iv c0_i32_42 c1_i32_44 k1_t5
  let c1_i32_85 : BitVec 32 := 1#32
  let v118 : BitVec 32 := Scalar.muli arg28 c1_i32_85
  let v119 : BitVec 32 := Scalar.addi c0_i32_86 v118
  let c16_i32_87 : BitVec 32 := 16#32
  let v120 : BitVec 32 := Scalar.muli v119 c16_i32_87
  let v121 : Index := Scalar.indexCast v120
  ![v121.toNat]

def k1_chk7 (v124 : IVec S16 32) : Prop :=
  (∀ a x, ((![v124] : Fin 1 → IVec S16 32) a x).toNat < S16.size a)
theorem k1_idx8_inb : ∀ (v124 : IVec S16 32) (k1_hw7 : k1_chk7 v124), ∀ a x, ((![v124] : Fin 1 → IVec S16 32) a x).toNat < S16.size a := fun v124 k1_hw7 => k1_hw7

def k1_chk8 (v128 : IVec S16 32) : Prop :=
  (∀ a x, ((![v128] : Fin 1 → IVec S16 32) a x).toNat < S4096.size a)
theorem k1_idx9_inb : ∀ (v128 : IVec S16 32) (k1_hw8 : k1_chk8 v128), ∀ a x, ((![v128] : Fin 1 → IVec S16 32) a x).toNat < S4096.size a := fun v128 k1_hw8 => k1_hw8

def k1_chk9 (v139 : IVec S16 32) : Prop :=
  (∀ a x, ((![v139] : Fin 1 → IVec S16 32) a x).toNat < S12288.size a)
theorem k1_idx10_inb : ∀ (v139 : IVec S16 32) (k1_hw9 : k1_chk9 v139), ∀ a x, ((![v139] : Fin 1 → IVec S16 32) a x).toNat < S12288.size a := fun v139 k1_hw9 => k1_hw9

def k1_chk10 (v142 : IVec S16 32) : Prop :=
  (∀ a x, ((![v142] : Fin 1 → IVec S16 32) a x).toNat < S12288.size a)
theorem k1_idx11_inb : ∀ (v142 : IVec S16 32) (k1_hw10 : k1_chk10 v142), ∀ a x, ((![v142] : Fin 1 → IVec S16 32) a x).toNat < S12288.size a := fun v142 k1_hw10 => k1_hw10

def k1_chk11 (v145 : IVec S16 32) : Prop :=
  (∀ a x, ((![v145] : Fin 1 → IVec S16 32) a x).toNat < S12288.size a)
theorem k1_idx12_inb : ∀ (v145 : IVec S16 32) (k1_hw11 : k1_chk11 v145), ∀ a x, ((![v145] : Fin 1 → IVec S16 32) a x).toNat < S12288.size a := fun v145 k1_hw11 => k1_hw11

def k1_chk12 (v153 : IVec S16 32) : Prop :=
  (∀ a x, ((![v153] : Fin 1 → IVec S16 32) a x).toNat < S12288.size a)
theorem k1_idx13_inb : ∀ (v153 : IVec S16 32) (k1_hw12 : k1_chk12 v153), ∀ a x, ((![v153] : Fin 1 → IVec S16 32) a x).toNat < S12288.size a := fun v153 k1_hw12 => k1_hw12

def k1_chk13 (v155 : IVec S16 32) : Prop :=
  (∀ a x, ((![v155] : Fin 1 → IVec S16 32) a x).toNat < S12288.size a)
theorem k1_idx14_inb : ∀ (v155 : IVec S16 32) (k1_hw13 : k1_chk13 v155), ∀ a x, ((![v155] : Fin 1 → IVec S16 32) a x).toNat < S12288.size a := fun v155 k1_hw13 => k1_hw13

def k1_chk14 (v157 : IVec S16 32) : Prop :=
  (∀ a x, ((![v157] : Fin 1 → IVec S16 32) a x).toNat < S12288.size a)
theorem k1_idx15_inb : ∀ (v157 : IVec S16 32) (k1_hw14 : k1_chk14 v157), ∀ a x, ((![v157] : Fin 1 → IVec S16 32) a x).toNat < S12288.size a := fun v157 k1_hw14 => k1_hw14
def k1_off17 (i : grid1.Coords) (k1_t1 : Fin k1_t1_loop.trips) (c0_i32_17 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_16 : BitVec 32 := 2#32
  let v30 : BitVec 32 := Scalar.muli arg26 c2_i32_16
  let v31 : BitVec 32 := Scalar.addi v30 c0_i32_17
  let v69 : BitVec 32 := Scalar.addi v2 v31
  let c0_i32_46 : BitVec 32 := 0#32
  ![v69.toNat, 0]
def k1_cond3 (k1_t1 : Fin k1_t1_loop.trips) : BitVec 1 :=
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let c1_i32_50 : BitVec 32 := 1#32
  let v76 : BitVec 32 := Scalar.addi v75 c1_i32_50
  let c32_i32_51 : BitVec 32 := 32#32
  let v77 : BitVec 1 := Scalar.cmpi .slt v76 c32_i32_51
  let v78 : BitVec 32 := Scalar.extui v77
  let c0_i32_52 : BitVec 32 := 0#32
  let v79 : BitVec 1 := Scalar.cmpi .ne v78 c0_i32_52
  v79

def k1_off18 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let c1_i32_85 : BitVec 32 := 1#32
  let v118 : BitVec 32 := Scalar.addi v75 c1_i32_85
  let v119 : BitVec 32 := Scalar.addi v2 v118
  let c0_i32_86 : BitVec 32 := 0#32
  ![v119.toNat, 0]
def k1_off19 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let c1_i32_85 : BitVec 32 := 1#32
  let v118 : BitVec 32 := Scalar.addi v75 c1_i32_85
  let v119 : BitVec 32 := Scalar.addi v2 v118
  let c0_i32_88 : BitVec 32 := 0#32
  ![v119.toNat, 0]
def k1_off20 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let v80 : BitVec 32 := Scalar.addi v2 v75
  let c0_i32_53 : BitVec 32 := 0#32
  ![v80.toNat, 0]

def k1_chk15 (v91 : IVec S16 32) : Prop :=
  (∀ a x, ((![v91] : Fin 1 → IVec S16 32) a x).toNat < S32.size a)
theorem k1_idx16_inb : ∀ (v91 : IVec S16 32) (k1_hw15 : k1_chk15 v91), ∀ a x, ((![v91] : Fin 1 → IVec S16 32) a x).toNat < S32.size a := fun v91 k1_hw15 => k1_hw15
@[reducible] def k1_t6_loop : Scf.Loop 32 :=
  let c0_i32_58 : BitVec 32 := 0#32
  let c256_i32_59 : BitVec 32 := 256#32
  let v93 : BitVec 32 := Scalar.addi c0_i32_58 c256_i32_59
  let c1_i32_60 : BitVec 32 := 1#32
  ⟨c0_i32_58, v93, c1_i32_60⟩
def k1_off21 (k1_t6 : Fin k1_t6_loop.trips) : Fin 1 → Nat :=
  let c0_i32_86 : BitVec 32 := 0#32
  let c0_i32_58 : BitVec 32 := 0#32
  let c1_i32_60 : BitVec 32 := 1#32
  let arg28 : BitVec 32 := Scf.iv c0_i32_58 c1_i32_60 k1_t6
  let c1_i32_85 : BitVec 32 := 1#32
  let v118 : BitVec 32 := Scalar.muli arg28 c1_i32_85
  let v119 : BitVec 32 := Scalar.addi c0_i32_86 v118
  let c16_i32_88 : BitVec 32 := 16#32
  let v121 : BitVec 32 := Scalar.muli v119 c16_i32_88
  let v122 : Index := Scalar.indexCast v121
  ![v122.toNat]
@[reducible] def k1_t7_loop : Scf.Loop 32 :=
  let c0_i32_62 : BitVec 32 := 0#32
  let c64_i32_63 : BitVec 32 := 64#32
  let v94 : BitVec 32 := Scalar.addi c0_i32_62 c64_i32_63
  let c1_i32_64 : BitVec 32 := 1#32
  ⟨c0_i32_62, v94, c1_i32_64⟩
def k1_off22 (k1_t7 : Fin k1_t7_loop.trips) : Fin 1 → Nat :=
  let c0_i32_86 : BitVec 32 := 0#32
  let c0_i32_62 : BitVec 32 := 0#32
  let c1_i32_64 : BitVec 32 := 1#32
  let arg28 : BitVec 32 := Scf.iv c0_i32_62 c1_i32_64 k1_t7
  let c1_i32_85 : BitVec 32 := 1#32
  let v118 : BitVec 32 := Scalar.muli arg28 c1_i32_85
  let v119 : BitVec 32 := Scalar.addi c0_i32_86 v118
  let c16_i32_87 : BitVec 32 := 16#32
  let v120 : BitVec 32 := Scalar.muli v119 c16_i32_87
  let v121 : Index := Scalar.indexCast v120
  ![v121.toNat]
def k1_off23 (k1_t7 : Fin k1_t7_loop.trips) : Fin 1 → Nat :=
  let c0_i32_88 : BitVec 32 := 0#32
  let c0_i32_86 : BitVec 32 := 0#32
  let c0_i32_62 : BitVec 32 := 0#32
  let c1_i32_64 : BitVec 32 := 1#32
  let arg28 : BitVec 32 := Scf.iv c0_i32_62 c1_i32_64 k1_t7
  let c1_i32_85 : BitVec 32 := 1#32
  let v118 : BitVec 32 := Scalar.muli arg28 c1_i32_85
  let v119 : BitVec 32 := Scalar.addi c0_i32_86 v118
  let v123 : BitVec 32 := Scalar.addi c0_i32_88 v119
  let c16_i32_95 : BitVec 32 := 16#32
  let v140 : BitVec 32 := Scalar.muli v123 c16_i32_95
  let v141 : Index := Scalar.indexCast v140
  ![v141.toNat]

def k1_chk16 (v145 : IVec S16 32) : Prop :=
  (∀ a x, ((![v145] : Fin 1 → IVec S16 32) a x).toNat < S4096.size a)
theorem k1_idx17_inb : ∀ (v145 : IVec S16 32) (k1_hw16 : k1_chk16 v145), ∀ a x, ((![v145] : Fin 1 → IVec S16 32) a x).toNat < S4096.size a := fun v145 k1_hw16 => k1_hw16
def k1_off24 (k1_t7 : Fin k1_t7_loop.trips) : Fin 1 → Nat :=
  let c64_i32_97 : BitVec 32 := 64#32
  let c0_i32_86 : BitVec 32 := 0#32
  let c0_i32_62 : BitVec 32 := 0#32
  let c1_i32_64 : BitVec 32 := 1#32
  let arg28 : BitVec 32 := Scf.iv c0_i32_62 c1_i32_64 k1_t7
  let c1_i32_85 : BitVec 32 := 1#32
  let v118 : BitVec 32 := Scalar.muli arg28 c1_i32_85
  let v119 : BitVec 32 := Scalar.addi c0_i32_86 v118
  let v146 : BitVec 32 := Scalar.addi c64_i32_97 v119
  let c16_i32_106 : BitVec 32 := 16#32
  let v163 : BitVec 32 := Scalar.muli v146 c16_i32_106
  let v164 : Index := Scalar.indexCast v163
  ![v164.toNat]

def k1_chk17 (v168 : IVec S16 32) : Prop :=
  (∀ a x, ((![v168] : Fin 1 → IVec S16 32) a x).toNat < S4096.size a)
theorem k1_idx18_inb : ∀ (v168 : IVec S16 32) (k1_hw17 : k1_chk17 v168), ∀ a x, ((![v168] : Fin 1 → IVec S16 32) a x).toNat < S4096.size a := fun v168 k1_hw17 => k1_hw17
def k1_off25 (k1_t7 : Fin k1_t7_loop.trips) : Fin 1 → Nat :=
  let c128_i32 : BitVec 32 := 128#32
  let c0_i32_86 : BitVec 32 := 0#32
  let c0_i32_62 : BitVec 32 := 0#32
  let c1_i32_64 : BitVec 32 := 1#32
  let arg28 : BitVec 32 := Scf.iv c0_i32_62 c1_i32_64 k1_t7
  let c1_i32_85 : BitVec 32 := 1#32
  let v118 : BitVec 32 := Scalar.muli arg28 c1_i32_85
  let v119 : BitVec 32 := Scalar.addi c0_i32_86 v118
  let v169 : BitVec 32 := Scalar.addi c128_i32 v119
  let c16_i32_117 : BitVec 32 := 16#32
  let v186 : BitVec 32 := Scalar.muli v169 c16_i32_117
  let v187 : Index := Scalar.indexCast v186
  ![v187.toNat]

def k1_chk18 (v191 : IVec S16 32) : Prop :=
  (∀ a x, ((![v191] : Fin 1 → IVec S16 32) a x).toNat < S4096.size a)
theorem k1_idx19_inb : ∀ (v191 : IVec S16 32) (k1_hw18 : k1_chk18 v191), ∀ a x, ((![v191] : Fin 1 → IVec S16 32) a x).toNat < S4096.size a := fun v191 k1_hw18 => k1_hw18
def k1_off26 (k1_t7 : Fin k1_t7_loop.trips) : Fin 1 → Nat :=
  let c192_i32 : BitVec 32 := 192#32
  let c0_i32_86 : BitVec 32 := 0#32
  let c0_i32_62 : BitVec 32 := 0#32
  let c1_i32_64 : BitVec 32 := 1#32
  let arg28 : BitVec 32 := Scf.iv c0_i32_62 c1_i32_64 k1_t7
  let c1_i32_85 : BitVec 32 := 1#32
  let v118 : BitVec 32 := Scalar.muli arg28 c1_i32_85
  let v119 : BitVec 32 := Scalar.addi c0_i32_86 v118
  let v192 : BitVec 32 := Scalar.addi c192_i32 v119
  let c16_i32_127 : BitVec 32 := 16#32
  let v209 : BitVec 32 := Scalar.muli v192 c16_i32_127
  let v210 : Index := Scalar.indexCast v209
  ![v210.toNat]

def k1_chk19 (v214 : IVec S16 32) : Prop :=
  (∀ a x, ((![v214] : Fin 1 → IVec S16 32) a x).toNat < S4096.size a)
theorem k1_idx20_inb : ∀ (v214 : IVec S16 32) (k1_hw19 : k1_chk19 v214), ∀ a x, ((![v214] : Fin 1 → IVec S16 32) a x).toNat < S4096.size a := fun v214 k1_hw19 => k1_hw19
@[reducible] def k1_t8_loop : Scf.Loop 32 :=
  let c0_i32_67 : BitVec 32 := 0#32
  let c256_i32_68 : BitVec 32 := 256#32
  let v96 : BitVec 32 := Scalar.addi c0_i32_67 c256_i32_68
  let c1_i32_69 : BitVec 32 := 1#32
  ⟨c0_i32_67, v96, c1_i32_69⟩
def k1_off27 (k1_t8 : Fin k1_t8_loop.trips) : Fin 1 → Nat :=
  let c0_i32_67 : BitVec 32 := 0#32
  let c1_i32_69 : BitVec 32 := 1#32
  let arg28 : BitVec 32 := Scf.iv c0_i32_67 c1_i32_69 k1_t8
  let c16_i32_85 : BitVec 32 := 16#32
  let v118 : BitVec 32 := Scalar.muli arg28 c16_i32_85
  let v119 : Index := Scalar.indexCast v118
  ![v119.toNat]

def k1_chk20 (v108 : IVec S16 32) : Prop :=
  (∀ a x, ((![v108] : Fin 1 → IVec S16 32) a x).toNat < S352.size a) ∧
  (∀ a x, ((![v108] : Fin 1 → IVec S16 32) a x).toNat < S352.size a)
theorem k1_idx21_inb : ∀ (v108 : IVec S16 32) (k1_hw20 : k1_chk20 v108), ∀ a x, ((![v108] : Fin 1 → IVec S16 32) a x).toNat < S352.size a := fun v108 k1_hw20 => k1_hw20.1
theorem k1_idx22_inb : ∀ (v108 : IVec S16 32) (k1_hw20 : k1_chk20 v108), ∀ a x, ((![v108] : Fin 1 → IVec S16 32) a x).toNat < S352.size a := fun v108 k1_hw20 => k1_hw20.2
def k1_cond4 (k1_t1 : Fin k1_t1_loop.trips) : BitVec 1 :=
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let c2_i32_76 : BitVec 32 := 2#32
  let v109 : BitVec 1 := Scalar.cmpi .sge v75 c2_i32_76
  let v110 : BitVec 32 := Scalar.extui v109
  let c0_i32_77 : BitVec 32 := 0#32
  let v111 : BitVec 1 := Scalar.cmpi .ne v110 c0_i32_77
  v111

def k1_off28 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let v118 : BitVec 32 := Scalar.addi v2 v75
  let c2_i32_85 : BitVec 32 := 2#32
  let v119 : BitVec 32 := Scalar.subi v118 c2_i32_85
  let c0_i32_86 : BitVec 32 := 0#32
  ![v119.toNat, 0]
@[reducible] def k1_t9_loop : Scf.Loop 32 :=
  let c0_i32_78 : BitVec 32 := 0#32
  let c256_i32_79 : BitVec 32 := 256#32
  let v112 : BitVec 32 := Scalar.addi c0_i32_78 c256_i32_79
  let c1_i32_80 : BitVec 32 := 1#32
  ⟨c0_i32_78, v112, c1_i32_80⟩
def k1_off29 (k1_t9 : Fin k1_t9_loop.trips) : Fin 1 → Nat :=
  let c0_i32_86 : BitVec 32 := 0#32
  let c0_i32_78 : BitVec 32 := 0#32
  let c1_i32_80 : BitVec 32 := 1#32
  let arg28 : BitVec 32 := Scf.iv c0_i32_78 c1_i32_80 k1_t9
  let c1_i32_85 : BitVec 32 := 1#32
  let v118 : BitVec 32 := Scalar.muli arg28 c1_i32_85
  let v119 : BitVec 32 := Scalar.addi c0_i32_86 v118
  let c16_i32_87 : BitVec 32 := 16#32
  let v120 : BitVec 32 := Scalar.muli v119 c16_i32_87
  let v121 : Index := Scalar.indexCast v120
  ![v121.toNat]

def k1_chk21 (v124 : IVec S16 32) : Prop :=
  (∀ a x, ((![v124] : Fin 1 → IVec S16 32) a x).toNat < S16.size a)
theorem k1_idx23_inb : ∀ (v124 : IVec S16 32) (k1_hw21 : k1_chk21 v124), ∀ a x, ((![v124] : Fin 1 → IVec S16 32) a x).toNat < S16.size a := fun v124 k1_hw21 => k1_hw21

def k1_chk22 (v128 : IVec S16 32) : Prop :=
  (∀ a x, ((![v128] : Fin 1 → IVec S16 32) a x).toNat < S4096.size a)
theorem k1_idx24_inb : ∀ (v128 : IVec S16 32) (k1_hw22 : k1_chk22 v128), ∀ a x, ((![v128] : Fin 1 → IVec S16 32) a x).toNat < S4096.size a := fun v128 k1_hw22 => k1_hw22

def k1_chk23 (v139 : IVec S16 32) : Prop :=
  (∀ a x, ((![v139] : Fin 1 → IVec S16 32) a x).toNat < S12288.size a)
theorem k1_idx25_inb : ∀ (v139 : IVec S16 32) (k1_hw23 : k1_chk23 v139), ∀ a x, ((![v139] : Fin 1 → IVec S16 32) a x).toNat < S12288.size a := fun v139 k1_hw23 => k1_hw23

def k1_chk24 (v142 : IVec S16 32) : Prop :=
  (∀ a x, ((![v142] : Fin 1 → IVec S16 32) a x).toNat < S12288.size a)
theorem k1_idx26_inb : ∀ (v142 : IVec S16 32) (k1_hw24 : k1_chk24 v142), ∀ a x, ((![v142] : Fin 1 → IVec S16 32) a x).toNat < S12288.size a := fun v142 k1_hw24 => k1_hw24

def k1_chk25 (v145 : IVec S16 32) : Prop :=
  (∀ a x, ((![v145] : Fin 1 → IVec S16 32) a x).toNat < S12288.size a)
theorem k1_idx27_inb : ∀ (v145 : IVec S16 32) (k1_hw25 : k1_chk25 v145), ∀ a x, ((![v145] : Fin 1 → IVec S16 32) a x).toNat < S12288.size a := fun v145 k1_hw25 => k1_hw25

def k1_chk26 (v153 : IVec S16 32) : Prop :=
  (∀ a x, ((![v153] : Fin 1 → IVec S16 32) a x).toNat < S12288.size a)
theorem k1_idx28_inb : ∀ (v153 : IVec S16 32) (k1_hw26 : k1_chk26 v153), ∀ a x, ((![v153] : Fin 1 → IVec S16 32) a x).toNat < S12288.size a := fun v153 k1_hw26 => k1_hw26

def k1_chk27 (v155 : IVec S16 32) : Prop :=
  (∀ a x, ((![v155] : Fin 1 → IVec S16 32) a x).toNat < S12288.size a)
theorem k1_idx29_inb : ∀ (v155 : IVec S16 32) (k1_hw27 : k1_chk27 v155), ∀ a x, ((![v155] : Fin 1 → IVec S16 32) a x).toNat < S12288.size a := fun v155 k1_hw27 => k1_hw27

def k1_chk28 (v157 : IVec S16 32) : Prop :=
  (∀ a x, ((![v157] : Fin 1 → IVec S16 32) a x).toNat < S12288.size a)
theorem k1_idx30_inb : ∀ (v157 : IVec S16 32) (k1_hw28 : k1_chk28 v157), ∀ a x, ((![v157] : Fin 1 → IVec S16 32) a x).toNat < S12288.size a := fun v157 k1_hw28 => k1_hw28
def k1_off30 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_5 : BitVec 32 := 0#32
  let c1_i32 : BitVec 32 := 1#32
  let arg26 : BitVec 32 := Scf.iv c0_i32_5 c1_i32 k1_t1
  let c2_i32_48 : BitVec 32 := 2#32
  let v74 : BitVec 32 := Scalar.muli arg26 c2_i32_48
  let c1_i32_49 : BitVec 32 := 1#32
  let v75 : BitVec 32 := Scalar.addi v74 c1_i32_49
  let v113 : BitVec 32 := Scalar.addi v2 v75
  let c0_i32_82 : BitVec 32 := 0#32
  ![v113.toNat, 0]
def k1_off31 (i : grid1.Coords) (c2_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c32_i32_8 : BitVec 32 := 32#32
  let v16 : BitVec 32 := Scalar.addi v2 c32_i32_8
  let v17 : BitVec 32 := Scalar.subi v16 c2_i32
  let c0_i32_9 : BitVec 32 := 0#32
  ![v17.toNat, 0]
def k1_off32 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c11_i32 : BitVec 32 := 11#32
  let v28 : BitVec 32 := Scalar.muli v2 c11_i32
  ![v28.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x12288 : Shape := ⟨2, ![1024, 12288]⟩
abbrev S1024x4096 : Shape := ⟨2, ![1024, 4096]⟩
abbrev S1024 : Shape := ⟨1, ![1024]⟩
abbrev S1024x4096x3 : Shape := ⟨3, ![1024, 4096, 3]⟩
abbrev S4096 : Shape := ⟨1, ![4096]⟩
abbrev S1x4096 : Shape := ⟨2, ![1, 4096]⟩
abbrev S1024x1 : Shape := ⟨2, ![1024, 1]⟩
abbrev S_ : Shape := ⟨0, ![]⟩
abbrev S1024x4096x1 : Shape := ⟨3, ![1024, 4096, 1]⟩
abbrev S1 : Shape := ⟨1, ![1]⟩
abbrev S1x1x1 : Shape := ⟨3, ![1, 1, 1]⟩
abbrev S11 : Shape := ⟨1, ![11]⟩
abbrev S1x1x11 : Shape := ⟨3, ![1, 1, 11]⟩
abbrev S1024x4096x11 : Shape := ⟨3, ![1024, 4096, 11]⟩
abbrev S1024x11 : Shape := ⟨2, ![1024, 11]⟩
abbrev S1024x10 : Shape := ⟨2, ![1024, 10]⟩

abbrev nBuf : Space → Nat
  | .hbm => 112
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S1024x4096, .i32⟩
  | .hbm, ⟨2, _⟩ => ⟨S1024x4096, .i32⟩
  | .hbm, ⟨3, _⟩ => ⟨S1024, .i32⟩
  | .hbm, ⟨4, _⟩ => ⟨S1024x4096x3, .f32⟩
  | .hbm, ⟨5, _⟩ => ⟨S4096, .i32⟩
  | .hbm, ⟨6, _⟩ => ⟨S1x4096, .i32⟩
  | .hbm, ⟨7, _⟩ => ⟨S1024x1, .i32⟩
  | .hbm, ⟨8, _⟩ => ⟨S1024x4096, .i32⟩
  | .hbm, ⟨9, _⟩ => ⟨S1024x4096, .i32⟩
  | .hbm, ⟨10, _⟩ => ⟨S1024x4096, .i1⟩
  | .hbm, ⟨11, _⟩ => ⟨S1024x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1024x4096, .i32⟩
  | .hbm, ⟨19, _⟩ => ⟨S1024x4096, .i32⟩
  | .hbm, ⟨20, _⟩ => ⟨S_, .i32⟩
  | .hbm, ⟨21, _⟩ => ⟨S1024x4096, .i32⟩
  | .hbm, ⟨22, _⟩ => ⟨S1024x4096, .i1⟩
  | .hbm, ⟨23, _⟩ => ⟨S_, .i32⟩
  | .hbm, ⟨24, _⟩ => ⟨S1024x4096, .i32⟩
  | .hbm, ⟨25, _⟩ => ⟨S1024x4096, .i1⟩
  | .hbm, ⟨26, _⟩ => ⟨S_, .i32⟩
  | .hbm, ⟨27, _⟩ => ⟨S_, .i1⟩
  | .hbm, ⟨28, _⟩ => ⟨S1024x4096, .i1⟩
  | .hbm, ⟨29, _⟩ => ⟨S1024x4096, .i1⟩
  | .hbm, ⟨30, _⟩ => ⟨S1024x4096, .i1⟩
  | .hbm, ⟨31, _⟩ => ⟨S1024x4096, .i32⟩
  | .hbm, ⟨32, _⟩ => ⟨S1024x4096, .i32⟩
  | .hbm, ⟨33, _⟩ => ⟨S1024x4096, .i32⟩
  | .hbm, ⟨34, _⟩ => ⟨S_, .i32⟩
  | .hbm, ⟨35, _⟩ => ⟨S_, .i32⟩
  | .hbm, ⟨36, _⟩ => ⟨S1024x4096, .i32⟩
  | .hbm, ⟨37, _⟩ => ⟨S1024x4096, .i32⟩
  | .hbm, ⟨38, _⟩ => ⟨S1024x4096, .i32⟩
  | .hbm, ⟨39, _⟩ => ⟨S1024x4096, .i32⟩
  | .hbm, ⟨40, _⟩ => ⟨S1024x4096, .i32⟩
  | .hbm, ⟨41, _⟩ => ⟨S_, .i32⟩
  | .hbm, ⟨42, _⟩ => ⟨S1024x4096, .i32⟩
  | .hbm, ⟨43, _⟩ => ⟨S1024x4096, .i1⟩
  | .hbm, ⟨44, _⟩ => ⟨S_, .i32⟩
  | .hbm, ⟨45, _⟩ => ⟨S1024x4096, .i32⟩
  | .hbm, ⟨46, _⟩ => ⟨S1024x4096, .i32⟩
  | .hbm, ⟨47, _⟩ => ⟨S1024x4096, .i32⟩
  | .hbm, ⟨48, _⟩ => ⟨S1024x4096x1, .i32⟩
  | .hbm, ⟨49, _⟩ => ⟨S1, .i32⟩
  | .hbm, ⟨50, _⟩ => ⟨S_, .i32⟩
  | .hbm, ⟨51, _⟩ => ⟨S1024x4096x1, .i32⟩
  | .hbm, ⟨52, _⟩ => ⟨S1024x4096x1, .i1⟩
  | .hbm, ⟨53, _⟩ => ⟨S1x1x1, .i32⟩
  | .hbm, ⟨54, _⟩ => ⟨S1024x4096x1, .i32⟩
  | .hbm, ⟨55, _⟩ => ⟨S1024x4096x1, .i1⟩
  | .hbm, ⟨56, _⟩ => ⟨S1024x4096x1, .i1⟩
  | .hbm, ⟨57, _⟩ => ⟨S_, .i1⟩
  | .hbm, ⟨58, _⟩ => ⟨S1024x4096, .i1⟩
  | .hbm, ⟨59, _⟩ => ⟨S1024x4096, .i32⟩
  | .hbm, ⟨60, _⟩ => ⟨S_, .i32⟩
  | .hbm, ⟨61, _⟩ => ⟨S1024x4096, .i32⟩
  | .hbm, ⟨62, _⟩ => ⟨S1024x4096, .i32⟩
  | .hbm, ⟨63, _⟩ => ⟨S1024x4096x1, .i32⟩
  | .hbm, ⟨64, _⟩ => ⟨S_, .i32⟩
  | .hbm, ⟨65, _⟩ => ⟨S1024x4096x1, .i32⟩
  | .hbm, ⟨66, _⟩ => ⟨S1024x4096x1, .i1⟩
  | .hbm, ⟨67, _⟩ => ⟨S_, .i32⟩
  | .hbm, ⟨68, _⟩ => ⟨S1024x4096x1, .i32⟩
  | .hbm, ⟨69, _⟩ => ⟨S1024x4096x1, .i32⟩
  | .hbm, ⟨70, _⟩ => ⟨S1024x4096x1, .i32⟩
  | .hbm, ⟨71, _⟩ => ⟨S1, .i32⟩
  | .hbm, ⟨72, _⟩ => ⟨S_, .i32⟩
  | .hbm, ⟨73, _⟩ => ⟨S1024x4096x1, .i32⟩
  | .hbm, ⟨74, _⟩ => ⟨S1024x4096x1, .i1⟩
  | .hbm, ⟨75, _⟩ => ⟨S1x1x1, .i32⟩
  | .hbm, ⟨76, _⟩ => ⟨S1024x4096x1, .i32⟩
  | .hbm, ⟨77, _⟩ => ⟨S1024x4096x1, .i1⟩
  | .hbm, ⟨78, _⟩ => ⟨S1024x4096x1, .i1⟩
  | .hbm, ⟨79, _⟩ => ⟨S_, .i1⟩
  | .hbm, ⟨80, _⟩ => ⟨S1024x4096, .i1⟩
  | .hbm, ⟨81, _⟩ => ⟨S1024x4096x3, .f32⟩
  | .hbm, ⟨82, _⟩ => ⟨S1024x4096x3, .i1⟩
  | .hbm, ⟨83, _⟩ => ⟨S_, .f32⟩
  | .hbm, ⟨84, _⟩ => ⟨S1024x4096x3, .f32⟩
  | .hbm, ⟨85, _⟩ => ⟨S1024x4096x3, .f32⟩
  | .hbm, ⟨86, _⟩ => ⟨S_, .i32⟩
  | .hbm, ⟨87, _⟩ => ⟨S1024x4096, .i32⟩
  | .hbm, ⟨88, _⟩ => ⟨S1024x4096, .i1⟩
  | .hbm, ⟨89, _⟩ => ⟨S1024x4096x1, .i1⟩
  | .hbm, ⟨90, _⟩ => ⟨S_, .f32⟩
  | .hbm, ⟨91, _⟩ => ⟨S_, .f32⟩
  | .hbm, ⟨92, _⟩ => ⟨S1024x4096x3, .i1⟩
  | .hbm, ⟨93, _⟩ => ⟨S1024x4096x3, .f32⟩
  | .hbm, ⟨94, _⟩ => ⟨S1024x4096x3, .f32⟩
  | .hbm, ⟨95, _⟩ => ⟨S1024x12288, .f32⟩
  | .hbm, ⟨96, _⟩ => ⟨S1024x4096x1, .i32⟩
  | .hbm, ⟨97, _⟩ => ⟨S11, .i32⟩
  | .hbm, ⟨98, _⟩ => ⟨S1x1x11, .i32⟩
  | .hbm, ⟨99, _⟩ => ⟨S1024x4096x11, .i32⟩
  | .hbm, ⟨100, _⟩ => ⟨S1024x4096x11, .i32⟩
  | .hbm, ⟨101, _⟩ => ⟨S1024x4096x11, .i1⟩
  | .hbm, ⟨102, _⟩ => ⟨S1024x4096x11, .i32⟩
  | .hbm, ⟨103, _⟩ => ⟨S_, .i32⟩
  | .hbm, ⟨104, _⟩ => ⟨S1024x11, .i32⟩
  | .hbm, ⟨105, _⟩ => ⟨S_, .i32⟩
  | .hbm, ⟨106, _⟩ => ⟨S_, .i32⟩
  | .hbm, ⟨107, _⟩ => ⟨S1024x11, .i32⟩
  | .hbm, ⟨108, _⟩ => ⟨S_, .i32⟩
  | .hbm, ⟨109, _⟩ => ⟨S1024x1, .i32⟩
  | .hbm, ⟨110, _⟩ => ⟨S1024x10, .i32⟩
  | .hbm, ⟨111, _⟩ => ⟨S1024x11, .i32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_v9 : Ref sig .tc := ⟨.hbm, 37, rfl⟩
abbrev main_call2_v0 : Ref sig .tc := ⟨.hbm, 38, rfl⟩
abbrev main_call2_v1_0 : Ref sig .tc := ⟨.hbm, 39, rfl⟩
abbrev main_v10 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_c_4 : Ref sig .tc := ⟨.hbm, 60, rfl⟩
abbrev main_call3_v14 : Ref sig .tc := ⟨.hbm, 61, rfl⟩
abbrev main_v11 : Ref sig .tc := ⟨.hbm, 62, rfl⟩
abbrev main_v12 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_c_1 : Ref sig .tc := ⟨.hbm, 71, rfl⟩
abbrev main_call4_c_2 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_c_3 : Ref sig .tc := ⟨.hbm, 79, rfl⟩
abbrev main_call4_v11 : Ref sig .tc := ⟨.hbm, 80, rfl⟩
abbrev main_call4_v12 : Ref sig .tc := ⟨.hbm, 81, rfl⟩
abbrev main_call4_v13 : Ref sig .tc := ⟨.hbm, 82, rfl⟩
abbrev main_call4_cst : Ref sig .tc := ⟨.hbm, 83, rfl⟩
abbrev main_call4_v14 : Ref sig .tc := ⟨.hbm, 84, rfl⟩
abbrev main_v13 : Ref sig .tc := ⟨.hbm, 85, rfl⟩
abbrev main_c_1 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_cst : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_c_2 : Ref sig .tc := ⟨.hbm, 103, rfl⟩
abbrev main_v26 : Ref sig .tc := ⟨.hbm, 104, rfl⟩
abbrev main_call6_call0_c : Ref sig .tc := ⟨.hbm, 105, rfl⟩
abbrev main_call6_call0_v0 : Ref sig .tc := ⟨.hbm, 106, rfl⟩
abbrev main_v27 : Ref sig .tc := ⟨.hbm, 107, rfl⟩
abbrev main_c_3 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩

abbrev nD : Nat := 1
abbrev τ : Topo := Topo.v7x

variable {F : FTy → Type} [FloatOps F]
-- ==== Proof.Steps.lean ====
/-
  Step rules for a thread that holds rank-one buffers by what their memrefs read, the contents named by a total function
  of the coordinate: the loads and stores of sixteen lanes, the gather and the scatter.
-/
module

public import Idealize.ShloMosaic.Lib.SparseCore.Ops
public import Idealize.ShloMosaic.Lib.Memref
public import Idealize.ShloMosaic.Lib.ValueIdxRank1
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- The rank-one array whose element at coordinate `n` is `a n`. -/
def vec {n : ℕ} {α : Type} (a : ℕ → α) : (⟨1, ![n]⟩ : Shape).Idx → α := fun y => a (y 0).val

theorem vec_apply {n : ℕ} {α : Type} (a : ℕ → α) (y : (⟨1, ![n]⟩ : Shape).Idx) : vec a y = a (y 0).val := rfl

/-- Two functions that agree below the extent name the same array. -/
theorem vec_congr {n : ℕ} {α : Type} {a b : ℕ → α} (h : ∀ k < n, a k = b k) : (vec a : (⟨1, ![n]⟩ : Shape).Idx → α) = vec b :=
  funext fun y => h _ (y 0).isLt

/-- Every nonempty rank-one array is named by some function. -/
theorem exists_vec {n : ℕ} (hn : 0 < n) {α : Type} (A : (⟨1, ![n]⟩ : Shape).Idx → α) : ∃ a : ℕ → α, A = vec a :=
  ⟨fun k => A (ValueIdx.ix1 ⟨k % n, Nat.mod_lt _ hn⟩), funext fun y => by
    have h : (y 0).val % n = (y 0).val := Nat.mod_eq_of_lt (y 0).isLt
    unfold vec
    refine congrArg A ?_
    rw [ValueIdx.eq_ix1 y]
    congr 1
    exact Fin.ext h.symm⟩

/-- The contents after sixteen lanes `w` are stored from coordinate `o` on. -/
def put16 {α : Type} (a : ℕ → α) (o : ℕ) (w : (⟨1, ![16]⟩ : Shape).Idx → α) : ℕ → α :=
  fun n => if h : o ≤ n ∧ n < o + 16 then w (ValueIdx.ix1 ⟨n - o, by omega⟩) else a n

theorem put16_of_lt {α : Type} (a : ℕ → α) (o : ℕ) (w : (⟨1, ![16]⟩ : Shape).Idx → α) (l : Fin 16) :
    put16 a o w (o + l.val) = w (ValueIdx.ix1 l) := by
  unfold put16
  rw [dif_pos ⟨by omega, by omega⟩]
  congr 2
  exact Fin.ext (by simp)

theorem put16_of_not {α : Type} (a : ℕ → α) (o : ℕ) (w : (⟨1, ![16]⟩ : Shape).Idx → α) {n : ℕ} (h : n < o ∨ o + 16 ≤ n) :
    put16 a o w n = a n := by
  unfold put16
  rw [dif_neg (by omega)]

section Rules

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (thr : Thread nD τ) (bd : Option 𝒱.V) (E : Set Name)
variable {n : ℕ} {e : EltTy} {α : Type} {Q : α → sProp (MT nD τ sig Ix (Elt F) Name U Lvl)}

local notation "𝕄" => MT nD τ sig Ix (Elt F) Name U Lvl

/-- Thread `thr` holds the rank-one memref `M` outright and reads `a` through it. -/
def hv {n : ℕ} {e : EltTy} (M : Memref sig thr.2.kind .vmem ⟨1, ![n]⟩ e) (a : ℕ → Elt F e) : sProp 𝕄 :=
  owns thr M fullShare (vec a)

omit [Preorder Lvl] in
/-- A memref owned at an array is held by name at a function that names the array. -/
theorem hv_of_owns {M : Memref sig thr.2.kind .vmem ⟨1, ![n]⟩ e} (hn : 0 < n) (A : (⟨1, ![n]⟩ : Shape).Idx → Elt F e) :
    (owns thr M fullShare A : sProp 𝕄) ⊢ iprop(∃ a, ⌜A = vec a⌝ ∗ hv thr M a) := by
  obtain ⟨a, rfl⟩ := exists_vec hn A
  iintro H
  iexists a
  isplitr; · ipureintro; rfl
  unfold hv; iexact H

/-- A load of sixteen lanes from coordinate `off 0` on reads the contents there. -/
theorem wp_load16 {M : Memref sig thr.2.kind .vmem ⟨1, ![n]⟩ e} {off : Fin 1 → ℕ} {inb : ∀ a, off a + (![16] : Fin 1 → ℕ) a ≤ (⟨1, ![n]⟩ : Shape).size a}
    {hl : M.view.LoadsAt (Rect.unit (s := ⟨1, ![n]⟩) off ![16] inb).toLoadRect}
    {k : ((⟨1, ![16]⟩ : Shape).Idx → Elt F e) → Prog (TpuEff nD τ sig (Elt F) Λ thr.2) α} {a : ℕ → Elt F e} :
    (hv thr M a : sProp 𝕄)
      ⊢ iprop((hv thr M a -∗ wp frame (wpE defs 𝒱 thr bd) E (k fun x => a (off 0 + (x 0).val)) Q)
        -∗ wp frame (wpE defs 𝒱 thr bd) E (.op (.load M (Rect.unit (s := ⟨1, ![n]⟩) off ![16] inb).toLoadRect hl) k) Q) := by
  unfold hv owns
  iintro ⟨%f, %hf, H⟩ Hk
  iapply (wp_load 𝒱 thr bd E (m := M) (S := M.view.set) (View.setOn_subset_set _ _)) $$ H
  iintro H
  rw [show M.view.readAt (Elt F) (Rect.unit (s := ⟨1, ![n]⟩) off ![16] inb).toLoadRect f = fun x => a (off 0 + (x 0).val) from ?_]
  · iapply Hk
    iexists f
    isplitr; · ipureintro; exact hf
    iexact H
  · funext x
    rw [View.readAt_apply, hf, vec_apply]
    congr 1
    show off 0 + 1 * (x 0).val = _
    omega

/-- A store of sixteen lanes from coordinate `off 0` on replaces the contents there. -/
theorem wp_store16 {M : Memref sig thr.2.kind .vmem ⟨1, ![n]⟩ e} {off : Fin 1 → ℕ} {inb : ∀ a, off a + (![16] : Fin 1 → ℕ) a ≤ (⟨1, ![n]⟩ : Shape).size a}
    {w : (⟨1, ![16]⟩ : Shape).Idx → Elt F e}
    {hx : (M.access (Rect.unit (s := ⟨1, ![n]⟩) off ![16] inb)).Stores Finset.univ} {hm}
    {k : PUnit → Prog (TpuEff nD τ sig (Elt F) Λ thr.2) α} {a : ℕ → Elt F e} :
    (hv thr M a : sProp 𝕄)
      ⊢ iprop((hv thr M (put16 a (off 0) w) -∗ wp frame (wpE defs 𝒱 thr bd) E (k ⟨⟩) Q)
        -∗ wp frame (wpE defs 𝒱 thr bd) E (.op (.store M (Rect.unit (s := ⟨1, ![n]⟩) off ![16] inb) w Finset.univ hx hm) k) Q) := by
  unfold hv owns
  iintro ⟨%f, %hf, H⟩ Hk
  iapply (wp_store 𝒱 thr bd E (m := M) (r := Rect.unit (s := ⟨1, ![n]⟩) off ![16] inb) (Mk := Finset.univ) (S := M.view.set)
    (by rw [View.setOn_univ]; exact View.set_slice_subset _ _)) $$ H
  iintro H
  iapply Hk
  iexists _
  isplitr; swap; · iexact H
  ipureintro
  funext y
  by_cases h : off 0 ≤ (y 0).val ∧ (y 0).val < off 0 + 16
  · obtain ⟨x, rfl⟩ : ∃ x, (Rect.unit (s := ⟨1, ![n]⟩) off ![16] inb).emb x = y := by
      refine ⟨ValueIdx.ix1 ⟨(y 0).val - off 0, by omega⟩, ?_⟩
      funext a
      obtain rfl : a = 0 := Subsingleton.elim _ _
      refine Fin.ext ?_
      show off 0 + 1 * ((y 0).val - off 0) = _
      omega
    have hread : ∀ g : M.view.ty.Contents (Elt F), M.view.read (Elt F) g ((Rect.unit (s := ⟨1, ![n]⟩) off ![16] inb).emb x)
        = (M.view.slice (Rect.unit (s := ⟨1, ![n]⟩) off ![16] inb)).read (Elt F) g x := fun _ => rfl
    rw [hread, View.read_write_univ, vec_apply]
    have hx0 : (((Rect.unit (s := ⟨1, ![n]⟩) off ![16] inb).emb x) 0).val = off 0 + (x 0).val := by
      show off 0 + 1 * (x 0).val = _
      omega
    rw [hx0]
    exact ((put16_of_lt a (off 0) w (x 0)).trans (congrArg w (ValueIdx.eq_ix1 x).symm)).symm
  · rw [vec_apply, put16_of_not _ _ _ (by omega)]
    have hy : y ∉ (Rect.unit (s := ⟨1, ![n]⟩) off ![16] inb).set := by
      intro hy
      rw [← Rect.map_emb_univ] at hy
      obtain ⟨x, -, rfl⟩ := Finset.mem_map.mp hy
      refine h ?_
      have hx0 : (((Rect.unit (s := ⟨1, ![n]⟩) off ![16] inb).emb x) 0).val = off 0 + (x 0).val := by
        show off 0 + 1 * (x 0).val = _
        omega
      have := (x 0).isLt
      change (x 0).val < 16 at this
      erw [hx0]
      omega
    have := View.read_writes_apply_of_forall_not_mem M.view f y [⟨Rect.unit (s := ⟨1, ![n]⟩) off ![16] inb, w⟩] (by simpa using hy)
    rw [View.writes_singleton] at this
    refine this.trans ?_
    rw [hf, vec_apply]

/-- A gather of sixteen lanes reads the contents at the words of the index vector. -/
theorem wp_gather16 {t : Shape} {M : Memref sig thr.2.kind .vmem ⟨1, ![n]⟩ e} {v : IVec t 32}
    {h : ∀ a x, ((![v] : Fin 1 → IVec t 32) a x).toNat < (⟨1, ![n]⟩ : Shape).size a} {hl : M.view.Loads}
    {k : Vec F t e → Prog (TpuEff nD τ sig (Elt F) Λ thr.2) α} {a : ℕ → Elt F e} :
    (hv thr M a : sProp 𝕄)
      ⊢ iprop((hv thr M a -∗ wp frame (wpE defs 𝒱 thr bd) E (k fun x => a (v x).toNat) Q)
        -∗ wp frame (wpE defs 𝒱 thr bd) E (SparseCore.vectorLoadIdx M ![v] h hl >>= k) Q) := by
  unfold hv owns
  iintro ⟨%f, %hf, H⟩ Hk
  iapply (SparseCore.wp_vectorLoadIdx 𝒱 thr bd E (base := M) (S := M.view.set) (q := fullShare) (View.set_slice_subset _ _)) $$ H
  iintro H
  rw [show loadIdx ((M.access (.whole ⟨1, ![n]⟩)).read (Elt F) f) ![v] h = fun x => a (v x).toNat from ?_]
  · iapply Hk
    iexists f
    isplitr; · ipureintro; exact hf
    iexact H
  · funext x
    show M.view.read (Elt F) f ((Rect.whole ⟨1, ![n]⟩).emb _) = _
    rw [hf, vec_apply]
    congr 1
    show 0 + 1 * (v x).toNat = _
    omega

end Rules

/-- What a scatter of sixteen lanes does to an array: an element no enabled lane names keeps its value, and one that
    lane `x` names, where every enabled lane of the same index stores the same value, takes that value. -/
structure Scattered {n : ℕ} {α : Type} (idx : (⟨1, ![16]⟩ : Shape).Idx → BitVec 32) (v : (⟨1, ![16]⟩ : Shape).Idx → α)
    (mask : (⟨1, ![16]⟩ : Shape).Idx → BitVec 1) (A B : (⟨1, ![n]⟩ : Shape).Idx → α) : Prop where
  miss : ∀ y, (∀ x, mask x = 1 → (idx x).toNat ≠ (y 0).val) → B y = A y
  hit : ∀ x y, mask x = 1 → (idx x).toNat = (y 0).val → (∀ x', mask x' = 1 → (idx x').toNat = (y 0).val → v x' = v x) → B y = v x

theorem ofLane_zero (k : Fin 16) : ((Shape.ofLane (d := ![16]) k) 0).val = k.val := rfl

theorem exists_ofLane (x : (⟨1, ![16]⟩ : Shape).Idx) : ∃ k : Fin 16, Shape.ofLane (d := ![16]) k = x :=
  ⟨x 0, funext fun a => by obtain rfl : a = 0 := Subsingleton.elim _ _; rfl⟩

/-- One lane's write of a scatter: where the lane is enabled, the element its index names takes the lane's value. -/
def scatterStep {F : FTy → Type} {n : ℕ} {e : EltTy} (idx : IVec ⟨1, ![16]⟩ 32) (v : Vec F ⟨1, ![16]⟩ e) (mask : IVec ⟨1, ![16]⟩ 1)
    (h : ∀ a x, ((![idx] : Fin 1 → IVec ⟨1, ![16]⟩ 32) a x).toNat < (⟨1, ![n]⟩ : Shape).size a)
    (g : (⟨1, ![n]⟩ : Shape).Idx → Elt F e) (k : Fin 16) : (⟨1, ![n]⟩ : Shape).Idx → Elt F e :=
  if mask (Shape.ofLane (d := ![16]) k) = 1 then
    fun j => if (∀ a, (j a).val = (idxAt (s := ⟨1, ![n]⟩) ![idx] h (Shape.ofLane (d := ![16]) k) a).val) then v (Shape.ofLane (d := ![16]) k) else g j
  else g

/-- The scatter `storeIdx` of a rank-one array is `Scattered`. -/
theorem storeIdx_scattered {F : FTy → Type} [FloatOps F] {n : ℕ} {e : EltTy} (A : (⟨1, ![n]⟩ : Shape).Idx → Elt F e) (idx : IVec ⟨1, ![16]⟩ 32)
    (v : Vec F ⟨1, ![16]⟩ e) (mask : IVec ⟨1, ![16]⟩ 1) (h : ∀ a x, ((![idx] : Fin 1 → IVec ⟨1, ![16]⟩ 32) a x).toNat < (⟨1, ![n]⟩ : Shape).size a) :
    Scattered idx v mask A (storeIdx (s := ⟨1, ![n]⟩) (d := ![16]) A ![idx] v mask false h) := by
  -- a fold of single writes: an invariant on the lanes already taken
  have key : ∀ (L : List (Fin 16)) (G : (⟨1, ![n]⟩ : Shape).Idx → Elt F e) (y : (⟨1, ![n]⟩ : Shape).Idx),
      L.foldl (scatterStep idx v mask h) G y = G y ∧ (∀ k ∈ L, mask (Shape.ofLane (d := ![16]) k) = 1 → (idx (Shape.ofLane (d := ![16]) k)).toNat ≠ (y 0).val)
      ∨ ∃ k ∈ L, mask (Shape.ofLane (d := ![16]) k) = 1 ∧ (idx (Shape.ofLane (d := ![16]) k)).toNat = (y 0).val ∧
        L.foldl (scatterStep idx v mask h) G y = v (Shape.ofLane (d := ![16]) k) := by
    intro L
    induction L with
    | nil => intro G y; exact .inl ⟨rfl, by simp⟩
    | cons k L ih =>
      intro G y
      rw [List.foldl_cons]
      rcases ih _ y with ⟨h1, h2⟩ | ⟨k', hk', h1, h2, h3⟩
      · by_cases hm : mask (Shape.ofLane (d := ![16]) k) = 1
        · by_cases hi : (idx (Shape.ofLane (d := ![16]) k)).toNat = (y 0).val
          · refine .inr ⟨k, List.mem_cons_self, hm, hi, h1.trans ?_⟩
            unfold scatterStep
            rw [if_pos hm, if_pos]
            · intro a
              obtain rfl : a = 0 := Subsingleton.elim _ _
              exact hi.symm
          · refine .inl ⟨h1.trans ?_, ?_⟩
            · unfold scatterStep
              rw [if_pos hm, if_neg]
              intro hc
              exact hi (hc 0).symm
            · intro k' hk'
              rcases List.mem_cons.mp hk' with rfl | hk'
              · exact fun _ => hi
              · exact h2 k' hk'
        · refine .inl ⟨h1.trans ?_, ?_⟩
          · unfold scatterStep
            rw [if_neg hm]
          · intro k' hk'
            rcases List.mem_cons.mp hk' with rfl | hk'
            · exact fun hm' => absurd hm' hm
            · exact h2 k' hk'
      · exact .inr ⟨k', List.mem_cons_of_mem _ hk', h1, h2, h3⟩
  have hfold : storeIdx (s := ⟨1, ![n]⟩) (d := ![16]) A ![idx] v mask false h = (List.finRange 16).foldl (scatterStep idx v mask h) A := by
    unfold storeIdx scatterStep
    simp only [Bool.false_eq_true, if_false]
    rfl
  rw [hfold]
  constructor
  · intro y hy
    rcases key (List.finRange 16) A y with ⟨h1, -⟩ | ⟨k, -, h1, h2, -⟩
    · exact h1
    · exact absurd h2 (hy _ h1)
  · intro x y hm hi hv
    obtain ⟨k, rfl⟩ := exists_ofLane x
    rcases key (List.finRange 16) A y with ⟨-, h2⟩ | ⟨k', -, h1, h2, h3⟩
    · exact absurd hi (h2 k (List.mem_finRange k) hm)
    · exact h3.trans (hv _ h1 h2)

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (thr : Thread nD τ) (bd : Option 𝒱.V) (E : Set Name)
variable {n : ℕ} {e : EltTy} {α : Type} {Q : α → sProp (MT nD τ sig Ix (Elt F) Name U Lvl)}

local notation "𝕄" => MT nD τ sig Ix (Elt F) Name U Lvl

/-- A scatter of sixteen lanes: an element that no enabled lane names keeps its value; one that lane `x` names, where
    every enabled lane of that index stores the same value, takes that value. -/
theorem wp_scatter16 (hn : 0 < n) {M : Memref sig thr.2.kind .vmem ⟨1, ![n]⟩ e} {idx : IVec ⟨1, ![16]⟩ 32}
    {v : Vec F ⟨1, ![16]⟩ e} {mask : IVec ⟨1, ![16]⟩ 1}
    {h : ∀ a x, ((![idx] : Fin 1 → IVec ⟨1, ![16]⟩ 32) a x).toNat < (⟨1, ![n]⟩ : Shape).size a}
    {hs : (M.access (.whole ⟨1, ![n]⟩)).Stores Finset.univ}
    {k : PUnit → Prog (TpuEff nD τ sig (Elt F) Λ thr.2) α} {a : ℕ → Elt F e} :
    (hv thr M a : sProp 𝕄)
      ⊢ iprop((∀ b : ℕ → Elt F e,
            ⌜(∀ m < n, (∀ x, mask x = 1 → (idx x).toNat ≠ m) → b m = a m)
              ∧ ∀ x, mask x = 1 → (∀ x', mask x' = 1 → (idx x').toNat = (idx x).toNat → v x' = v x) → b (idx x).toNat = v x⌝
            -∗ hv thr M b -∗ wp frame (wpE defs 𝒱 thr bd) E (k ⟨⟩) Q)
        -∗ wp frame (wpE defs 𝒱 thr bd) E (SparseCore.vectorStoreIdx M ![idx] v mask false h hs >>= k) Q) := by
  unfold hv owns
  iintro ⟨%f, %hf, H⟩ Hk
  have hset : (M.access (.whole ⟨1, ![n]⟩)).set = M.view.set := by
    rw [View.set_slice, Rect.set_whole]; rfl
  have hread : ∀ g, (M.access (.whole ⟨1, ![n]⟩)).read (Elt F) g = M.view.read (Elt F) g := by
    intro g
    funext y
    show M.view.read (Elt F) g ((Rect.whole ⟨1, ![n]⟩).emb y) = _
    congr 1
    funext a
    exact Fin.ext (show 0 + 1 * (y a).val = _ by omega)
  rw [← hset]
  iapply (SparseCore.wp_vectorStoreIdx 𝒱 thr bd E (base := M)) $$ H
  iintro H
  have hsc := storeIdx_scattered (F := F) ((M.access (.whole ⟨1, ![n]⟩)).read (Elt F) f) idx v mask h
  obtain ⟨b, hb⟩ := exists_vec hn (storeIdx (s := ⟨1, ![n]⟩) (d := ![16]) ((M.access (.whole ⟨1, ![n]⟩)).read (Elt F) f) ![idx] v mask false h)
  ispecialize Hk $$ %b
  iapply Hk
  · ipureintro
    rw [hb, hread, hf] at hsc
    refine ⟨fun m hm hmiss => ?_, fun x hmx hx => ?_⟩
    · exact hsc.miss (ValueIdx.ix1 ⟨m, hm⟩) hmiss
    · exact hsc.hit x (ValueIdx.ix1 ⟨(idx x).toNat, h 0 x⟩) hmx rfl hx
  · iexists _
    isplitr; swap; · iexact H
    ipureintro
    rw [← hread, View.read_write_univ, hb]

end Rules

end Cert.Proof

end
-- ==== Proof.Ranks.lean ====
/-
  The rank of an element of a sequence of keys under the stable order, as a counting sort computes it: the number of
  smaller keys, plus the number of equal keys before it.
-/
module

public import Mathlib.Data.Nat.Count
public import Mathlib.Algebra.BigOperators.Group.Finset.Basic
public import Mathlib.Data.Fintype.EquivFin
public import Mathlib.Order.Fin.Basic
public import Mathlib.Algebra.BigOperators.Fin
public import Mathlib.Algebra.BigOperators.Intervals

@[expose] public section

namespace Cert.Proof

/-- How many of the first `n` keys equal `c`. -/
def before (t : ℕ → ℕ) (c n : ℕ) : ℕ := Nat.count (fun m => t m = c) n

/-- How many of the sixteen keys from `16 j` on equal `c`. -/
def inVec (t : ℕ → ℕ) (j c : ℕ) : ℕ := Nat.count (fun l => t (16 * j + l) = c) 16

/-- How many of the 4096 keys are smaller than `c`. -/
def below (t : ℕ → ℕ) (c : ℕ) : ℕ := Nat.count (fun m => t m < c) 4096

/-- The rank of key `m` among the 4096 keys under the stable order. -/
def rank (t : ℕ → ℕ) (m : ℕ) : ℕ := below t (t m) + before t (t m) m

theorem before_zero (t : ℕ → ℕ) (c : ℕ) : before t c 0 = 0 := rfl

/-- The keys up to a lane of a vector are those of the earlier vectors and those of the earlier lanes. -/
theorem before_lane (t : ℕ → ℕ) (c j l : ℕ) :
    before t c (16 * j + l) = before t c (16 * j) + Nat.count (fun l' => t (16 * j + l') = c) l := by
  unfold before
  rw [Nat.count_add]

theorem before_vec (t : ℕ → ℕ) (c j : ℕ) : before t c (16 * (j + 1)) = before t c (16 * j) + inVec t j c := by
  rw [show 16 * (j + 1) = 16 * j + 16 by omega, before_lane]; rfl

theorem before_le (t : ℕ → ℕ) (c n : ℕ) : before t c n ≤ n := Nat.count_le _

theorem before_mono (t : ℕ → ℕ) (c : ℕ) {n n' : ℕ} (h : n ≤ n') : before t c n ≤ before t c n' := Nat.count_monotone _ h

theorem below_le (t : ℕ → ℕ) (c : ℕ) : below t c ≤ 4096 := Nat.count_le _

theorem before_congr {t t' : ℕ → ℕ} {n : ℕ} (h : ∀ m < n, t m = t' m) (c : ℕ) : before t c n = before t' c n := by
  unfold before
  induction n with
  | zero => rfl
  | succ n ih =>
    rw [Nat.count_succ, Nat.count_succ, ih fun m hm => h m (by omega)]
    simp only [h n (Nat.lt_succ_self n)]

/-- Adding the keys equal to `c` to those below `c` gives the keys below `c + 1`. -/
theorem below_succ (t : ℕ → ℕ) (c : ℕ) : below t (c + 1) = below t c + before t c 4096 := by
  unfold below before
  generalize 4096 = n
  induction n with
  | zero => rfl
  | succ n ih =>
    simp only [Nat.count_succ, ih]
    rcases lt_trichotomy (t n) c with h | h | h
    · rw [if_pos (by omega), if_pos h, if_neg (by omega)]; omega
    · rw [if_pos (by omega), if_neg (by omega), if_pos h]; omega
    · rw [if_neg (by omega), if_neg (by omega), if_neg (by omega)]; omega

theorem below_zero (t : ℕ → ℕ) : below t 0 = 0 := by
  unfold below
  rw [Nat.count_eq_card_filter_range]
  simp

/-- The keys below `c` are counted key by key. -/
theorem below_eq_sum (t : ℕ → ℕ) (c : ℕ) : below t c = ∑ c' ∈ Finset.range c, before t c' 4096 := by
  induction c with
  | zero => rw [below_zero]; simp
  | succ c ih => rw [below_succ, Finset.sum_range_succ, ih]

theorem below_mono (t : ℕ → ℕ) {c c' : ℕ} (h : c ≤ c') : below t c ≤ below t c' := by
  induction h with
  | refl => exact le_rfl
  | step _ ih => exact ih.trans (by rw [below_succ]; omega)

/-- A key that comes earlier in the stable order has the smaller rank. -/
theorem rank_lt {t : ℕ → ℕ} {m m' : ℕ} (hm : m < 4096) (h : t m < t m' ∨ t m = t m' ∧ m < m') : rank t m < rank t m' := by
  have hs : before t (t m) m < before t (t m) (m + 1) := by
    unfold before; rw [Nat.count_succ]; simp
  unfold rank
  rcases h with h | ⟨h, h'⟩
  · have h1 : before t (t m) (m + 1) ≤ before t (t m) 4096 := before_mono _ _ hm
    have h2 := below_mono t (show t m + 1 ≤ t m' from h)
    rw [below_succ] at h2
    omega
  · have h1 : before t (t m) (m + 1) ≤ before t (t m) m' := before_mono _ _ h'
    rw [← h]
    omega

theorem rank_lt_size {t : ℕ → ℕ} {m : ℕ} (hm : m < 4096) : rank t m < 4096 := by
  have hs : before t (t m) m < before t (t m) (m + 1) := by
    unfold before; rw [Nat.count_succ]; simp
  have h1 : before t (t m) (m + 1) ≤ before t (t m) 4096 := before_mono _ _ hm
  have h2 := below_succ t (t m)
  have h3 := below_le t (t m + 1)
  unfold rank
  omega

theorem rank_inj {t : ℕ → ℕ} {m m' : ℕ} (hm : m < 4096) (hm' : m' < 4096) (h : rank t m = rank t m') : m = m' := by
  by_contra hne
  rcases lt_trichotomy (t m) (t m') with h1 | h1 | h1
  · exact absurd h (rank_lt hm (.inl h1)).ne
  · rcases Nat.lt_or_gt_of_ne hne with h2 | h2
    · exact absurd h (rank_lt hm (.inr ⟨h1, h2⟩)).ne
    · exact absurd h (rank_lt hm' (.inr ⟨h1.symm, h2⟩)).ne'
  · exact absurd h (rank_lt hm' (.inl h1)).ne'

/-- Every position is the rank of exactly one key. -/
theorem rank_surj (t : ℕ → ℕ) {p : ℕ} (hp : p < 4096) : ∃ m < 4096, rank t m = p := by
  let f : Fin 4096 → Fin 4096 := fun m => ⟨rank t m.val, rank_lt_size m.isLt⟩
  have hf : Function.Injective f := fun a b h => Fin.ext (rank_inj a.isLt b.isLt (Fin.mk.inj h))
  obtain ⟨m, hm⟩ := (Finite.injective_iff_surjective.mp hf) ⟨p, hp⟩
  exact ⟨m.val, m.isLt, Fin.mk.inj hm⟩

theorem rank_congr {t t' : ℕ → ℕ} (h : ∀ m < 4096, t m = t' m) {m : ℕ} (hm : m < 4096) : rank t m = rank t' m := by
  unfold rank
  rw [below_eq_sum, below_eq_sum, h m hm, before_congr fun k hk => h k (hk.trans hm)]
  congr 1
  exact Finset.sum_congr rfl fun c _ => before_congr h c

/-- An arrangement of the 4096 keys in the stable order puts at position `p` the key of rank `p`. -/
theorem rank_of_sorted {t : ℕ → ℕ} (σ : Fin 4096 → Fin 4096)
    (h : ∀ p q : Fin 4096, p < q → t (σ p) < t (σ q) ∨ t (σ p) = t (σ q) ∧ (σ p).val < (σ q).val) (p : Fin 4096) :
    rank t (σ p).val = p.val := by
  let f : Fin 4096 → Fin 4096 := fun p => ⟨rank t (σ p).val, rank_lt_size (σ p).isLt⟩
  have hf : StrictMono f := fun a b hab => Fin.mk_lt_mk.mpr (rank_lt (σ a).isLt (h a b hab))
  have hsurj := Finite.injective_iff_surjective.mp hf.injective
  have hid : ∀ n : ℕ, ∀ hn : n < 4096, f ⟨n, hn⟩ = ⟨n, hn⟩ := by
    intro n
    induction n using Nat.strong_induction_on with
    | _ n ih =>
      intro hn
      obtain ⟨b, hb⟩ := hsurj ⟨n, hn⟩
      rcases lt_trichotomy b ⟨n, hn⟩ with hb' | hb' | hb'
      · have h1 := ih b.val hb' b.isLt
        rw [Fin.eta, hb] at h1
        exact absurd h1 hb'.ne'
      · rw [← hb', hb]; exact hb'.symm
      · have h1 : b ≤ f b := hf.le_apply
        rw [hb] at h1
        exact absurd hb' (not_lt.mpr h1)
  exact congrArg Fin.val (hid p.val p.isLt)

end Cert.Proof

end
-- ==== Proof.Lanes.lean ====
/-
  What the vector operations of the counting sort compute on sixteen lanes, in numbers: the type of an atom cut out of
  its packed word, the running count of equal lanes, the counts scattered by type, and the running sum.
-/
module

public import Idealize.ShloMosaic.Lib.SparseCore.Ops
public import Mathlib.Tactic.NormNum
public import Mathlib.Tactic.IntervalCases
public import proofs.«01_k».proof.Proof.Ranks

@[expose] public section

namespace Cert.Proof

open Idealize.ShloMosaic

/-- The sixteen lanes. -/
abbrev Lane : Shape := ⟨1, ![16]⟩

theorem lane_lt (x : Lane.Idx) : (x 0).val < 16 := (x 0).isLt

/-- The lane of a number below sixteen. -/
def laneOf (l : ℕ) (hl : l < 16) : Lane.Idx := Shape.ofLane (d := ![16]) ⟨l, hl⟩

theorem laneOf_val (l : ℕ) (hl : l < 16) : ((laneOf l hl) 0).val = l := rfl

theorem lane_eq {x y : Lane.Idx} (h : (x 0).val = (y 0).val) : x = y := by
  funext a
  obtain rfl : a = 0 := Subsingleton.elim _ _
  exact Fin.ext h

/-- Byte `q` of a word. -/
def byte (w : BitVec 32) (q : ℕ) : ℕ := w.toNat / 256 ^ q % 256

/-- An arithmetic shift by whole bytes, cut to eight bits, is a byte of the word. -/
theorem shrsi_byte (w : BitVec 32) {q : ℕ} (hq : q < 4) :
    IntOp.andi (IntOp.shrsi .vector w (BitVec.ofNat 32 (8 * q))) 255#32 = BitVec.ofNat 32 (byte w q) := by
  apply BitVec.eq_of_toNat_eq
  have hw := w.isLt
  have key : ∀ n : ℕ, n < 2 ^ 32 → n &&& 255 = n % 256 := fun n _ => Nat.and_two_pow_sub_one_eq_mod n 8
  unfold IntOp.andi IntOp.shrsi byte
  rw [if_pos (by rw [BitVec.toNat_ofNat]; omega), BitVec.sshiftRight_eq', BitVec.toNat_and, BitVec.toNat_ofNat, BitVec.toNat_ofNat,
    Nat.mod_eq_of_lt (show 8 * q < 2 ^ 32 by omega), show 255 % 2 ^ 32 = 255 from rfl, BitVec.toNat_ofNat, key _ (BitVec.isLt _),
    Nat.mod_eq_of_lt (show w.toNat / 256 ^ q % 256 < 2 ^ 32 by omega)]
  have e : 256 ^ q = 2 ^ (8 * q) := by rw [Nat.pow_mul]
  rw [e]
  rcases hb : w.msb with _ | _
  · rw [BitVec.toNat_sshiftRight_of_msb_false hb, Nat.shiftRight_eq_div_pow]
  · rw [BitVec.toNat_sshiftRight_of_msb_true hb, Nat.shiftRight_eq_div_pow]
    have h4 : q = 0 ∨ q = 1 ∨ q = 2 ∨ q = 3 := by omega
    rcases h4 with rfl | rfl | rfl | rfl <;> norm_num <;> omega

/-- The type of atom `m`, out of the row's packed words `w` and its number of atoms `na`: the byte that packs it, and the
    eleventh type from the number of atoms on. -/
def typ (w : ℕ → BitVec 32) (na : BitVec 32) (m : ℕ) : ℕ :=
  if (BitVec.ofNat 32 m).slt na then byte (w (m % 1024)) (m / 1024) else 11

/-- Every packed byte of the row is below eleven. -/
def Packed (w : ℕ → BitVec 32) : Prop := ∀ k < 1024, ∀ q < 4, byte (w k) q < 11

theorem typ_lt {w : ℕ → BitVec 32} (hw : Packed w) (na : BitVec 32) {m : ℕ} (hm : m < 4096) : typ w na m < 12 := by
  unfold typ
  split
  · exact (hw _ (Nat.mod_lt _ (by norm_num)) _ (by omega)).trans (by norm_num)
  · norm_num

/-- One lane of the types of a vector of atoms, as it is computed. -/
theorem typ_lane (w : ℕ → BitVec 32) (na b s : BitVec 32) {q k l : ℕ} (hq : q < 4) (hk : k < 64) (hl : l < 16)
    (hb : b = BitVec.ofNat 32 (16 * (64 * q + k))) (hs : s = BitVec.ofNat 32 (8 * q)) :
    Scalar.select (IntOp.cmpi .slt (IntOp.addi b (BitVec.ofNat 32 l)) na)
        (IntOp.andi (IntOp.shrsi .vector (w (16 * k + l)) s) 255#32) 11#32
      = BitVec.ofNat 32 (typ w na (16 * (64 * q + k) + l)) := by
  subst hb hs
  rw [shrsi_byte _ hq]
  unfold IntOp.addi
  rw [← BitVec.ofNat_add]
  unfold Scalar.select IntOp.cmpi typ
  rw [show (16 * (64 * q + k) + l) % 1024 = 16 * k + l by omega, show (16 * (64 * q + k) + l) / 1024 = q by omega]
  cases h : (BitVec.ofNat 32 (16 * (64 * q + k) + l)).slt na <;> simp

section Count

variable {v : IVec Lane 32} {mask : IVec Lane 1} {tv : ℕ → ℕ}

theorem count_lanes (tv : ℕ → ℕ) (x : Lane.Idx) :
    (Finset.univ.filter fun y : Lane.Idx => (y 0).val ≤ (x 0).val ∧ tv (y 0).val = tv (x 0).val).card
      = Nat.count (fun l => tv l = tv (x 0).val) (x 0).val + 1 := by
  have h1 : Nat.count (fun l => tv l = tv (x 0).val) (x 0).val + 1 = Nat.count (fun l => tv l = tv (x 0).val) ((x 0).val + 1) := by
    rw [Nat.count_succ, if_pos rfl]
  rw [h1, Nat.count_eq_card_filter_range]
  have hx := lane_lt x
  refine Finset.card_bij (fun y _ => (y 0).val) ?_ ?_ ?_
  · intro y hy
    rw [Finset.mem_filter] at hy
    rw [Finset.mem_filter, Finset.mem_range]
    exact ⟨by omega, hy.2.2⟩
  · intro y _ y' _ h
    exact lane_eq h
  · intro l hl
    rw [Finset.mem_filter, Finset.mem_range] at hl
    refine ⟨laneOf l (by omega), ?_, rfl⟩
    rw [Finset.mem_filter, laneOf_val]
    exact ⟨Finset.mem_univ _, by omega, hl.2⟩

theorem ofNat_inj_small {a b : ℕ} (ha : a < 12) (hb : b < 12) : BitVec.ofNat 32 a = BitVec.ofNat 32 b ↔ a = b := by
  constructor
  · intro h
    have := congrArg BitVec.toNat h
    rw [BitVec.toNat_ofNat, BitVec.toNat_ofNat] at this
    omega
  · rintro rfl; rfl

/-- The running count of equal lanes. -/
theorem scanCount_snd (hm : ∀ x, mask x = 1) (hv : ∀ x, v x = BitVec.ofNat 32 (tv (x 0).val)) (ht : ∀ l < 16, tv l < 12) (x : Lane.Idx) :
    (scanCount mask v).2 x = BitVec.ofNat 32 (Nat.count (fun l => tv l = tv (x 0).val) (x 0).val + 1) := by
  show (if mask x = 1 then BitVec.ofNat 32 (Finset.univ.filter fun j => (Lane.rowMajor j).val ≤ (Lane.rowMajor x).val ∧ mask j = 1 ∧ v j = v x).card else 1) = _
  rw [if_pos (hm x), ← count_lanes tv x]
  congr 2
  refine Finset.filter_congr fun y _ => ?_
  rw [Shape.rowMajor_val_one, Shape.rowMajor_val_one, hv, hv, ofNat_inj_small (ht _ (lane_lt y)) (ht _ (lane_lt x))]
  simp [hm]

/-- The mark of the last lane of each value. -/
theorem scanCount_fst (hm : ∀ x, mask x = 1) (hv : ∀ x, v x = BitVec.ofNat 32 (tv (x 0).val)) (ht : ∀ l < 16, tv l < 12) (x : Lane.Idx) :
    (scanCount mask v).1 x = 1 ↔ ∀ l, (x 0).val < l → l < 16 → tv l ≠ tv (x 0).val := by
  show (if mask x = 1 ∧ ∀ j, (Lane.rowMajor x).val < (Lane.rowMajor j).val → ¬(mask j = 1 ∧ v j = v x) then (1 : BitVec 1) else 0) = 1 ↔ _
  rw [ite_eq_left_iff]
  have h01 : ¬ ((0 : BitVec 1) = 1) := by decide
  simp only [h01, imp_false, not_not]
  constructor
  · rintro ⟨-, h⟩ l hl hl' he
    refine h (laneOf l hl') (by rw [Shape.rowMajor_val_one, Shape.rowMajor_val_one, laneOf_val]; exact hl) ⟨hm _, ?_⟩
    rw [hv, hv, laneOf_val, he]
  · intro h
    refine ⟨hm x, fun y hy => ?_⟩
    rw [Shape.rowMajor_val_one, Shape.rowMajor_val_one] at hy
    rintro ⟨-, he⟩
    rw [hv, hv, ofNat_inj_small (ht _ (lane_lt y)) (ht _ (lane_lt x))] at he
    exact h _ hy (lane_lt y) he

/-- One lane of the encoded vector: sixteen times the type, plus the number of earlier equal lanes. -/
theorem enc_lane (hm : ∀ x, mask x = 1) (hv : ∀ x, v x = BitVec.ofNat 32 (tv (x 0).val)) (ht : ∀ l < 16, tv l < 12) (x : Lane.Idx) :
    IntOp.addi (IntOp.muli (v x) 16#32) (IntOp.subi ((scanCount mask v).2 x) 1#32)
      = BitVec.ofNat 32 (16 * tv (x 0).val + Nat.count (fun l => tv l = tv (x 0).val) (x 0).val) := by
  rw [scanCount_snd hm hv ht, hv]
  unfold IntOp.addi IntOp.muli IntOp.subi
  have h1 := ht _ (lane_lt x)
  have h2 : Nat.count (fun l => tv l = tv (x 0).val) (x 0).val ≤ (x 0).val := Nat.count_le _
  have h3 := lane_lt x
  apply BitVec.eq_of_toNat_eq
  simp only [BitVec.toNat_add, BitVec.toNat_mul, BitVec.toNat_sub, BitVec.toNat_ofNat]
  omega

/-- The counts of one vector of types, scattered by type into sixteen zeroed words, are the number of lanes of each type. -/
theorem hist_vec (hm : ∀ x, mask x = 1) (hv : ∀ x, v x = BitVec.ofNat 32 (tv (x 0).val)) (ht : ∀ l < 16, tv l < 12)
    {h b : ℕ → BitVec 32} {idx : IVec Lane 32} {j : ℕ} (hj : j < 256) (hidx : ∀ x, (idx x).toNat = 16 * j + tv (x 0).val)
    (h0 : ∀ c < 16, h (16 * j + c) = 0#32)
    (hs : (∀ m < 4096, (∀ x, (scanCount mask v).1 x = 1 → (idx x).toNat ≠ m) → b m = h m) ∧
      ∀ x, (scanCount mask v).1 x = 1 →
        (∀ x', (scanCount mask v).1 x' = 1 → (idx x').toNat = (idx x).toNat → (scanCount mask v).2 x' = (scanCount mask v).2 x) →
        b (idx x).toNat = (scanCount mask v).2 x) :
    (∀ n < 4096, (n < 16 * j ∨ 16 * j + 16 ≤ n) → b n = h n) ∧
      ∀ c < 16, b (16 * j + c) = BitVec.ofNat 32 (Nat.count (fun l => tv l = c) 16) := by
  constructor
  · intro n hn hout
    refine hs.1 n hn fun x _ he => ?_
    rw [hidx] at he
    have := ht _ (lane_lt x)
    omega
  · intro c hc
    by_cases hex : ∃ l < 16, tv l = c
    · -- the last lane of the value carries its whole count
      obtain ⟨l, hl, hlc, hlast⟩ : ∃ l < 16, tv l = c ∧ ∀ l', l < l' → l' < 16 → tv l' ≠ c := by
        classical
        let S := (Finset.range 16).filter fun l => tv l = c
        have hS : S.Nonempty := by
          obtain ⟨l, hl, hlc⟩ := hex
          exact ⟨l, Finset.mem_filter.mpr ⟨Finset.mem_range.mpr hl, hlc⟩⟩
        have hmax := Finset.max'_mem S hS
        rw [Finset.mem_filter, Finset.mem_range] at hmax
        refine ⟨S.max' hS, hmax.1, hmax.2, fun l' h1 h2 h3 => ?_⟩
        exact absurd (Finset.le_max' S l' (Finset.mem_filter.mpr ⟨Finset.mem_range.mpr h2, h3⟩)) (not_le.mpr h1)
      subst hlc
      have hmark : (scanCount mask v).1 (laneOf l hl) = 1 := (scanCount_fst hm hv ht _).mpr hlast
      have hcnt : Nat.count (fun l' => tv l' = tv l) l + 1 = Nat.count (fun l' => tv l' = tv l) 16 := by
        have hgen : ∀ n, l + 1 + n ≤ 16 → Nat.count (fun l' => tv l' = tv l) (l + 1 + n) = Nat.count (fun l' => tv l' = tv l) l + 1 := by
          intro n
          induction n with
          | zero => intro _; rw [Nat.add_zero, Nat.count_succ, if_pos rfl]
          | succ n ih =>
            intro hn
            rw [← Nat.add_assoc, Nat.count_succ, ih (by omega), if_neg (hlast _ (by omega) (by omega))]
        rw [show 16 = l + 1 + (15 - l) by omega, hgen _ (by omega)]
      have := hs.2 (laneOf l hl) hmark fun x' hx' he => ?_
      · rw [hidx, scanCount_snd hm hv ht, laneOf_val, hcnt] at this
        exact this
      · rw [hidx, hidx, laneOf_val] at he
        have hx'' := (scanCount_fst hm hv ht _).mp hx'
        have hxl : (x' 0).val = l := by
          rcases lt_trichotomy (x' 0).val l with h | h | h
          · exact absurd (by omega) (hx'' l h hl)
          · exact h
          · exact absurd (by omega) (hlast _ h (lane_lt x'))
        rw [show x' = laneOf l hl from lane_eq hxl]
    · rw [hs.1 (16 * j + c) (by omega) fun x _ he => hex ⟨_, lane_lt x, by rw [hidx] at he; omega⟩, h0 c hc]
      rw [show Nat.count (fun l => tv l = c) 16 = 0 from ?_]
      rw [Nat.count_eq_card_filter_range, Finset.card_eq_zero, Finset.filter_eq_empty_iff]
      intro l hl he
      exact hex ⟨l, Finset.mem_range.mp hl, he⟩

end Count

/-- The running sum of sixteen words less each word itself is the sum of the words before it. -/
theorem scan_sub_lane {v : IVec Lane 32} {a : ℕ → ℕ} (hv : ∀ x, v x = BitVec.ofNat 32 (a (x 0).val)) (x : Lane.Idx) :
    IntOp.subi (scan .sum v x) (v x) = BitVec.ofNat 32 (∑ c ∈ Finset.range (x 0).val, a c) := by
  have hL : ∀ l : Fin 16, v (Shape.ofLane (d := ![16]) l) = BitVec.ofNat 32 (a l.val) := fun l => hv _
  have hfold : ∀ (L : List (Fin 16)) (n : ℕ), L.foldl (fun (r : BitVec 32) (k : Fin 16) => r + v (Shape.ofLane (d := ![16]) k)) (BitVec.ofNat 32 n)
      = BitVec.ofNat 32 (n + (L.map fun k => a k.val).sum) := by
    intro L
    induction L with
    | nil => intro n; simp
    | cons k L ih =>
      intro n
      rw [List.foldl_cons, hL]
      rw [← BitVec.ofNat_add, ih, List.map_cons, List.sum_cons, Nat.add_assoc]
  have hscan : scan .sum v x = BitVec.ofNat 32 (a 0 + (((List.finRange 16).filter fun k => decide (0 < k.val ∧ k.val ≤ (x 0).val)).map fun k => a k.val).sum) := by
    rw [← hfold, ← show v (Shape.ofLane (d := ![16]) ⟨0, by norm_num⟩) = BitVec.ofNat 32 (a 0) from hL _]
    rfl
  have hsum : a 0 + (((List.finRange 16).filter fun k => decide (0 < k.val ∧ k.val ≤ (x 0).val)).map fun k => a k.val).sum
      = (∑ c ∈ Finset.range (x 0).val, a c) + a (x 0).val := by
    rw [← Finset.sum_range_succ]
    have hx := lane_lt x
    generalize (x 0).val = n at hx ⊢
    interval_cases n <;> simp [List.finRange, Finset.sum_range_succ, List.ofFn_succ, List.filter_cons] <;> omega
  rw [hscan, hsum, hv, BitVec.ofNat_add]
  unfold IntOp.subi
  rw [BitVec.add_sub_cancel]

end Cert.Proof

end
-- ==== Proof.Tile.lean ====
/-
  The memrefs and semaphores one tile of the SparseCore kernel works on, bundled, and the loops of the kernel over them.
-/
module

public import proofs.«01_k».proof.Proof.Gen.KernelIdeal.Skeleton
public import proofs.«01_k».proof.Proof.Steps
public import proofs.«01_k».proof.Proof.Lanes

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-- A tile's pair of coordinates, its memrefs and its semaphores. -/
structure Tile where
  i : grid1.Coords
  arg2 : Memref sig .scVector .hbm S1024x12288 .f32
  harg2 : arg2.IsWhole
  arg3 : Memref sig .scVector .hbm S1024x1024 .i32
  harg3 : arg3.IsWhole
  arg4 : Memref sig .scVector .hbm S1024 .i32
  harg4 : arg4.IsWhole
  arg5 : Memref sig .scVector .hbm S1024x12288 .f32
  harg5 : arg5.IsWhole
  arg6 : Memref sig .scVector .hbm S11264 .i32
  harg6 : arg6.IsWhole
  arg7 : Memref sig .scVector .hbm S11264 .i32
  harg7 : arg7.IsWhole
  arg8 : Memref sig .scVector .vmem S1024 .i32
  harg8 : arg8.IsWhole
  arg9 : Memref sig .scVector .vmem S1024 .i32
  harg9 : arg9.IsWhole
  arg10 : Memref sig .scVector .vmem S12288 .f32
  harg10 : arg10.IsWhole
  arg11 : Memref sig .scVector .vmem S12288 .f32
  harg11 : arg11.IsWhole
  arg12 : Memref sig .scVector .vmem S12288 .f32
  harg12 : arg12.IsWhole
  arg13 : Memref sig .scVector .vmem S12288 .f32
  harg13 : arg13.IsWhole
  arg14 : Memref sig .scVector .vmem S4096 .i32
  harg14 : arg14.IsWhole
  arg15 : Memref sig .scVector .vmem S4096 .i32
  harg15 : arg15.IsWhole
  arg16 : Memref sig .scVector .vmem S16 .i32
  harg16 : arg16.IsWhole
  arg17 : Memref sig .scVector .vmem S32 .i32
  harg17 : arg17.IsWhole
  arg18 : Memref sig .scVector .vmem S352 .i32
  harg18 : arg18.IsWhole
  arg19 : Memref sig .scVector .vmem S352 .i32
  harg19 : arg19.IsWhole
  arg20 : DmaSems sig S_
  arg21 : DmaSems sig S_
  arg22 : DmaSems sig S_
  arg23 : DmaSems sig S_
  arg24 : DmaSems sig S_
  arg25 : DmaSems sig S_
  v30_r0 : DmaSems sig S_
  v30_r1 : DmaSems sig S_
  v30_r2 : DmaSems sig S_

/-- The program of a tile: the effects of one vector subcore. -/
abbrev TProg (F : FTy → Type) (i : grid1.Coords) (α : Type) : Type 1 :=
  Prog (TpuEff nD τ sig (Elt F) Λ₀ (.scVector ((i 0).castLE hcore1) ((i 1).castLE hsub1))) α

/-- The thread of a tile on device `d`. -/
abbrev Tile.thr (A : Tile) (d : Dev nD) : Thread nD τ := SparseCore.V d ((A.i 0).castLE hcore1) ((A.i 1).castLE hsub1)

/-- The same tile with its two sets of input and output buffers exchanged. -/
def Tile.swap (A : Tile) : Tile :=
  { A with arg8 := A.arg9, harg8 := A.harg9, arg9 := A.arg8, harg9 := A.harg8, arg10 := A.arg11, harg10 := A.harg11,
           arg11 := A.arg10, harg11 := A.harg10, arg12 := A.arg13, harg12 := A.harg13, arg13 := A.arg12, harg13 := A.harg12 }

section Programs

variable {F : FTy → Type} [FloatOps F]

/-- The loop that zeroes the histogram, one trip. -/
def Tile.zero (A : Tile) (v2 : BitVec 32) (v3 : IVec S16 32) (c0 c1 : BitVec 32) (t : Fin k1_t1_loop.trips) (k : Fin k1_t2_loop.trips) : TProg F A.i Unit :=
  k1_t2_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 c0 c1 t k ()

/-- The loop that counts the types of each vector, one trip. -/
def Tile.countA (A : Tile) (v2 : BitVec 32) (v3 : IVec S16 32) (c0 c1 : BitVec 32) (t : Fin k1_t1_loop.trips) (v48 : Vec F S16 .i32) (k : Fin k1_t3_loop.trips) : TProg F A.i Unit :=
  k1_t3_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 c0 c1 t v48 k ()

/-- The loop that turns the counts of each vector into the counts before it, one trip. -/
def Tile.sums (A : Tile) (v2 : BitVec 32) (v3 : IVec S16 32) (c0 c1 : BitVec 32) (t : Fin k1_t1_loop.trips) (k : Fin k1_t4_loop.trips) (x : IVec S16 32) : TProg F A.i (IVec S16 32) :=
  k1_t4_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 c0 c1 t k x

/-- The loop that places the coordinates of each vector of atoms, one trip. -/
def Tile.place (A : Tile) (v2 : BitVec 32) (v3 : IVec S16 32) (v4 : FVec F S16 .f32) (t : Fin k1_t1_loop.trips) (arg26 v31 : BitVec 32) (v53 v56 : IVec S16 32) (k : Fin k1_t5_loop.trips) : TProg F A.i Unit :=
  k1_t5_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 v4 t arg26 v31 v53 v56 k ()

/-! The odd rows run the same four loops on the exchanged buffers. -/

theorem Tile.zero_swap (A : Tile) (v2 v75 c0 c1 : BitVec 32) (v3 : IVec S16 32) (v4 : FVec F S16 .f32) (t : Fin k1_t1_loop.trips) (k : Fin k1_t6_loop.trips) :
    k1_t6_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 v4 t v75 k () = A.swap.zero v2 v3 c0 c1 t k := rfl

theorem Tile.countA_swap (A : Tile) (v2 v75 c0 c1 : BitVec 32) (v3 : IVec S16 32) (v4 : FVec F S16 .f32) (v92 : Vec F S16 .i32) (t : Fin k1_t1_loop.trips) (k : Fin k1_t7_loop.trips) :
    k1_t7_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 v4 t v75 v92 k () = A.swap.countA v2 v3 c0 c1 t v92 k := rfl

theorem Tile.sums_swap (A : Tile) (v2 v75 c0 c1 : BitVec 32) (v3 : IVec S16 32) (v4 : FVec F S16 .f32) (x : IVec S16 32) (t : Fin k1_t1_loop.trips) (k : Fin k1_t8_loop.trips) :
    k1_t8_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 v4 t v75 k x = A.swap.sums v2 v3 c0 c1 t k x := rfl

theorem Tile.place_swap (A : Tile) (v2 v75 arg26 v31 : BitVec 32) (v3 v53 v56 : IVec S16 32) (v4 : FVec F S16 .f32) (t : Fin k1_t1_loop.trips) (k : Fin k1_t9_loop.trips) :
    k1_t9_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 v4 t v75 k () = A.swap.place v2 v3 v4 t arg26 v31 v53 v56 k := rfl

end Programs

end Cert.Proof

end

end
-- ==== Proof.Loops.lean ====
/-
  The four loops over a row, trip by trip: zeroing the histogram, counting the types of each vector of sixteen atoms,
  turning the counts into sums over the earlier vectors, and placing the coordinates.
-/
module

public import proofs.«01_k».proof.Proof.Tile

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name]
variable {U : Type} [URA U] {Lvl : Type} [Preorder Lvl]
variable {defs : Defs nD τ sig (Elt F) Λ₀} (𝒱 : Variants) (A : Tile) (d : Dev nD) (bd : Option 𝒱.V) (E : Set Name)

local notation "𝕄" => MT nD τ sig Ix (Elt F) Name U Lvl

/-- Before trip `k` of the zeroing loop the first `16 k` words are zero. -/
def Zeroed (k : ℕ) (h : ℕ → BitVec 32) : Prop := ∀ m < 16 * k, h m = 0#32

theorem wp_zero (v2 : BitVec 32) (v3 : IVec S16 32) (c0 c1 : BitVec 32) (t : Fin k1_t1_loop.trips) (k : Fin k1_t2_loop.trips) :
    (iprop(∃ h, ⌜Zeroed k.val h⌝ ∗ hv (A.thr d) A.arg15 h) : sProp 𝕄)
      ⊢ wp frame (wpE defs 𝒱 (A.thr d) bd) E (A.zero (F := F) v2 v3 c0 c1 t k)
          fun _ => iprop(∃ h, ⌜Zeroed (k.val + 1) h⌝ ∗ hv (A.thr d) A.arg15 h) := by
  unfold Tile.zero k1_t2_body
  simp only [Prog.bind_lift, Prog.bind_op]
  iintro ⟨%h, %hh, H⟩
  iapply (wp_load16 𝒱 (A.thr d) bd E) $$ H
  iintro H
  iapply (wp_store16 𝒱 (A.thr d) bd E) $$ H
  iintro H
  rw [show (pure PUnit.unit : TProg F A.i Unit) = .ret () from rfl, wp_ret]
  imodintro
  iexists _
  isplitr; swap; · iexact H
  ipureintro
  rw [k1_off8_eq, Matrix.cons_val_zero]
  intro m hm
  by_cases hl : m < 16 * k.val
  · rw [put16_of_not _ _ _ (Or.inl hl)]; exact hh m hl
  · obtain ⟨l, rfl⟩ := Nat.exists_eq_add_of_le (not_lt.mp hl)
    exact put16_of_lt _ _ _ ⟨l, by omega⟩

/-- What the counting loop leaves of atom `m`: sixteen times its type, plus the number of earlier atoms of the type in
    its vector. -/
def encOf (t : ℕ → ℕ) (m : ℕ) : ℕ := 16 * t m + Nat.count (fun l => t (16 * (m / 16) + l) = t m) (m % 16)

/-- Vector `j` is encoded, and its sixteen words of the histogram count its types. -/
def VecDone (t : ℕ → ℕ) (e h : ℕ → BitVec 32) (j : ℕ) : Prop :=
  (∀ l < 16, e (16 * j + l) = BitVec.ofNat 32 (encOf t (16 * j + l))) ∧ ∀ c < 16, h (16 * j + c) = BitVec.ofNat 32 (inVec t j c)

/-- The vectors in `D` are done, and the histogram of the others is zero. -/
def Counted (t : ℕ → ℕ) (D : ℕ → Prop) (e h : ℕ → BitVec 32) : Prop :=
  ∀ j < 256, (D j → VecDone t e h j) ∧ (¬ D j → ∀ c < 16, h (16 * j + c) = 0#32)

/-- One vector of the counting loop. -/
theorem Counted.step {t : ℕ → ℕ} {D : ℕ → Prop} {e h b : ℕ → BitVec 32} (H : Counted t D e h) (ht : ∀ m < 4096, t m < 12) {j : ℕ} (hj : j < 256)
    (hD : ¬ D j) {mask : IVec Lane 1} (hm : ∀ x, mask x = 1) {v idx enc cnt : IVec Lane 32} {last : IVec Lane 1} (hv : ∀ x, v x = BitVec.ofNat 32 (t (16 * j + (x 0).val)))
    (hcnt : cnt = (scanCount mask v).2) (hlast : last = (scanCount mask v).1)
    (henc : ∀ x, enc x = IntOp.addi (IntOp.muli (v x) 16#32) (IntOp.subi ((scanCount mask v).2 x) 1#32))
    (hidx : ∀ x, (idx x).toNat = 16 * j + t (16 * j + (x 0).val))
    (hs : (∀ m < 4096, (∀ x, last x = 1 → (idx x).toNat ≠ m) → b m = h m) ∧
      ∀ x, last x = 1 → (∀ x', last x' = 1 → (idx x').toNat = (idx x).toNat → cnt x' = cnt x) → b (idx x).toNat = cnt x) :
    Counted t (fun j' => D j' ∨ j' = j) (put16 e (16 * j) enc) b := by
  subst hcnt hlast
  have ht' : ∀ l < 16, (fun l => t (16 * j + l)) l < 12 := fun l hl => ht _ (by omega)
  obtain ⟨h1, h2⟩ := hist_vec (tv := fun l => t (16 * j + l)) hm hv ht' hj hidx ((H j hj).2 hD) hs
  intro j' hj'
  by_cases hjj : j' = j
  · subst hjj
    refine ⟨fun _ => ⟨fun l hl => ?_, h2⟩, fun hn => absurd (Or.inr rfl) hn⟩
    rw [put16_of_lt e (16 * j') enc ⟨l, hl⟩, henc, enc_lane (tv := fun l => t (16 * j' + l)) hm hv ht']
    unfold encOf
    rw [show (16 * j' + l) / 16 = j' by omega, show (16 * j' + l) % 16 = l by omega]
  · refine ⟨fun hd => ⟨fun l hl => ?_, fun c hc => ?_⟩, fun hn c hc => ?_⟩
    · rw [put16_of_not _ _ _ (by omega)]
      exact ((H j' hj').1 (hd.resolve_right hjj)).1 l hl
    · rw [h1 _ (by omega) (by omega)]
      exact ((H j' hj').1 (hd.resolve_right hjj)).2 c hc
    · rw [h1 _ (by omega) (by omega)]
      exact (H j' hj').2 (fun hd => hn (.inl hd)) c hc

theorem Counted.congr {t : ℕ → ℕ} {D D' : ℕ → Prop} {e h : ℕ → BitVec 32} (H : Counted t D e h) (hD : ∀ j < 256, D j ↔ D' j) : Counted t D' e h :=
  fun j hj => ⟨fun hd => (H j hj).1 ((hD j hj).mpr hd), fun hn => (H j hj).2 fun hd => hn ((hD j hj).mp hd)⟩

/-- An index vector within an extent. -/
theorem idx_inb {n : ℕ} {idx : IVec S16 32} (h : ∀ x, (idx x).toNat < n) :
    ∀ a x, ((![idx] : Fin 1 → IVec S16 32) a x).toNat < (⟨1, ![n]⟩ : Shape).size a := by
  intro a x
  obtain rfl : a = 0 := Subsingleton.elim _ _
  exact h x

theorem toNat_small {n : ℕ} (h : n < 4294967296) : (BitVec.ofNat 32 n).toNat = n := by
  rw [BitVec.toNat_ofNat]; exact Nat.mod_eq_of_lt h

/-- A scaled vector number plus a type, as the histogram's index. -/
theorem add_typ {b : BitVec 32} {v : BitVec 32} {j n : ℕ} (hb : b = BitVec.ofNat 32 (16 * j)) (hv : v = BitVec.ofNat 32 n) (hj : j < 256) (hn : n < 12) :
    (IntOp.addi b v).toNat = 16 * j + n := by
  subst hb hv
  unfold IntOp.addi
  rw [← BitVec.ofNat_add, toNat_small (by omega)]

theorem iv_word (k : ℕ) : Scf.iv 0#32 1#32 k = BitVec.ofNat 32 k := by
  unfold Scf.iv; rw [BitVec.mul_one, BitVec.zero_add]

theorem vec_word (n k : ℕ) : Scalar.muli (Scalar.addi (BitVec.ofNat 32 n) (Scalar.addi 0#32 (Scalar.muli (Scf.iv 0#32 1#32 k) 1#32))) 16#32
    = BitVec.ofNat 32 (16 * (n + k)) := by
  unfold Scalar.muli Scalar.addi IntOp.muli IntOp.addi
  rw [iv_word, BitVec.mul_one, BitVec.zero_add, ← BitVec.ofNat_add, ← BitVec.ofNat_mul, Nat.mul_comm]

/-- One trip of the counting loop: four vectors of atoms, whose types sit in the four bytes of sixteen words. -/
theorem wp_count {w : ℕ → BitVec 32} (hw : Packed w) {na : BitVec 32} (v2 : BitVec 32) {v3 : IVec S16 32} (c0 c1 : BitVec 32) {v48 : Vec F S16 .i32}
    (t : Fin k1_t1_loop.trips) (k : Fin k1_t3_loop.trips) (h3 : ∀ x, v3 x = BitVec.ofNat 32 (x 0).val) (h48 : ∀ x, v48 x = na) :
    (iprop(∃ e h, ⌜Counted (typ w na) (fun j => j % 64 < k.val) e h⌝ ∗ hv (A.thr d) A.arg8 w ∗ hv (A.thr d) A.arg14 e ∗ hv (A.thr d) A.arg15 h) : sProp 𝕄)
      ⊢ wp frame (wpE defs 𝒱 (A.thr d) bd) E (A.countA v2 v3 c0 c1 t v48 k)
          fun _ => iprop(∃ e h, ⌜Counted (typ w na) (fun j => j % 64 < k.val + 1) e h⌝ ∗ hv (A.thr d) A.arg8 w ∗ hv (A.thr d) A.arg14 e
            ∗ hv (A.thr d) A.arg15 h) := by
  have hk : k.val < 64 := lt_of_lt_of_eq k.isLt (by decide)
  have ht : ∀ m < 4096, typ w na m < 12 := fun m hm => typ_lt hw na hm
  -- the sixteen words, and the types in their bytes
  obtain ⟨ws, hws⟩ : ∃ ws : Vec F S16 .i32, ws = fun x => w (16 * k.val + (x 0).val) := ⟨_, rfl⟩
  have q0 : ∀ x, k1_pay1 v3 v48 0#32 1#32 k ws x = BitVec.ofNat 32 (typ w na (16 * k.val + (x 0).val)) := fun x => by
    have := typ_lane w na (Scalar.muli (Scalar.addi 0#32 (Scalar.addi 0#32 (Scalar.muli (Scf.iv 0#32 1#32 k) 1#32))) 16#32) 0#32 (q := 0) (k := k.val)
      (by omega) hk (lane_lt x) (vec_word 0 k.val) rfl
    rw [show 64 * 0 + k.val = k.val by omega] at this
    rw [← this, ← h3 x, ← h48 x, hws]; rfl
  have q1 : ∀ x, k1_pay9 (k1_pay7 ws) (k1_pay8 v3 v48 0#32 1#32 k) x = BitVec.ofNat 32 (typ w na (16 * (64 + k.val) + (x 0).val)) := fun x => by
    have := typ_lane w na (Scalar.muli (Scalar.addi 64#32 (Scalar.addi 0#32 (Scalar.muli (Scf.iv 0#32 1#32 k) 1#32))) 16#32) 8#32 (q := 1) (k := k.val)
      (by omega) hk (lane_lt x) (vec_word 64 k.val) rfl
    rw [show 64 * 1 + k.val = 64 + k.val by omega] at this
    rw [← this, ← h3 x, ← h48 x, hws]; rfl
  have q2 : ∀ x, k1_pay15 v3 v48 (Scalar.addi 0#32 (Scalar.muli (Scf.iv 0#32 1#32 k) 1#32)) ws x = BitVec.ofNat 32 (typ w na (16 * (128 + k.val) + (x 0).val)) := fun x => by
    have := typ_lane w na (Scalar.muli (Scalar.addi 128#32 (Scalar.addi 0#32 (Scalar.muli (Scf.iv 0#32 1#32 k) 1#32))) 16#32) 16#32 (q := 2) (k := k.val)
      (by omega) hk (lane_lt x) (vec_word 128 k.val) rfl
    rw [show 64 * 2 + k.val = 128 + k.val by omega] at this
    rw [← this, ← h3 x, ← h48 x, hws]; rfl
  have q3 : ∀ x, k1_pay65 v3 v48 (Scalar.addi 0#32 (Scalar.muli (Scf.iv 0#32 1#32 k) 1#32)) ws x = BitVec.ofNat 32 (typ w na (16 * (192 + k.val) + (x 0).val)) := fun x => by
    have := typ_lane w na (Scalar.muli (Scalar.addi 192#32 (Scalar.addi 0#32 (Scalar.muli (Scf.iv 0#32 1#32 k) 1#32))) 16#32) 24#32 (q := 3) (k := k.val)
      (by omega) hk (lane_lt x) (vec_word 192 k.val) rfl
    rw [show 64 * 3 + k.val = 192 + k.val by omega] at this
    rw [← this, ← h3 x, ← h48 x, hws]; rfl
  -- the four index vectors
  have i0 : ∀ x, (k1_pay6 v3 v48 0#32 1#32 k ws x).toNat = 16 * k.val + typ w na (16 * k.val + (x 0).val) := fun x =>
    add_typ ((vec_word 0 k.val).trans (by rw [Nat.zero_add])) (q0 x) (by omega) (ht _ (by have := lane_lt x; omega))
  have i1 : ∀ x, (k1_pay14 (Scalar.addi 64#32 (Scalar.addi 0#32 (Scalar.muli (Scf.iv 0#32 1#32 k) 1#32))) (k1_pay7 ws) (k1_pay8 v3 v48 0#32 1#32 k) x).toNat
      = 16 * (64 + k.val) + typ w na (16 * (64 + k.val) + (x 0).val) := fun x =>
    add_typ (vec_word 64 k.val) (q1 x) (by omega) (ht _ (by have := lane_lt x; omega))
  have i2 : ∀ x, (addi (k1_pay20 (Scalar.addi 0#32 (Scalar.muli (Scf.iv 0#32 1#32 k) 1#32))) (k1_pay15 v3 v48 (Scalar.addi 0#32 (Scalar.muli (Scf.iv 0#32 1#32 k) 1#32)) ws) x).toNat
      = 16 * (128 + k.val) + typ w na (16 * (128 + k.val) + (x 0).val) := fun x =>
    add_typ (vec_word 128 k.val) (q2 x) (by omega) (ht _ (by have := lane_lt x; omega))
  have i3 : ∀ x, (k1_pay70 v3 v48 (Scalar.addi 0#32 (Scalar.muli (Scf.iv 0#32 1#32 k) 1#32)) ws x).toNat
      = 16 * (192 + k.val) + typ w na (16 * (192 + k.val) + (x 0).val) := fun x =>
    add_typ (vec_word 192 k.val) (q3 x) (by omega) (ht _ (by have := lane_lt x; omega))
  have bound : ∀ {idx : IVec S16 32} {j : ℕ}, j < 256 → (∀ x, (idx x).toNat = 16 * j + typ w na (16 * j + (x 0).val)) → ∀ x, (idx x).toNat < 4096 :=
    fun {idx j} hj h x => by
      have := ht (16 * j + (x 0).val) (by have := lane_lt x; omega)
      rw [h x]; omega
  unfold Tile.countA k1_t3_body
  rw [k1_part1_eq_skeleton, k1_part2_eq_skeleton]
  unfold k1_part1_skel k1_part2_skel
  simp only [Prog.bind_lift, Prog.bind_op, Prog.bind_assoc, pure_bind]
  iintro ⟨%e, %h, %H, H8, H14, H15⟩
  iapply (wp_load16 𝒱 (A.thr d) bd E) $$ H8
  iintro H8
  rw [show (fun x : S16.Idx => w (k1_off9 k 0 + (x 0).val)) = ws by rw [hws, k1_off9_eq, Matrix.cons_val_zero]]
  iapply (wp_load16 𝒱 (A.thr d) bd E) $$ H14
  iintro H14
  iapply (wp_store16 𝒱 (A.thr d) bd E) $$ H14
  iintro H14
  rw [wp_assume_of 𝒱 (A.thr d) bd E (show k1_chk2 _ from idx_inb (bound (by omega) i0))]
  iapply (wp_scatter16 𝒱 (A.thr d) bd E (by omega)) $$ H15
  iintro %b0 %hb0 H15
  replace H := H.step ht (j := k.val) (by omega) (by omega) (mask := k1_pay2) (fun _ => rfl) q0 rfl rfl (fun _ => rfl) i0 hb0
  iapply (wp_load16 𝒱 (A.thr d) bd E) $$ H14
  iintro H14
  iapply (wp_store16 𝒱 (A.thr d) bd E) $$ H14
  iintro H14
  rw [wp_assume_of 𝒱 (A.thr d) bd E (show k1_chk3 _ from idx_inb (bound (by omega) i1))]
  iapply (wp_scatter16 𝒱 (A.thr d) bd E (by omega)) $$ H15
  iintro %b1 %hb1 H15
  replace H := H.step ht (j := 64 + k.val) (by omega) (by omega) (mask := k1_pay10) (fun _ => rfl) q1 rfl rfl (fun _ => rfl) i1 hb1
  iapply (wp_load16 𝒱 (A.thr d) bd E) $$ H14
  iintro H14
  iapply (wp_store16 𝒱 (A.thr d) bd E) $$ H14
  iintro H14
  rw [wp_assume_of 𝒱 (A.thr d) bd E (show k1_chk4 _ from idx_inb (bound (by omega) i2))]
  iapply (wp_scatter16 𝒱 (A.thr d) bd E (by omega)) $$ H15
  iintro %b2 %hb2 H15
  replace H := H.step ht (j := 128 + k.val) (by omega) (by omega) (mask := k1_pay16) (fun _ => rfl) q2 rfl rfl (fun _ => rfl) i2 hb2
  iapply (wp_load16 𝒱 (A.thr d) bd E) $$ H14
  iintro H14
  iapply (wp_store16 𝒱 (A.thr d) bd E) $$ H14
  iintro H14
  rw [wp_assume_of 𝒱 (A.thr d) bd E (show k1_chk5 _ from idx_inb (bound (by omega) i3))]
  iapply (wp_scatter16 𝒱 (A.thr d) bd E (by omega)) $$ H15
  iintro %b3 %hb3 H15
  replace H := H.step ht (j := 192 + k.val) (by omega) (by omega) (mask := k1_pay66) (fun _ => rfl) q3 rfl rfl (fun _ => rfl) i3 hb3
  rw [show (pure PUnit.unit : TProg F A.i Unit) = .ret () from rfl, wp_ret]
  imodintro
  rw [k1_off10_eq, k1_off11_eq, k1_off12_eq, k1_off13_eq]
  simp only [Matrix.cons_val_zero]
  rw [show 16 * k.val + 1024 = 16 * (64 + k.val) by omega, show 16 * k.val + 2048 = 16 * (128 + k.val) by omega,
    show 16 * k.val + 3072 = 16 * (192 + k.val) by omega]
  iexists _, _
  isplitr
  · ipureintro
    exact H.congr fun j hj => by omega
  isplitl [H8]; · iexact H8
  isplitl [H14]; · iexact H14
  iexact H15

/-- Before trip `k` of the summing loop the first `k` vectors hold the counts of the earlier atoms, the others their own. -/
def Summed (t : ℕ → ℕ) (k : ℕ) (h : ℕ → BitVec 32) : Prop :=
  ∀ j < 256, ∀ c < 16, h (16 * j + c) = BitVec.ofNat 32 (if j < k then before t c (16 * j) else inVec t j c)

/-- The running sums before trip `k`: for each type, the number of the first `16 k` atoms of it. -/
def Running (t : ℕ → ℕ) (k : ℕ) (x : IVec S16 32) : Prop := ∀ l, x l = BitVec.ofNat 32 (before t (l 0).val (16 * k))

theorem wp_sums {t : ℕ → ℕ} (v2 : BitVec 32) (v3 : IVec S16 32) (c0 c1 : BitVec 32) (t1 : Fin k1_t1_loop.trips) (k : Fin k1_t4_loop.trips) (x : IVec S16 32) :
    (iprop(∃ h, ⌜Summed t k.val h ∧ Running t k.val x⌝ ∗ hv (A.thr d) A.arg15 h) : sProp 𝕄)
      ⊢ wp frame (wpE defs 𝒱 (A.thr d) bd) E (A.sums (F := F) v2 v3 c0 c1 t1 k x)
          fun x' => iprop(∃ h, ⌜Summed t (k.val + 1) h ∧ Running t (k.val + 1) x'⌝ ∗ hv (A.thr d) A.arg15 h) := by
  have hk : k.val < 256 := lt_of_lt_of_eq k.isLt (by decide)
  unfold Tile.sums k1_t4_body
  simp only [Prog.bind_lift, Prog.bind_op]
  iintro ⟨%h, %H, H15⟩
  obtain ⟨hS, hR⟩ := H
  iapply (wp_load16 𝒱 (A.thr d) bd E) $$ H15
  iintro H15
  iapply (wp_load16 𝒱 (A.thr d) bd E) $$ H15
  iintro H15
  iapply (wp_store16 𝒱 (A.thr d) bd E) $$ H15
  iintro H15
  rw [Prog.pure_eq_ret, wp_ret, k1_off14_eq, Matrix.cons_val_zero]
  imodintro
  iexists _
  isplitr; swap; · iexact H15
  ipureintro
  refine ⟨fun j hj c hc => ?_, fun l => ?_⟩
  · by_cases hjk : j = k.val
    · subst hjk
      rw [put16_of_lt h (16 * k.val) x ⟨c, hc⟩, hR, if_pos (by omega)]
    · rw [put16_of_not _ _ _ (by omega), hS j hj c hc]
      congr 1
      split_ifs <;> omega
  · show x l + h (16 * k.val + (l 0).val) = _
    rw [hR, hS _ hk _ (lane_lt l), if_neg (by omega), ← BitVec.ofNat_add, before_vec]

/-- The histogram that the counting loop leaves starts the sums. -/
theorem Counted.summed {t : ℕ → ℕ} {e h : ℕ → BitVec 32} (H : Counted t (fun j => j % 64 < 64) e h) : Summed t 0 h := fun j hj c hc => by
  rw [if_neg (by omega)]
  exact ((H j hj).1 (Nat.mod_lt _ (by omega))).2 c hc

theorem Counted.enc {t : ℕ → ℕ} {e h : ℕ → BitVec 32} (H : Counted t (fun j => j % 64 < 64) e h) {m : ℕ} (hm : m < 4096) :
    e m = BitVec.ofNat 32 (encOf t m) := by
  have := ((H (m / 16) (by omega)).1 (Nat.mod_lt _ (by omega))).1 (m % 16) (Nat.mod_lt _ (by omega))
  rwa [Nat.div_add_mod] at this

theorem Zeroed.counted {t : ℕ → ℕ} {e h : ℕ → BitVec 32} (H : Zeroed 256 h) : Counted t (fun j => j % 64 < 0) e h :=
  fun j hj => ⟨fun hn => absurd hn (Nat.not_lt_zero _), fun _ c hc => H _ (by omega)⟩

/-- Component `d` of atom `m` as it is placed: its coordinate, or `z` for an atom of the eleventh type. -/
def placed {α : Type} (z : α) (t : ℕ → ℕ) (crd : ℕ → α) (m d : ℕ) : α := if t m < 11 then crd (3 * m + d) else z

/-- The atoms of the first `k` vectors are placed by rank, and of the next vector the components before `D`. -/
def Placed {α : Type} (z : α) (t : ℕ → ℕ) (crd : ℕ → α) (k D : ℕ) (o : ℕ → α) : Prop :=
  ∀ m < 4096, ∀ d < 3, (m < 16 * k ∨ m < 16 * (k + 1) ∧ d < D) → o (3 * rank t m + d) = placed z t crd m d

/-- One component of a vector placed. -/
theorem Placed.step {α : Type} {z : α} {t : ℕ → ℕ} {crd : ℕ → α} {k D : ℕ} {o b : ℕ → α} (H : Placed z t crd k D o) (hk : k < 256) (hD : D < 3)
    {idx : IVec Lane 32} {v : Lane.Idx → α}
    (hs : (∀ m < 12288, (∀ x : Lane.Idx, (1#1 : BitVec 1) = 1 → (idx x).toNat ≠ m) → b m = o m) ∧
      ∀ x : Lane.Idx, (1#1 : BitVec 1) = 1 → (∀ x' : Lane.Idx, (1#1 : BitVec 1) = 1 → (idx x').toNat = (idx x).toNat → v x' = v x) → b (idx x).toNat = v x)
    (hidx : ∀ x, (idx x).toNat = 3 * rank t (16 * k + (x 0).val) + D) (hv : ∀ x, v x = placed z t crd (16 * k + (x 0).val) D) :
    Placed z t crd k (D + 1) b := by
  intro m hm d hd h
  have hr := rank_lt_size (t := t) hm
  by_cases hmv : m < 16 * k ∨ d ≠ D
  · rw [hs.1 _ (by omega) fun x _ he => ?_]
    · exact H m hm d hd (by omega)
    · rw [hidx] at he
      have hx := lane_lt x
      have := rank_inj (t := t) (m := 16 * k + (x 0).val) (m' := m) (by omega) hm (by omega)
      omega
  · obtain ⟨h1, rfl⟩ : 16 * k ≤ m ∧ d = D := by omega
    obtain ⟨l, rfl⟩ := Nat.exists_eq_add_of_le h1
    have := hs.2 (laneOf l (by omega)) rfl fun x' _ he => ?_
    · rw [hidx, hv, laneOf_val] at this
      exact this
    · rw [hidx, hidx, laneOf_val] at he
      have hx := lane_lt x'
      have := rank_inj (t := t) (m := 16 * k + (x' 0).val) (m' := 16 * k + l) (by omega) hm (by omega)
      rw [hv, hv, laneOf_val, this]

theorem Placed.next {α : Type} {z : α} {t : ℕ → ℕ} {crd : ℕ → α} {k : ℕ} {o : ℕ → α} (H : Placed z t crd k 3 o) : Placed z t crd (k + 1) 0 o :=
  fun m hm d hd h => H m hm d hd (by omega)

theorem shrsi_four {n : ℕ} (hn : n < 1024) : IntOp.shrsi .vector (BitVec.ofNat 32 n) 4#32 = BitVec.ofNat 32 (n / 16) := by
  apply BitVec.eq_of_toNat_eq
  unfold IntOp.shrsi
  have hm : (BitVec.ofNat 32 n).msb = false := by
    rw [BitVec.msb_eq_false_iff_two_mul_lt, toNat_small (by omega)]; omega
  rw [if_pos (by decide), BitVec.sshiftRight_eq', BitVec.toNat_sshiftRight_of_msb_false hm, Nat.shiftRight_eq_div_pow, toNat_small (by omega),
    toNat_small (by omega), toNat_small (by omega)]

theorem andi_fifteen {n : ℕ} (hn : n < 1024) : IntOp.andi (BitVec.ofNat 32 n) 15#32 = BitVec.ofNat 32 (n % 16) := by
  apply BitVec.eq_of_toNat_eq
  unfold IntOp.andi
  rw [BitVec.toNat_and, toNat_small (by omega), toNat_small (by omega), toNat_small (by omega)]
  exact Nat.and_two_pow_sub_one_eq_mod n 4

/-- One trip of the placing loop. -/
theorem wp_place {t : ℕ → ℕ} (ht : ∀ m < 4096, t m < 12) {e h off : ℕ → BitVec 32} {crd : ℕ → F .f32} {z : F .f32}
    (he : ∀ m < 4096, e m = BitVec.ofNat 32 (encOf t m)) (hh : Summed t 256 h) (hoff : ∀ c < 16, off c = BitVec.ofNat 32 (below t c))
    (v2 : BitVec 32) {v3 : IVec S16 32} {v4 : FVec F S16 .f32} (t1 : Fin k1_t1_loop.trips) (arg26 v31 : BitVec 32) (v53 v56 : IVec S16 32)
    (k : Fin k1_t5_loop.trips) (h3 : ∀ x, v3 x = BitVec.ofNat 32 (x 0).val) (h4 : ∀ x, v4 x = z) :
    (iprop(∃ o, ⌜Placed z t crd k.val 0 o⌝ ∗ hv (A.thr d) A.arg12 o ∗ hv (A.thr d) A.arg10 crd ∗ hv (A.thr d) A.arg14 e ∗ hv (A.thr d) A.arg15 h
        ∗ hv (A.thr d) A.arg16 off) : sProp 𝕄)
      ⊢ wp frame (wpE defs 𝒱 (A.thr d) bd) E (A.place (F := F) v2 v3 v4 t1 arg26 v31 v53 v56 k)
          fun _ => iprop(∃ o, ⌜Placed z t crd (k.val + 1) 0 o⌝ ∗ hv (A.thr d) A.arg12 o ∗ hv (A.thr d) A.arg10 crd ∗ hv (A.thr d) A.arg14 e
            ∗ hv (A.thr d) A.arg15 h ∗ hv (A.thr d) A.arg16 off) := by
  have hk : k.val < 256 := lt_of_lt_of_eq k.isLt (by decide)
  -- the sixteen encoded words, the types in them and the places they name
  have hm : ∀ x : Lane.Idx, 16 * k.val + (x 0).val < 4096 := fun x => by have := lane_lt x; omega
  obtain ⟨es, hes⟩ : ∃ es : Vec F S16 .i32, es = fun x => e (16 * k.val + (x 0).val) := ⟨_, rfl⟩
  have hcl : ∀ x : Lane.Idx, Nat.count (fun l => t (16 * k.val + l) = t (16 * k.val + (x 0).val)) (x 0).val < 16 := fun x =>
    lt_of_le_of_lt (Nat.count_le _) (lane_lt x)
  have hes' : ∀ x : Lane.Idx, es x = BitVec.ofNat 32 (16 * t (16 * k.val + (x 0).val)
      + Nat.count (fun l => t (16 * k.val + l) = t (16 * k.val + (x 0).val)) (x 0).val) := fun x => by
    have hx := lane_lt x
    rw [hes]
    show e _ = _
    rw [he _ (hm x)]
    unfold encOf
    rw [show (16 * k.val + (x 0).val) / 16 = k.val by omega, show (16 * k.val + (x 0).val) % 16 = (x 0).val by omega]
  have htyp : ∀ x, k1_pay21 (F := F) es x = BitVec.ofNat 32 (t (16 * k.val + (x 0).val)) := fun x => by
    have h1 := ht _ (hm x)
    have h2 := hcl x
    show IntOp.shrsi .vector (es x) 4#32 = _
    rw [hes', shrsi_four (by omega)]
    congr 1
    omega
  have hvecix : ∀ x, (k1_pay22 0#32 1#32 k (k1_pay21 (F := F) es) x).toNat = 16 * k.val + t (16 * k.val + (x 0).val) := fun x =>
    add_typ ((by
      unfold Scalar.muli Scalar.addi IntOp.muli IntOp.addi
      rw [iv_word, BitVec.mul_one, BitVec.zero_add, ← BitVec.ofNat_mul, Nat.mul_comm] :
        Scalar.muli (Scalar.addi 0#32 (Scalar.muli (Scf.iv 0#32 1#32 k) 1#32)) 16#32 = BitVec.ofNat 32 (16 * k.val))) (htyp x) (by omega) (ht _ (hm x))
  have hcrd : ∀ x, k1_pay23 v3 0#32 1#32 k x = BitVec.ofNat 32 (3 * (16 * k.val + (x 0).val)) := fun x => by
    show IntOp.addi (Scalar.muli (Scalar.muli (Scalar.addi 0#32 (Scalar.muli (Scf.iv 0#32 1#32 k) 1#32)) 16#32) 3#32) (IntOp.muli (v3 x) 3#32) = _
    unfold Scalar.muli Scalar.addi IntOp.muli IntOp.addi
    rw [iv_word, h3, BitVec.mul_one, BitVec.zero_add, ← BitVec.ofNat_mul, ← BitVec.ofNat_mul, ← BitVec.ofNat_mul, ← BitVec.ofNat_add]
    congr 1
    omega
  have hcrd1 : ∀ x, k1_pay24 (k1_pay23 v3 0#32 1#32 k) x = BitVec.ofNat 32 (3 * (16 * k.val + (x 0).val) + 1) := fun x => by
    show k1_pay23 v3 0#32 1#32 k x + 1#32 = _
    rw [hcrd, ← BitVec.ofNat_add]
  have hcrd2 : ∀ x, k1_pay25 (k1_pay23 v3 0#32 1#32 k) x = BitVec.ofNat 32 (3 * (16 * k.val + (x 0).val) + 2) := fun x => by
    show k1_pay23 v3 0#32 1#32 k x + 2#32 = _
    rw [hcrd, ← BitVec.ofNat_add]
  have hsel : ∀ (x : Lane.Idx) (D : ℕ) (g : Vec F S16 .f32), g x = crd (3 * (16 * k.val + (x 0).val) + D) →
      select (k1_pay26 (k1_pay21 (F := F) es)) g v4 x = placed z t crd (16 * k.val + (x 0).val) D := fun x D g hg => by
    have h1 := ht _ (hm x)
    show (if IntOp.cmpi .slt (k1_pay21 (F := F) es x) 11#32 = 1 then g x else v4 x) = _
    rw [htyp, hg, h4]
    unfold placed IntOp.cmpi
    congr 1
    have : (BitVec.ofNat 32 (t (16 * k.val + (x 0).val))).slt 11#32 = decide (t (16 * k.val + (x 0).val) < 11) := by
      rw [BitVec.slt_eq_ult_of_msb_eq (by
        rw [show (11#32).msb = false from rfl, BitVec.msb_eq_false_iff_two_mul_lt, toNat_small (by omega)]; omega)]
      unfold BitVec.ult
      rw [toNat_small (by omega)]
      rfl
    show (BitVec.ofBool ((BitVec.ofNat 32 (t (16 * k.val + (x 0).val))).slt 11#32) = 1) = _
    rw [this]
    by_cases hlt : t (16 * k.val + (x 0).val) < 11 <;> simp [hlt]
  obtain ⟨os, hos⟩ : ∃ os : Vec F S16 .i32, os = fun x => off (k1_pay21 (F := F) es x).toNat := ⟨_, rfl⟩
  obtain ⟨hs, hhs⟩ : ∃ hs : Vec F S16 .i32, hs = fun x => h (k1_pay22 0#32 1#32 k (k1_pay21 (F := F) es) x).toNat := ⟨_, rfl⟩
  have hpos : ∀ x, k1_pay30 (F := F) es os hs x = BitVec.ofNat 32 (3 * rank t (16 * k.val + (x 0).val)) := fun x => by
    have h1 := ht _ (hm x)
    have h2 := hcl x
    show IntOp.muli (IntOp.addi (IntOp.addi (os x) (hs x)) (IntOp.andi (es x) 15#32)) 3#32 = _
    rw [hos, hhs]
    beta_reduce
    rw [htyp, hvecix, toNat_small (by omega), hoff _ (by omega), hh _ hk _ (by omega), if_pos hk, hes', andi_fifteen (by omega)]
    unfold IntOp.muli IntOp.addi
    rw [← BitVec.ofNat_add, ← BitVec.ofNat_add, ← BitVec.ofNat_mul]
    unfold rank
    rw [before_lane]
    congr 1
    omega
  have hpos1 : ∀ x, k1_pay31 (k1_pay30 (F := F) es os hs) x = BitVec.ofNat 32 (3 * rank t (16 * k.val + (x 0).val) + 1) := fun x => by
    show k1_pay30 (F := F) es os hs x + 1#32 = _
    rw [hpos, ← BitVec.ofNat_add]
  have hpos2 : ∀ x, k1_pay76 (k1_pay30 (F := F) es os hs) x = BitVec.ofNat 32 (3 * rank t (16 * k.val + (x 0).val) + 2) := fun x => by
    show k1_pay30 (F := F) es os hs x + 2#32 = _
    rw [hpos, ← BitVec.ofNat_add]
  have hr : ∀ x : Lane.Idx, rank t (16 * k.val + (x 0).val) < 4096 := fun x => rank_lt_size (hm x)
  unfold Tile.place k1_t5_body
  rw [k1_part3_eq_skeleton]
  unfold k1_part3_skel
  simp only [Prog.bind_lift, Prog.bind_op, Prog.bind_assoc, pure_bind]
  iintro ⟨%o, %H, H12, H10, H14, H15, H16⟩
  iapply (wp_load16 𝒱 (A.thr d) bd E) $$ H14
  iintro H14
  rw [show (fun x : S16.Idx => e (k1_off16 k 0 + (x 0).val)) = es by rw [hes, k1_off16_eq, Matrix.cons_val_zero]]
  rw [wp_assume_of 𝒱 (A.thr d) bd E (show k1_chk7 _ from idx_inb fun x => by
    rw [htyp, toNat_small (by have := ht _ (hm x); omega)]; have := ht _ (hm x); omega)]
  iapply (wp_gather16 𝒱 (A.thr d) bd E) $$ H16
  iintro H16
  rw [← hos]
  rw [wp_assume_of 𝒱 (A.thr d) bd E (show k1_chk8 _ from idx_inb fun x => by
    rw [hvecix]; have := ht _ (hm x); omega)]
  iapply (wp_gather16 𝒱 (A.thr d) bd E) $$ H15
  iintro H15
  rw [← hhs]
  rw [wp_assume_of 𝒱 (A.thr d) bd E (show k1_chk9 _ from idx_inb fun x => by
    rw [hcrd, toNat_small (by have := hm x; omega)]; have := hm x; omega)]
  iapply (wp_gather16 𝒱 (A.thr d) bd E) $$ H10
  iintro H10
  rw [wp_assume_of 𝒱 (A.thr d) bd E (show k1_chk10 _ from idx_inb fun x => by
    rw [hcrd1, toNat_small (by have := hm x; omega)]; have := hm x; omega)]
  iapply (wp_gather16 𝒱 (A.thr d) bd E) $$ H10
  iintro H10
  rw [wp_assume_of 𝒱 (A.thr d) bd E (show k1_chk11 _ from idx_inb fun x => by
    rw [hcrd2, toNat_small (by have := hm x; omega)]; have := hm x; omega)]
  iapply (wp_gather16 𝒱 (A.thr d) bd E) $$ H10
  iintro H10
  rw [wp_assume_of 𝒱 (A.thr d) bd E (show k1_chk12 _ from idx_inb fun x => by
    rw [hpos, toNat_small (by have := hr x; omega)]; have := hr x; omega)]
  iapply (wp_scatter16 𝒱 (A.thr d) bd E (by omega)) $$ H12
  iintro %b0 %hb0 H12
  replace H := H.step hk (by omega) hb0 (fun x => (congrArg BitVec.toNat (hpos x)).trans (toNat_small (by have := hr x; omega)))
    (fun x => hsel x 0 (fun x => crd (k1_pay23 v3 0#32 1#32 k x).toNat) (congrArg crd ((congrArg BitVec.toNat (hcrd x)).trans (toNat_small (by have := hm x; omega)))))
  rw [wp_assume_of 𝒱 (A.thr d) bd E (show k1_chk13 _ from idx_inb fun x => by
    rw [hpos1, toNat_small (by have := hr x; omega)]; have := hr x; omega)]
  iapply (wp_scatter16 𝒱 (A.thr d) bd E (by omega)) $$ H12
  iintro %b1 %hb1 H12
  replace H := H.step hk (by omega) hb1 (fun x => (congrArg BitVec.toNat (hpos1 x)).trans (toNat_small (by have := hr x; omega)))
    (fun x => hsel x 1 (fun x => crd (k1_pay24 (k1_pay23 v3 0#32 1#32 k) x).toNat) (congrArg crd ((congrArg BitVec.toNat (hcrd1 x)).trans (toNat_small (by have := hm x; omega)))))
  rw [wp_assume_of 𝒱 (A.thr d) bd E (show k1_chk14 _ from idx_inb fun x => by
    rw [hpos2, toNat_small (by have := hr x; omega)]; have := hr x; omega)]
  iapply (wp_scatter16 𝒱 (A.thr d) bd E (by omega)) $$ H12
  iintro %b2 %hb2 H12
  replace H := H.step hk (by omega) hb2 (fun x => (congrArg BitVec.toNat (hpos2 x)).trans (toNat_small (by have := hr x; omega)))
    (fun x => hsel x 2 (fun x => crd (k1_pay25 (k1_pay23 v3 0#32 1#32 k) x).toNat) (congrArg crd ((congrArg BitVec.toNat (hcrd2 x)).trans (toNat_small (by have := hm x; omega)))))
  rw [Prog.pure_eq_ret, wp_ret]
  imodintro
  iexists _
  isplitr; · ipureintro; exact H.next
  isplitl [H12]; · iexact H12
  isplitl [H10]; · iexact H10
  isplitl [H14]; · iexact H14
  isplitl [H15]; · iexact H15
  iexact H16

end Cert.Proof

end

end
-- ==== Proof.Copies.lean ====
/-
  Step rules for a thread's copies of rank-one arrays between memories: a copy in flight delivers its destination, reading
  what its source read, and its source back; a row of a rank-two array is one such array.
-/
module

public import proofs.«01_k».proof.Proof.Steps
public import Idealize.ShloMosaic.Lib.Transfers
public import Idealize.ShloMosaic.Lib.SparseCore.Scatter
public import Idealize.ShloMosaic.Lib.Pipeline.Value
public import Idealize.ShloMosaic.Lib.Exec.Geometry
public import Idealize.ShloMosaic.Lib.ValueIdxCore

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- Row `r` of a rank-two array, as a function of the column. -/
def rowOf {R n : ℕ} {α : Type} (X : (⟨2, ![R, n]⟩ : Shape).Idx → α) (hn : 0 < n) (r : Fin R) : ℕ → α :=
  fun c => X (ValueIdx.ix2 r ⟨c % n, Nat.mod_lt _ hn⟩)

section Rows

variable {sig : RefSig} {κ : Kind} {sp : Space} {R n : ℕ} {e : EltTy}

theorem row_inb {r : Fin R} {off : Fin 2 → ℕ} (h : off = ![r.val, 0]) : ∀ a, off a + (![1, n] : Fin 2 → ℕ) a ≤ (⟨2, ![R, n]⟩ : Shape).size a := by
  subst h
  intro a
  match a with
  | ⟨0, _⟩ => exact r.isLt
  | ⟨1, _⟩ => show 0 + n ≤ n; omega

/-- Row `r` of a rank-two memref, as a rank-one memref. -/
abbrev rowM (M : Memref sig κ sp ⟨2, ![R, n]⟩ e) (r : Fin R) (hq : (⟨2, ![1, n]⟩ : Shape).Squeezes ⟨1, ![n]⟩) : Memref sig κ sp ⟨1, ![n]⟩ e :=
  (M.slice (Rect.unit (s := ⟨2, ![R, n]⟩) ![r.val, 0] ![1, n] (row_inb rfl)) (fun _ => rfl)).squeeze ⟨1, ![n]⟩ hq

theorem row_emb {hn : 0 < n} (r : Fin R) (inb) (y : (⟨1, ![n]⟩ : Shape).Idx) :
    (Rect.unit (s := ⟨2, ![R, n]⟩) ![r.val, 0] ![1, n] inb).emb (Fin.cons ⟨0, Nat.one_pos⟩ y) = ValueIdx.ix2 r ⟨(y 0).val % n, Nat.mod_lt _ hn⟩ := by
  have h : (y 0).val < n := (y 0).isLt
  funext a
  refine Fin.ext ?_
  match a with
  | ⟨0, _⟩ => show r.val + 1 * 0 = r.val; omega
  | ⟨1, _⟩ => show 0 + 1 * (y 0).val = (y 0).val % n; rw [Nat.mod_eq_of_lt h]; omega

/-- The same row however its offset and sizes are spelt. -/
theorem rowM_of {M : Memref sig κ sp ⟨2, ![R, n]⟩ e} {r : Fin R} {off : Fin 2 → ℕ} (h : off = ![r.val, 0]) {inb} {hu} {hq} {hq'} :
    (M.slice (Rect.unit (s := ⟨2, ![R, n]⟩) off ![1, n] inb) hu).squeeze ⟨1, ![n]⟩ hq = rowM M r hq' := by
  subst h; rfl

/-- What is read through a row's memref is the row of what is read through the whole memref. -/
theorem read_rowM {Val : EltTy → Type} (M : Memref sig κ sp ⟨2, ![R, n]⟩ e) (hn : 0 < n) (r : Fin R) (hq) (f : M.view.ty.Contents Val) :
    (rowM M r hq).view.read Val f = vec (rowOf (M.view.read Val f) hn r) := by
  have hc : (⟨2, ![1, n]⟩ : Shape).ShapeCasts ⟨1, ![n]⟩ := hq.numel_eq
  refine (Memref.read_squeeze_slice M (Rect.unit (s := ⟨2, ![R, n]⟩) ![r.val, 0] ![1, n] (row_inb rfl)) (fun _ => rfl) hq hc f).trans ?_
  funext y
  refine (shapeCast_dropUnit_apply ![n] _ hc y).trans ?_
  exact congrArg (M.view.read Val f) (row_emb (hn := hn) r _ y)

theorem set_rowM (M : Memref sig κ sp ⟨2, ![R, n]⟩ e) (r : Fin R) (hq) :
    (rowM M r hq).view.set = (M.view.slice (Rect.unit (s := ⟨2, ![R, n]⟩) ![r.val, 0] ![1, n] (row_inb rfl))).set := by
  show (View.reshape _ _ _).set = _
  rw [View.set_reshape]

end Rows

section Copies

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ}

local notation "𝕄" => MT nD τ sig Ix (Elt F) Name U Lvl

variable (EC : UEmb Counters (MT nD τ sig Ix (Elt F) Name U Lvl)) (𝒱 : Variants) (thr : Thread nD τ) (bd : Option 𝒱.V) (ι : Ix)

/-- What a thread owes while it waits at one index only: `O`, with some set of waits that `W` covers up to that index, and
    the evidence that it may wait there. -/
def Owes (O : CellTallies nD τ sig Ix) (W : Waits sig Ix) : sProp 𝕄 :=
  iprop(Transfers.MayWaits thr ι O ∗ ∃ W', ⌜∀ p ∈ W', p ∈ W ∨ p.2 = ι⌝ ∗ owes thr O W')

theorem owes_start {O : CellTallies nD τ sig Ix} {W : Waits sig Ix} :
    (iprop(Transfers.MayWaits thr ι O ∗ owes thr O W) : sProp 𝕄) ⊢ Owes thr ι O W := by
  unfold Owes
  iintro ⟨HM, H⟩
  isplitl [HM]; · iexact HM
  iexists W
  isplitr; · ipureintro; exact fun p hp => .inl hp
  iexact H

/-- A copy from `S`, owned at share `q`, to `B`, in flight on the semaphore `sm`. -/
def Copying {s : Shape} {e : EltTy} {sp sp' : Space} (sm : DmaSem sig) (S : Memref sig thr.2.kind sp s e) (q : PosShare TreeShare)
    (B : Memref sig thr.2.kind sp' s e) (X : s.Idx → Elt F e) : sProp 𝕄 :=
  Transfers.Flight EC thr (.dma sm) ι B.view.dmaCredit iprop(owns thr B fullShare X ∗ owns thr S q X)

variable {α : Type} {Q : α → sProp (MT nD τ sig Ix (Elt F) Name U Lvl)}

/-- Starting a copy. -/
theorem wp_copy [Infinite Name] [EC.LandsIn (upEmb : UEmb _ 𝕄)] {s : Shape} (hs : 0 < s.numel) {e : EltTy} {sp sp' : Space} {sm : DmaSem sig}
    {S S' : Memref sig thr.2.kind sp s e} {q : PosShare TreeShare} {B B' : Memref sig thr.2.kind sp' s e} {X Y : s.Idx → Elt F e}
    (hS : S = S') (hB : B = B') {hsrc : S'.view.WordExact} {hdst : B'.view.WordExact} {hsem : DmaTarget.Typed (nD := nD) sp (.dma sm) (.here B')}
    {k : PUnit → Prog (TpuEff nD τ sig (Elt F) Λ thr.2) α} :
    (iprop(owns thr S q X ∗ owns thr B fullShare Y ∗ semVal (thr, .dma sm) 0) : sProp 𝕄)
      ⊢ iprop((Copying EC thr ι sm S q B X -∗ wp frame (wpE defs 𝒱 thr bd) Set.univ (k ⟨⟩) Q)
        -∗ wp frame (wpE defs 𝒱 thr bd) Set.univ (.op (.enqueueDma S' (.here B') (.dma sm) hsrc hdst hsem) k) Q) := by
  subst hS hB
  unfold owns
  iintro ⟨⟨%f, %hf, HS⟩, ⟨%g, %hg, HB⟩, Hsem⟩ Hk
  iapply (Transfers.wp_dmaLocal EC 𝒱 thr bd (src := S) (dst := B) ι B.view.dmaCredit rfl (View.dmaCredit_pos _ hs) (Finset.Subset.refl _)) $$ [HS HB Hsem]
  · isplitl [HS]; · iexact HS
    isplitl [HB]; · iexact HB
    iexact Hsem
  iintro HF
  iapply Hk
  unfold Copying
  iapply (Transfers.Flight_mono EC thr ?_) $$ HF
  iintro ⟨HB, HS⟩
  isplitl [HB]
  · iapply (show iprop(B.view.loc thr ↦[B.view.set]{fullShare} (B.view.write (Elt F) g (S.view.read (Elt F) f) Finset.univ)) ⊢ (owns thr B fullShare X : sProp 𝕄) from ?_) $$ HB
    iintro H
    unfold owns
    iexists _
    isplitr; swap; · iexact H
    ipureintro
    rw [View.read_write_univ, hf]
  · unfold owns
    iexists f
    isplitr; · ipureintro; exact hf
    iexact HS

/-- Waiting for a copy: the wait names memrefs of the copy's shape in the destination's buffer. -/
theorem wp_copied [EC.LandsIn (upEmb : UEmb _ 𝕄)] {s : Shape} {e : EltTy} {sp sp' : Space} {sm : DmaSem sig}
    {S : Memref sig thr.2.kind sp s e} {q : PosShare TreeShare} {B : Memref sig thr.2.kind sp' s e} {X : s.Idx → Elt F e}
    {s' : Shape} {e' : EltTy} {sp1 : Space} {Sw : Memref sig thr.2.kind sp1 s' e'} {Bw : Memref sig thr.2.kind sp' s e}
    {hsrc : Sw.view.WordExact} {hdst : Bw.view.WordExact} (hb : Bw.view.dmaCredit = B.view.dmaCredit)
    {O : CellTallies nD τ sig Ix} {W : Waits sig Ix} {k : PUnit → Prog (TpuEff nD τ sig (Elt F) Λ thr.2) α} :
    (iprop(Copying EC thr ι sm S q B X ∗ Owes thr ι O W) : sProp 𝕄)
      ⊢ iprop((iprop(owns thr B fullShare X ∗ owns thr S q X ∗ semVal (thr, .dma sm) 0 ∗ Owes thr ι O W) -∗ wp frame (wpE defs 𝒱 thr bd) Set.univ (k ⟨⟩) Q)
        -∗ wp frame (wpE defs 𝒱 thr bd) Set.univ (.op (.waitDma2 sm Sw Bw hsrc hdst) k) Q) := by
  unfold Copying Owes
  iintro ⟨HF, #HM, %W', %hW, HO⟩ Hk
  iapply (Transfers.wp_waitLocalO EC 𝒱 thr bd ι hb) $$ [HF HO HM]
  · isplitl [HF]; · iexact HF
    isplitl [HO]; · iexact HO
    iapply (Transfers.MayWaits.elim (.dma sm)) $$ HM
  iintro ⟨⟨HB, HS⟩, Hsem, HO⟩
  iapply Hk
  isplitl [HB]; · iexact HB
  isplitl [HS]; · iexact HS
  isplitl [Hsem]; · iexact Hsem
  isplitr; · iexact HM
  iexists _
  isplitr; swap; · iexact HO
  ipureintro
  intro p hp
  rcases Finset.mem_insert.mp hp with rfl | hp
  · exact .inr rfl
  · exact hW p hp

omit [Preorder Lvl] in
/-- A row out of a rank-two memref, and the memref back for the row. -/
theorem row_take {sp : Space} {R n : ℕ} (hn : 0 < n) {e : EltTy} (M : Memref sig thr.2.kind sp ⟨2, ![R, n]⟩ e) (q : PosShare TreeShare)
    (X : (⟨2, ![R, n]⟩ : Shape).Idx → Elt F e) (r : Fin R) (hq) :
    (owns thr M q X : sProp 𝕄)
      ⊢ iprop(owns thr (rowM M r hq) q (vec (rowOf X hn r)) ∗ (owns thr (rowM M r hq) q (vec (rowOf X hn r)) -∗ owns thr M q X)) := by
  unfold owns
  iintro ⟨%f, %hf, H⟩
  have hsub : (rowM M r hq).view.set ⊆ M.view.set := by rw [set_rowM]; exact View.set_slice_subset _ _
  ihave H' := (pointsTo_split_subset hsub).1 $$ H
  icases H' with ⟨Hr, Hrest⟩
  isplitl [Hr]
  · iexists f
    isplitr; · ipureintro; rw [read_rowM M hn r hq, hf]
    iexact Hr
  · iintro ⟨%g, %hg, Hr⟩
    iexists f
    isplitr; · ipureintro; exact hf
    iapply (pointsTo_split_subset hsub).2
    isplitl [Hr]
    · have h : ∀ i ∈ (rowM M r hq).view.set, g i = f i := by
        intro i hi
        obtain ⟨y, -, rfl⟩ := Finset.mem_map.mp hi
        have h := congrFun (hg.trans ((congrArg (fun Z => vec (rowOf Z hn r)) hf.symm).trans (read_rowM M hn r hq f).symm)) y
        rw [View.read_apply, View.read_apply] at h
        exact (cast_inj _).mp h
      have h' := pointsTo_congr (Ix := Ix) (Val := Elt F) (Name := Name) (U := U) (Lvl := Lvl) (ℓ := (rowM M r hq).view.loc thr) (q := q) h
      iapply (Entails.of_eq h') $$ Hr
    · iexact Hrest

omit [Preorder Lvl] in
/-- A slice out of a memref, and the memref back for the slice. -/
theorem slice_take {sp : Space} {s : Shape} {e : EltTy} (M : Memref sig thr.2.kind sp s e) (q : PosShare TreeShare) (r : Rect s)
    (hr : ∀ a, r.stride a = 1) (X : s.Idx → Elt F e) :
    (owns thr M q X : sProp 𝕄)
      ⊢ iprop(owns thr (M.slice r hr) q (fun j => X (r.emb j)) ∗ (owns thr (M.slice r hr) q (fun j => X (r.emb j)) -∗ owns thr M q X)) := by
  iintro H
  ihave H' := (owns_slice_split thr M q r hr X) $$ H
  icases H' with ⟨Hs, %f, %hf, Hr⟩
  isplitl [Hs]; · iexact Hs
  iintro Hs
  have h : r.overlay (M.view.read (Elt F) f) (fun j => X (r.emb j)) = X := by
    rw [hf]
    funext j
    by_cases hj : j ∈ r.set
    · obtain ⟨i, rfl⟩ := r.exists_idx_of_mem hj
      exact Rect.overlay_emb _ _ _ i
    · exact Rect.overlay_of_not_mem _ _ _ hj
  ihave H := (owns_slice_join thr M q r hr (fun j => X (r.emb j)) f) $$ [Hs Hr]
  · isplitl [Hs] <;> iassumption
  iapply (Entails.of_eq (congrArg (owns thr M q) h)) $$ H

end Copies

end Cert.Proof

end
-- ==== Proof.Parts.lean ====
/-
  The parts of a tile's program: the row at the even place, the row at the odd place, the loop over the pairs of rows, and
  the whole program, over the bundle of a tile's memrefs.
-/
module

public import proofs.«01_k».proof.Proof.Loops
public import proofs.«01_k».proof.Proof.Copies

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The even row of pair `t`, up to its counts and offsets. -/
def Tile.evenCount (A : Tile) (v2 : BitVec 32) (v3 : IVec S16 32) (t : Fin k1_t1_loop.trips) :
    TProg F A.i (Σ' (arg26 : BitVec 32) (v31 : BitVec 32) (v53 : IVec S16 32), IVec S16 32) :=
  k1_part7 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 0#32 1#32 t

/-- The even row of pair `t`, from its counts and offsets on. -/
def Tile.evenPlace (A : Tile) (v2 : BitVec 32) (v3 : IVec S16 32) (t : Fin k1_t1_loop.trips) (arg26 v31 : BitVec 32) (v53 v56 : IVec S16 32) :
    TProg F A.i (BitVec 32) :=
  k1_part8 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 (k1_pay91 (F := F)) t arg26 v31 v53 v56

/-- The odd row of pair `t`. -/
def Tile.odd (A : Tile) (v2 : BitVec 32) (v3 : IVec S16 32) (t : Fin k1_t1_loop.trips) (v75 : BitVec 32) : TProg F A.i PUnit :=
  k1_part9 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 (k1_pay91 (F := F)) t v75

/-- One pair of rows. -/
def Tile.pair (A : Tile) (v2 : BitVec 32) (v3 : IVec S16 32) (t : Fin k1_t1_loop.trips) (acc : BitVec 32) : TProg F A.i (BitVec 32) :=
  k1_t1_body (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2 v2 v3 t acc

/-- The program up to the last even row's copy. -/
def Tile.rows (A : Tile) : TProg F A.i (BitVec 32) := k1_part10 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2

/-- The whole program of a tile. -/
def Tile.prog (A : Tile) : TProg F A.i PUnit := cc1__typed_coords_sc (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.arg21 A.arg22 A.arg23 A.arg24 A.arg25 A.v30_r0 A.v30_r1 A.v30_r2

end Cert.Proof

end
-- ==== Proof.Row.lean ====
/-
  What a tile leaves of one row: the four loops run to their ends, the row's counts and offsets put into the tables, and
  the row of placed coordinates as a function of the row.
-/
module

public import proofs.«01_k».proof.Proof.Parts

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

open Classical in
/-- The atom whose rank is `q`. -/
def atomAt (t : ℕ → ℕ) (q : ℕ) : ℕ := if h : ∃ m < 4096, rank t m = q then h.choose else 0

theorem atomAt_rank (t : ℕ → ℕ) {m : ℕ} (hm : m < 4096) : atomAt t (rank t m) = m := by
  have h : ∃ m' < 4096, rank t m' = rank t m := ⟨m, hm, rfl⟩
  unfold atomAt
  rw [dif_pos h]
  exact rank_inj h.choose_spec.1 hm h.choose_spec.2

theorem atomAt_spec (t : ℕ → ℕ) {q : ℕ} (hq : q < 4096) : atomAt t q < 4096 ∧ rank t (atomAt t q) = q := by
  obtain ⟨m, hm, rfl⟩ := rank_surj t hq
  rw [atomAt_rank t hm]
  exact ⟨hm, rfl⟩

/-- A row of coordinates in the order of its atoms' ranks. -/
def sortedRow {α : Type} (z : α) (t : ℕ → ℕ) (crd : ℕ → α) (p : ℕ) : α := placed z t crd (atomAt t (p / 3)) (p % 3)

theorem Placed.sorted {α : Type} {z : α} {t : ℕ → ℕ} {crd : ℕ → α} {o : ℕ → α} (H : Placed z t crd 256 0 o) :
    (vec o : (⟨1, ![12288]⟩ : Shape).Idx → α) = vec (sortedRow z t crd) := by
  refine vec_congr fun p hp => ?_
  obtain ⟨h1, h2⟩ := atomAt_spec t (q := p / 3) (by omega)
  have := H _ h1 (p % 3) (by omega) (by omega)
  rw [h2, show 3 * (p / 3) + p % 3 = p by omega] at this
  exact this

/-- The first `n` rows of a table of eleven columns. -/
def Tab (n : ℕ) (a : ℕ → BitVec 32) (f : ℕ → ℕ → ℕ) : Prop := ∀ j < n, ∀ c < 11, a (11 * j + c) = BitVec.ofNat 32 (f j c)

/-- A row scattered into the table, the lanes from the eleventh on masked. -/
theorem Tab.step {n : ℕ} {a b : ℕ → BitVec 32} {f : ℕ → ℕ → ℕ} (H : Tab n a f) (hn : n < 32) {mask : IVec Lane 1} {idx v : IVec Lane 32}
    (hm : ∀ x, mask x = 1 ↔ (x 0).val < 11) (hidx : ∀ x, (x 0).val < 11 → (idx x).toNat = 11 * n + (x 0).val)
    (hv : ∀ x, v x = BitVec.ofNat 32 (f n (x 0).val))
    (hs : (∀ m < 352, (∀ x, mask x = 1 → (idx x).toNat ≠ m) → b m = a m) ∧
      ∀ x, mask x = 1 → (∀ x', mask x' = 1 → (idx x').toNat = (idx x).toNat → v x' = v x) → b (idx x).toNat = v x) : Tab (n + 1) b f := by
  intro j hj c hc
  rcases Nat.lt_succ_iff_lt_or_eq.mp hj with hj | rfl
  · rw [hs.1 _ (by omega) fun x hx => ?_]
    · exact H j hj c hc
    · rw [hidx x ((hm x).mp hx)]
      have := (hm x).mp hx
      omega
  · have hx : ((laneOf c (by omega)) 0).val < 11 := by rw [laneOf_val]; exact hc
    have := hs.2 (laneOf c (by omega)) ((hm _).mpr hx) fun x' h' he => ?_
    · rw [hidx _ hx, hv, laneOf_val] at this
      exact this
    · rw [hidx _ hx, hidx _ ((hm x').mp h')] at he
      rw [hv, hv, show (x' 0).val = ((laneOf c (by omega) : Lane.Idx) 0).val by omega]

section Loops

variable {F : FTy → Type} [FloatOps F]
variable {Ix : Type} [DecidableEq Ix] {Name : Type} [DecidableEq Name]
variable {U : Type} [URA U] {Lvl : Type} [Preorder Lvl]
variable {defs : Defs nD τ sig (Elt F) Λ₀} (𝒱 : Variants) (A : Tile) (d : Dev nD) (bd : Option 𝒱.V) (E : Set Name)
variable {α : Type}

local notation "𝕄" => MT nD τ sig Ix (Elt F) Name U Lvl

variable {Q : α → sProp (MT nD τ sig Ix (Elt F) Name U Lvl)} {kk : Unit → TProg F A.i α}

/-- The zeroing loop. -/
theorem wp_zero_loop {body : Fin k1_t2_loop.trips → Unit → TProg F A.i Unit} {v2 : BitVec 32} {v3 : IVec S16 32} {c0 c1 : BitVec 32}
    {t : Fin k1_t1_loop.trips} (hb : ∀ k u, body k u = A.zero v2 v3 c0 c1 t k) {h : ℕ → BitVec 32} :
    (hv (A.thr d) A.arg15 h : sProp 𝕄)
      ⊢ iprop((∀ h', ⌜Zeroed 256 h'⌝ -∗ hv (A.thr d) A.arg15 h' -∗ wp frame (wpE defs 𝒱 (A.thr d) bd) E (kk ()) Q)
        -∗ wp frame (wpE defs 𝒱 (A.thr d) bd) E (Scf.Loop.for k1_t2_loop k1_t2_ok () body >>= kk : TProg F A.i α) Q) := by
  iintro H Hk
  iapply (Scf.wp_for_bind frame (wpE defs 𝒱 (A.thr d) bd) E _ _ _ k1_t2_ok () body
    (fun k _ => iprop(∃ h, ⌜Zeroed k h⌝ ∗ hv (A.thr d) A.arg15 h)) (fun k u => by rw [hb]; exact wp_zero 𝒱 A d bd E v2 v3 c0 c1 t k)) $$ [H]
  · iexists h
    isplitr; · ipureintro; exact fun m hm => absurd hm (by omega)
    iexact H
  iintro %u ⟨%h', %hz, H⟩
  ispecialize Hk $$ %h' %hz H
  iexact Hk

/-- The counting loop. -/
theorem wp_count_loop {body : Fin k1_t3_loop.trips → Unit → TProg F A.i Unit} {w : ℕ → BitVec 32} (hw : Packed w) {na : BitVec 32} {v2 : BitVec 32}
    {v3 : IVec S16 32} {c0 c1 : BitVec 32} {v48 : Vec F S16 .i32} {t : Fin k1_t1_loop.trips} (h3 : ∀ x, v3 x = BitVec.ofNat 32 (x 0).val)
    (h48 : ∀ x, v48 x = na) (hb : ∀ k u, body k u = A.countA v2 v3 c0 c1 t v48 k) {e h : ℕ → BitVec 32} (hz : Zeroed 256 h) :
    (iprop(hv (A.thr d) A.arg8 w ∗ hv (A.thr d) A.arg14 e ∗ hv (A.thr d) A.arg15 h) : sProp 𝕄)
      ⊢ iprop((∀ e' h', ⌜Counted (typ w na) (fun j => j % 64 < 64) e' h'⌝ -∗ hv (A.thr d) A.arg8 w -∗ hv (A.thr d) A.arg14 e' -∗ hv (A.thr d) A.arg15 h'
            -∗ wp frame (wpE defs 𝒱 (A.thr d) bd) E (kk ()) Q)
        -∗ wp frame (wpE defs 𝒱 (A.thr d) bd) E (Scf.Loop.for k1_t3_loop k1_t3_ok () body >>= kk : TProg F A.i α) Q) := by
  iintro ⟨H8, H14, H15⟩ Hk
  iapply (Scf.wp_for_bind frame (wpE defs 𝒱 (A.thr d) bd) E _ _ _ k1_t3_ok () body
    (fun k _ => iprop(∃ e h, ⌜Counted (typ w na) (fun j => j % 64 < k) e h⌝ ∗ hv (A.thr d) A.arg8 w ∗ hv (A.thr d) A.arg14 e ∗ hv (A.thr d) A.arg15 h))
    (fun k u => by rw [hb]; exact wp_count 𝒱 A d bd E hw v2 c0 c1 t k h3 h48)) $$ [H8 H14 H15]
  · iexists e, h
    isplitr; · ipureintro; exact hz.counted
    isplitl [H8]; · iexact H8
    isplitl [H14]; · iexact H14
    iexact H15
  iintro %u ⟨%e', %h', %hc, H8, H14, H15⟩
  ispecialize Hk $$ %e' %h' %hc H8 H14 H15
  iexact Hk

/-- The summing loop. -/
theorem wp_sums_loop {kk : IVec S16 32 → TProg F A.i α} {body : Fin k1_t4_loop.trips → IVec S16 32 → TProg F A.i (IVec S16 32)} {ty : ℕ → ℕ}
    {v2 : BitVec 32} {v3 : IVec S16 32} {c0 c1 : BitVec 32} {t : Fin k1_t1_loop.trips} (hb : ∀ k x, body k x = A.sums v2 v3 c0 c1 t k x)
    {x0 : IVec S16 32} (h0 : ∀ x, x0 x = 0#32) {h : ℕ → BitVec 32} (hs : Summed ty 0 h) :
    (hv (A.thr d) A.arg15 h : sProp 𝕄)
      ⊢ iprop((∀ (x : IVec S16 32) (h' : ℕ → BitVec 32), ⌜Summed ty 256 h' ∧ ∀ l, x l = BitVec.ofNat 32 (before ty (l 0).val 4096)⌝ -∗ hv (A.thr d) A.arg15 h'
            -∗ wp frame (wpE defs 𝒱 (A.thr d) bd) E (kk x) Q)
        -∗ wp frame (wpE defs 𝒱 (A.thr d) bd) E (Scf.Loop.for k1_t4_loop k1_t4_ok x0 body >>= kk : TProg F A.i α) Q) := by
  iintro H15 Hk
  iapply (Scf.wp_for_bind frame (wpE defs 𝒱 (A.thr d) bd) E _ _ _ k1_t4_ok x0 body
    (fun k x => iprop(∃ h, ⌜Summed ty k h ∧ Running ty k x⌝ ∗ hv (A.thr d) A.arg15 h))
    (fun k x => by rw [hb]; exact wp_sums 𝒱 A d bd E v2 v3 c0 c1 t k x)) $$ [H15]
  · iexists h
    isplitr; · ipureintro; exact ⟨hs, fun l => by rw [h0]; rfl⟩
    iexact H15
  iintro %x ⟨%h', %hc, H15⟩
  ispecialize Hk $$ %x %h' %hc H15
  iexact Hk

/-- The placing loop. -/
theorem wp_place_loop {body : Fin k1_t5_loop.trips → Unit → TProg F A.i Unit} {ty : ℕ → ℕ} (ht : ∀ m < 4096, ty m < 12) {e h off : ℕ → BitVec 32}
    {crd : ℕ → F .f32} {z : F .f32} (he : ∀ m < 4096, e m = BitVec.ofNat 32 (encOf ty m)) (hh : Summed ty 256 h)
    (hoff : ∀ c < 16, off c = BitVec.ofNat 32 (below ty c)) {v2 : BitVec 32} {v3 : IVec S16 32} {v4 : FVec F S16 .f32} {t : Fin k1_t1_loop.trips}
    {arg26 v31 : BitVec 32} {v53 v56 : IVec S16 32} (h3 : ∀ x, v3 x = BitVec.ofNat 32 (x 0).val) (h4 : ∀ x, v4 x = z)
    (hb : ∀ k u, body k u = A.place v2 v3 v4 t arg26 v31 v53 v56 k) {o : ℕ → F .f32} :
    (iprop(hv (A.thr d) A.arg12 o ∗ hv (A.thr d) A.arg10 crd ∗ hv (A.thr d) A.arg14 e ∗ hv (A.thr d) A.arg15 h ∗ hv (A.thr d) A.arg16 off) : sProp 𝕄)
      ⊢ iprop((hv (A.thr d) A.arg12 (sortedRow z ty crd) -∗ hv (A.thr d) A.arg10 crd -∗ hv (A.thr d) A.arg14 e -∗ hv (A.thr d) A.arg15 h
            -∗ hv (A.thr d) A.arg16 off -∗ wp frame (wpE defs 𝒱 (A.thr d) bd) E (kk ()) Q)
        -∗ wp frame (wpE defs 𝒱 (A.thr d) bd) E (Scf.Loop.for k1_t5_loop k1_t5_ok () body >>= kk : TProg F A.i α) Q) := by
  iintro ⟨H12, H10, H14, H15, H16⟩ Hk
  iapply (Scf.wp_for_bind frame (wpE defs 𝒱 (A.thr d) bd) E _ _ _ k1_t5_ok () body
    (fun k _ => iprop(∃ o, ⌜Placed z ty crd k 0 o⌝ ∗ hv (A.thr d) A.arg12 o ∗ hv (A.thr d) A.arg10 crd ∗ hv (A.thr d) A.arg14 e ∗ hv (A.thr d) A.arg15 h
        ∗ hv (A.thr d) A.arg16 off))
    (fun k u => by rw [hb]; exact wp_place 𝒱 A d bd E ht he hh hoff v2 t arg26 v31 v53 v56 k h3 h4)) $$ [H12 H10 H14 H15 H16]
  · iexists o
    isplitr; · ipureintro; exact fun m _ d _ h => absurd h (by omega)
    isplitl [H12]; · iexact H12
    isplitl [H10]; · iexact H10
    isplitl [H14]; · iexact H14
    isplitl [H15]; · iexact H15
    iexact H16
  iintro %u ⟨%o', %hp, H12, H10, H14, H15, H16⟩
  have hp' : Placed z ty crd 256 0 o' := hp
  ihave H12 := (show hv (A.thr d) A.arg12 o' ⊢ (hv (A.thr d) A.arg12 (sortedRow z ty crd) : sProp 𝕄) from by
    unfold hv; rw [hp'.sorted]) $$ H12
  ispecialize Hk $$ H12 H10 H14 H15 H16
  iexact Hk

/-- The zeroing loop of the odd row. -/
theorem wp_zero_loop_odd {body : Fin k1_t6_loop.trips → Unit → TProg F A.i Unit} {v2 : BitVec 32} {v3 : IVec S16 32} {c0 c1 : BitVec 32}
    {t : Fin k1_t1_loop.trips} (hb : ∀ k u, body k u = A.swap.zero v2 v3 c0 c1 t k) {h : ℕ → BitVec 32} :
    (hv (A.thr d) A.arg15 h : sProp 𝕄)
      ⊢ iprop((∀ h', ⌜Zeroed 256 h'⌝ -∗ hv (A.thr d) A.arg15 h' -∗ wp frame (wpE defs 𝒱 (A.thr d) bd) E (kk ()) Q)
        -∗ wp frame (wpE defs 𝒱 (A.thr d) bd) E (Scf.Loop.for k1_t6_loop k1_t6_ok () body >>= kk : TProg F A.i α) Q) :=
  wp_zero_loop 𝒱 A.swap d bd E (v2 := v2) (v3 := v3) (c0 := c0) (c1 := c1) (t := t) hb

/-- The counting loop of the odd row. -/
theorem wp_count_loop_odd {body : Fin k1_t7_loop.trips → Unit → TProg F A.i Unit} {w : ℕ → BitVec 32} (hw : Packed w) {na : BitVec 32} {v2 : BitVec 32}
    {v3 : IVec S16 32} {c0 c1 : BitVec 32} {v48 : Vec F S16 .i32} {t : Fin k1_t1_loop.trips} (h3 : ∀ x, v3 x = BitVec.ofNat 32 (x 0).val)
    (h48 : ∀ x, v48 x = na) (hb : ∀ k u, body k u = A.swap.countA v2 v3 c0 c1 t v48 k) {e h : ℕ → BitVec 32} (hz : Zeroed 256 h) :
    (iprop(hv (A.thr d) A.arg9 w ∗ hv (A.thr d) A.arg14 e ∗ hv (A.thr d) A.arg15 h) : sProp 𝕄)
      ⊢ iprop((∀ e' h', ⌜Counted (typ w na) (fun j => j % 64 < 64) e' h'⌝ -∗ hv (A.thr d) A.arg9 w -∗ hv (A.thr d) A.arg14 e' -∗ hv (A.thr d) A.arg15 h'
            -∗ wp frame (wpE defs 𝒱 (A.thr d) bd) E (kk ()) Q)
        -∗ wp frame (wpE defs 𝒱 (A.thr d) bd) E (Scf.Loop.for k1_t7_loop k1_t7_ok () body >>= kk : TProg F A.i α) Q) :=
  wp_count_loop 𝒱 A.swap d bd E (v2 := v2) (v3 := v3) (c0 := c0) (c1 := c1) (t := t) hw h3 h48 hb hz

/-- The summing loop of the odd row. -/
theorem wp_sums_loop_odd {kk : IVec S16 32 → TProg F A.i α} {body : Fin k1_t8_loop.trips → IVec S16 32 → TProg F A.i (IVec S16 32)} {ty : ℕ → ℕ}
    {v2 : BitVec 32} {v3 : IVec S16 32} {c0 c1 : BitVec 32} {t : Fin k1_t1_loop.trips} (hb : ∀ k x, body k x = A.swap.sums v2 v3 c0 c1 t k x)
    {x0 : IVec S16 32} (h0 : ∀ x, x0 x = 0#32) {h : ℕ → BitVec 32} (hs : Summed ty 0 h) :
    (hv (A.thr d) A.arg15 h : sProp 𝕄)
      ⊢ iprop((∀ (x : IVec S16 32) (h' : ℕ → BitVec 32), ⌜Summed ty 256 h' ∧ ∀ l, x l = BitVec.ofNat 32 (before ty (l 0).val 4096)⌝ -∗ hv (A.thr d) A.arg15 h'
            -∗ wp frame (wpE defs 𝒱 (A.thr d) bd) E (kk x) Q)
        -∗ wp frame (wpE defs 𝒱 (A.thr d) bd) E (Scf.Loop.for k1_t8_loop k1_t8_ok x0 body >>= kk : TProg F A.i α) Q) :=
  wp_sums_loop 𝒱 A.swap d bd E (v2 := v2) (v3 := v3) (c0 := c0) (c1 := c1) (t := t) hb h0 hs

/-- The placing loop of the odd row. -/
theorem wp_place_loop_odd {body : Fin k1_t9_loop.trips → Unit → TProg F A.i Unit} {ty : ℕ → ℕ} (ht : ∀ m < 4096, ty m < 12) {e h off : ℕ → BitVec 32}
    {crd : ℕ → F .f32} {z : F .f32} (he : ∀ m < 4096, e m = BitVec.ofNat 32 (encOf ty m)) (hh : Summed ty 256 h)
    (hoff : ∀ c < 16, off c = BitVec.ofNat 32 (below ty c)) {v2 : BitVec 32} {v3 : IVec S16 32} {v4 : FVec F S16 .f32} {t : Fin k1_t1_loop.trips}
    {arg26 v31 : BitVec 32} {v53 v56 : IVec S16 32} (h3 : ∀ x, v3 x = BitVec.ofNat 32 (x 0).val) (h4 : ∀ x, v4 x = z)
    (hb : ∀ k u, body k u = A.swap.place v2 v3 v4 t arg26 v31 v53 v56 k) {o : ℕ → F .f32} :
    (iprop(hv (A.thr d) A.arg13 o ∗ hv (A.thr d) A.arg11 crd ∗ hv (A.thr d) A.arg14 e ∗ hv (A.thr d) A.arg15 h ∗ hv (A.thr d) A.arg16 off) : sProp 𝕄)
      ⊢ iprop((hv (A.thr d) A.arg13 (sortedRow z ty crd) -∗ hv (A.thr d) A.arg11 crd -∗ hv (A.thr d) A.arg14 e -∗ hv (A.thr d) A.arg15 h
            -∗ hv (A.thr d) A.arg16 off -∗ wp frame (wpE defs 𝒱 (A.thr d) bd) E (kk ()) Q)
        -∗ wp frame (wpE defs 𝒱 (A.thr d) bd) E (Scf.Loop.for k1_t9_loop k1_t9_ok () body >>= kk : TProg F A.i α) Q) :=
  wp_place_loop 𝒱 A.swap d bd E (v2 := v2) (v3 := v3) (t := t) (arg26 := arg26) (v31 := v31) (v53 := v53) (v56 := v56) ht he hh hoff h3 h4 hb

end Loops

end Cert.Proof

end
-- ==== Proof.Flow.lean ====
/-
  What a tile holds between its steps: its inputs at rest, in flight or arrived, its output rows, its tables; and the rules
  for the copies between these states.
-/
module

public import proofs.«01_k».proof.Proof.Row
public import Idealize.SL.BI.BigOpNat

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-- The coordinates, the packed types and the numbers of atoms that the kernel on the SparseCores reads. -/
structure Inputs (F : FTy → Type) where
  crd : S1024x12288.Idx → F .f32
  wrd : S1024x1024.Idx → BitVec 32
  num : S1024.Idx → BitVec 32
  packed : ∀ r : Fin 1024, Packed (rowOf wrd (by omega) r)

section Spec

variable {F : FTy → Type} [FloatOps F] (I : Inputs F)

def Inputs.words (r : Fin 1024) : ℕ → BitVec 32 := rowOf I.wrd (by omega) r
def Inputs.coords (r : Fin 1024) : ℕ → F .f32 := rowOf I.crd (by omega) r
def Inputs.count (r : Fin 1024) : BitVec 32 := I.num (ValueIdx.ix1 r)

/-- The types of row `r`. -/
def Inputs.typ (r : Fin 1024) : ℕ → ℕ := Cert.Proof.typ (I.words r) (I.count r)

/-- The sorted coordinates of row `r`. -/
def Inputs.sorted (r : Fin 1024) : ℕ → F .f32 := sortedRow (Scalar.ofBits .f32 0x00000000#32) (I.typ r) (I.coords r)

theorem Inputs.typ_lt (r : Fin 1024) : ∀ m < 4096, I.typ r m < 12 := fun _ hm => Cert.Proof.typ_lt (I.packed r) _ hm

end Spec

/-- Row `j` of a tile's thirty-two rows. -/
def Tile.row (A : Tile) (j : ℕ) : Fin 1024 :=
  ⟨512 * (A.i 0).val + 32 * (A.i 1).val + j % 32, by
    have h0 : (A.i 0).val < 2 := (A.i 0).isLt
    have h1 : (A.i 1).val < 16 := (A.i 1).isLt
    omega⟩

theorem Tile.row_off (A : Tile) {j : ℕ} (hj : j < 32) {n : ℕ} (h : n = 512 * (A.i 0).val + 32 * (A.i 1).val + j) : (![n, 0] : Fin 2 → ℕ) = ![(A.row j).val, 0] := by
  subst h
  have : 512 * (A.i 0).val + 32 * (A.i 1).val + j = (A.row j).val := by unfold Tile.row; simp only [Nat.mod_eq_of_lt hj]
  rw [this]

variable {F : FTy → Type} [FloatOps F]
variable {Ix : Type} [DecidableEq Ix] {Name : Type} [DecidableEq Name]
variable {U : Type} [URA U] {Lvl : Type} [Preorder Lvl]
variable (EC : UEmb Counters (MT nD τ sig Ix (Elt F) Name U Lvl))
variable {defs : Defs nD τ sig (Elt F) Λ₀} (𝒱 : Variants) (d : Dev nD) {κ : Kind} (thr : Thread nD τ) (bd : Option 𝒱.V) (ι : Ix)
variable {α : Type} {Q : α → sProp (MT nD τ sig Ix (Elt F) Name U Lvl)}

local notation "𝕄" => MT nD τ sig Ix (Elt F) Name U Lvl

section Inputs

variable {R n : ℕ} {e : EltTy} (hn : 0 < n) (hq : (⟨2, ![1, n]⟩ : Shape).Squeezes ⟨1, ![n]⟩)
variable (M : Memref sig thr.2.kind .hbm ⟨2, ![R, n]⟩ e) (q : PosShare TreeShare) (X : (⟨2, ![R, n]⟩ : Shape).Idx → Elt F e) (r : Fin R)
variable (B : Memref sig thr.2.kind .vmem ⟨1, ![n]⟩ e) (sm : DmaSem sig)

/-- A row of `M` on its way to `B`. -/
def Fetching : sProp 𝕄 :=
  iprop(Copying EC thr ι sm (rowM M r hq) q B (vec (rowOf X hn r))
    ∗ (owns thr (rowM M r hq) q (vec (rowOf X hn r)) -∗ owns thr M q X))

/-- No row of `M` on its way to `B`. -/
def Idle : sProp 𝕄 := iprop(owns thr M q X ∗ (∃ b, hv thr B b) ∗ semVal (thr, .dma sm) 0)

/-- A row of `M` in `B`. -/
def Fetched : sProp 𝕄 := iprop(owns thr M q X ∗ hv thr B (rowOf X hn r) ∗ semVal (thr, .dma sm) 0)

omit [FloatOps F] [Preorder Lvl] in
theorem Fetched.idle : (Fetched thr hn M q X r B sm : sProp 𝕄) ⊢ Idle thr M q X B sm := by
  unfold Fetched Idle
  iintro ⟨H, HB, Hs⟩
  isplitl [H]; · iexact H
  isplitl [HB]; · iexists _; iexact HB
  iexact Hs

theorem wp_fetch [Infinite Name] [EC.LandsIn (upEmb : UEmb _ 𝕄)] {S' : Memref sig thr.2.kind .hbm ⟨1, ![n]⟩ e} (hS : S' = rowM M r hq)
    {hsrc : S'.view.WordExact} {hdst : B.view.WordExact} {hsem : DmaTarget.Typed (nD := nD) .hbm (.dma sm) (.here B)}
    {k : PUnit → Prog (TpuEff nD τ sig (Elt F) Λ₀ thr.2) α} :
    (Idle thr M q X B sm : sProp 𝕄)
      ⊢ iprop((Fetching EC thr ι hn hq M q X r B sm -∗ wp frame (wpE defs 𝒱 thr bd) Set.univ (k ⟨⟩) Q)
        -∗ wp frame (wpE defs 𝒱 thr bd) Set.univ (.op (.enqueueDma S' (.here B) (.dma sm) hsrc hdst hsem) k) Q) := by
  unfold Idle Fetching
  iintro ⟨HM, ⟨%b, HB⟩, Hs⟩ Hk
  ihave HM := (row_take thr hn M q X r hq) $$ HM
  icases HM with ⟨Hr, Hback⟩
  unfold hv
  iapply (wp_copy EC 𝒱 thr bd ι (by rw [Shape.numel_rank1]; exact hn) hS.symm rfl) $$ [Hr HB Hs]
  · isplitl [Hr]; · iexact Hr
    isplitl [HB]; · iexact HB
    iexact Hs
  iintro HF
  iapply Hk
  isplitl [HF]; · iexact HF
  iexact Hback

theorem wp_fetched [EC.LandsIn (upEmb : UEmb _ 𝕄)] {s' : Shape} {e' : EltTy} {sp1 : Space} {Sw : Memref sig thr.2.kind sp1 s' e'}
    {hsrc : Sw.view.WordExact} {hdst : B.view.WordExact} {O : CellTallies nD τ sig Ix} {W : Waits sig Ix}
    {k : PUnit → Prog (TpuEff nD τ sig (Elt F) Λ₀ thr.2) α} :
    (iprop(Fetching EC thr ι hn hq M q X r B sm ∗ Owes thr ι O W) : sProp 𝕄)
      ⊢ iprop((Fetched thr hn M q X r B sm -∗ Owes thr ι O W -∗ wp frame (wpE defs 𝒱 thr bd) Set.univ (k ⟨⟩) Q)
        -∗ wp frame (wpE defs 𝒱 thr bd) Set.univ (.op (.waitDma2 sm Sw B hsrc hdst) k) Q) := by
  unfold Fetched Fetching
  iintro ⟨⟨HF, Hback⟩, HO⟩ Hk
  iapply (wp_copied EC 𝒱 thr bd ι rfl) $$ [HF HO]
  · isplitl [HF]; · iexact HF
    iexact HO
  iintro ⟨HB, Hr, Hs, HO⟩
  iapply Hk $$ [HB Hr Hs Hback] [HO]
  · isplitl [Hr Hback]
    · iapply Hback $$ Hr
    isplitl [HB]; · unfold hv; iexact HB
    iexact Hs
  · iexact HO

end Inputs

section Outputs

variable (I : Inputs F) (A : Tile)

/-- A row of the sorted coordinates, written. -/
def RowDone (j : ℕ) : sProp 𝕄 := owns (A.thr d) (rowM A.arg5 (A.row j) squeezes_S1x12288_S12288) fullShare (vec (I.sorted (A.row j)))

/-- A row of the sorted coordinates, not yet written. -/
def RowFree (j : ℕ) : sProp 𝕄 := iprop(∃ X, owns (A.thr d) (rowM A.arg5 (A.row j) squeezes_S1x12288_S12288) fullShare X)

/-- Of the rows at place `k` of the pairs, those of the first `a` pairs written, those from pair `b` on not yet. -/
def RowsOut (k a b : ℕ) : sProp 𝕄 :=
  iprop(bigSep (Finset.range a) (fun p => RowDone d I A (2 * p + k)) ∗ bigSep (Finset.Ico b 16) fun p => RowFree d A (2 * p + k))

variable (B : Memref sig (A.thr d).2.kind .vmem S12288 .f32) (sm : DmaSem sig)

/-- The buffer `B` of the rows at place `k`, before its row of pair `p`: the row of the pair before on its way out. -/
def Sending (k p : ℕ) : sProp 𝕄 :=
  iprop((if p = 0 then iprop((∃ o, hv (A.thr d) B o) ∗ semVal (A.thr d, .dma sm) 0)
      else Copying EC (A.thr d) ι sm B fullShare (rowM A.arg5 (A.row (2 * (p - 1) + k)) squeezes_S1x12288_S12288)
        (vec (I.sorted (A.row (2 * (p - 1) + k))))) ∗ RowsOut d I A k (p - 1) p)

/-- The buffer at rest before its row of pair `p`. -/
def Rested (k p : ℕ) : sProp 𝕄 := iprop((∃ o, hv (A.thr d) B o) ∗ semVal (A.thr d, .dma sm) 0 ∗ RowsOut d I A k p p)

theorem Sending.first (k : ℕ) : (Sending EC d ι I A B sm k 0 : sProp 𝕄) ⊢ Rested d I A B sm k 0 := by
  unfold Sending Rested
  rw [if_pos rfl]
  iintro ⟨⟨HB, Hs⟩, HR⟩
  isplitl [HB]; · iexact HB
  isplitl [Hs]; · iexact Hs
  iexact HR

theorem Rested.first (k : ℕ) : (Rested d I A B sm k 0 : sProp 𝕄) ⊢ Sending EC d ι I A B sm k 0 := by
  unfold Sending Rested
  rw [if_pos rfl]
  iintro ⟨HB, Hs, HR⟩
  isplitl [HB Hs]
  · isplitl [HB]; · iexact HB
    iexact Hs
  iexact HR

/-- Waiting for the row before. -/
theorem wp_sent [EC.LandsIn (upEmb : UEmb _ 𝕄)] {k p : ℕ} (hp : 0 < p) {s' : Shape} {e' : EltTy} {sp1 : Space}
    {Sw : Memref sig (A.thr d).2.kind sp1 s' e'} {rr : Rect S1024x12288} {hr} {hq : (⟨2, rr.size⟩ : Shape).Squeezes S12288}
    {hsrc : Sw.view.WordExact} {hdst : ((A.arg5.slice rr hr).squeeze S12288 hq).view.WordExact} {O : CellTallies nD τ sig Ix} {W : Waits sig Ix}
    {kk : PUnit → Prog (TpuEff nD τ sig (Elt F) Λ₀ (A.thr d).2) α} :
    (iprop(Sending EC d ι I A B sm k p ∗ Owes (A.thr d) ι O W) : sProp 𝕄)
      ⊢ iprop((Rested d I A B sm k p -∗ Owes (A.thr d) ι O W -∗ wp frame (wpE defs 𝒱 (A.thr d) bd) Set.univ (kk ⟨⟩) Q)
        -∗ wp frame (wpE defs 𝒱 (A.thr d) bd) Set.univ (.op (.waitDma2 sm Sw ((A.arg5.slice rr hr).squeeze S12288 hq) hsrc hdst) kk) Q) := by
  have hb : ((A.arg5.slice rr hr).squeeze S12288 hq).view.dmaCredit = (rowM A.arg5 (A.row (2 * (p - 1) + k)) squeezes_S1x12288_S12288).view.dmaCredit := rfl
  revert hb
  generalize (A.arg5.slice rr hr).squeeze S12288 hq = Bw at hdst ⊢
  intro hb
  obtain ⟨p, rfl⟩ := Nat.exists_eq_succ_of_ne_zero hp.ne'
  unfold Sending Rested RowsOut
  rw [if_neg (by omega), Nat.succ_eq_add_one, Nat.add_sub_cancel]
  iintro ⟨⟨HF, HD, HR⟩, HO⟩ Hk
  iapply (wp_copied EC 𝒱 (A.thr d) bd ι hb) $$ [HF HO]
  · isplitl [HF]; · iexact HF
    iexact HO
  iintro ⟨Hr, HB, Hs, HO⟩
  iapply Hk $$ [HB Hr Hs HD HR] [HO]
  · isplitl [HB]; · iexists _; unfold hv; iexact HB
    isplitl [Hs]; · iexact Hs
    isplitl [Hr HD]
    · rw [bigSep_range_succ]
      isplitl [Hr]; · unfold RowDone; iexact Hr
      iexact HD
    iexact HR
  · iexact HO

/-- Sending the row of pair `p`. -/
theorem wp_send [Infinite Name] [EC.LandsIn (upEmb : UEmb _ 𝕄)] {k p : ℕ} (hp : p < 16) {B' : Memref sig (A.thr d).2.kind .hbm S12288 .f32}
    (hB : B' = rowM A.arg5 (A.row (2 * p + k)) squeezes_S1x12288_S12288)
    {hsrc : B.view.WordExact} {hdst : B'.view.WordExact} {hsem : DmaTarget.Typed (nD := nD) .vmem (.dma sm) (.here B')}
    {kk : PUnit → Prog (TpuEff nD τ sig (Elt F) Λ₀ (A.thr d).2) α} :
    (iprop(hv (A.thr d) B (I.sorted (A.row (2 * p + k))) ∗ semVal (A.thr d, .dma sm) 0 ∗ RowsOut d I A k p p) : sProp 𝕄)
      ⊢ iprop((Sending EC d ι I A B sm k (p + 1) -∗ wp frame (wpE defs 𝒱 (A.thr d) bd) Set.univ (kk ⟨⟩) Q)
        -∗ wp frame (wpE defs 𝒱 (A.thr d) bd) Set.univ (.op (.enqueueDma B (.here B') (.dma sm) hsrc hdst hsem) kk) Q) := by
  unfold Sending RowsOut
  rw [if_neg (by omega), Nat.add_sub_cancel, bigSep_Ico_succ_bot hp]
  iintro ⟨HB, Hs, HD, HR0, HR⟩ Hk
  unfold RowFree hv
  icases HR0 with ⟨%X, HR0⟩
  iapply (wp_copy EC 𝒱 (A.thr d) bd ι (by rw [Shape.numel_rank1]; exact (by decide : 0 < 12288)) rfl hB.symm) $$ [HB HR0 Hs]
  · isplitl [HB]; · iexact HB
    isplitl [HR0]; · iexact HR0
    iexact Hs
  iintro HF
  iapply Hk
  isplitl [HF]; · iexact HF
  isplitl [HD]; · iexact HD
  iexact HR

/-- The inputs of the even row of pair `p` on their way, if there is such a pair. -/
def Next (q : PosShare TreeShare) (p : ℕ) : sProp 𝕄 :=
  if p < 16 then
    iprop(Fetching EC (A.thr d) ι (by omega) squeezes_S1x1024_S1024 A.arg3 q I.wrd (A.row (2 * p)) A.arg8 A.arg20.sem
      ∗ Fetching EC (A.thr d) ι (by omega) squeezes_S1x12288_S12288 A.arg2 q I.crd (A.row (2 * p)) A.arg10 A.arg22.sem)
  else iprop(Idle (A.thr d) A.arg3 q I.wrd A.arg8 A.arg20.sem ∗ Idle (A.thr d) A.arg2 q I.crd A.arg10 A.arg22.sem)

/-- The tables of counts and offsets, the first `n` rows of them filled. -/
def Tables (n : ℕ) : sProp 𝕄 :=
  iprop(∃ co of, ⌜Tab n co (fun j c => before (I.typ (A.row j)) c 4096) ∧ Tab n of (fun j c => below (I.typ (A.row j)) c)⌝
    ∗ hv (A.thr d) A.arg18 co ∗ hv (A.thr d) A.arg19 of)

/-- The buffers that a row is worked out in. -/
def Scratch : sProp 𝕄 := iprop(∃ e h off, hv (A.thr d) A.arg14 e ∗ hv (A.thr d) A.arg15 h ∗ hv (A.thr d) A.arg16 off)

/-- The numbers of atoms of the tile's rows. -/
def Nums : sProp 𝕄 := iprop(∃ na, ⌜∀ j < 32, na j = I.count (A.row j)⌝ ∗ hv (A.thr d) A.arg17 na)

end Outputs

/-- Steps under a condition, skipped when the condition fails. -/
theorem wp_under {A : Tile} {E : Set Name} {β : Type} {c : Prop} [Decidable c] {f : c → TProg F A.i β} {k : TProg F A.i β} {kk : β → TProg F A.i α}
    {P R : sProp 𝕄}
    (h1 : ∀ h : c, P ⊢ iprop((R -∗ wp frame (wpE defs 𝒱 (A.thr d) bd) E (k >>= kk : TProg F A.i α) Q)
      -∗ wp frame (wpE defs 𝒱 (A.thr d) bd) E (f h >>= kk : TProg F A.i α) Q))
    (h2 : ¬c → P ⊢ R) :
    P ⊢ iprop((R -∗ wp frame (wpE defs 𝒱 (A.thr d) bd) E (k >>= kk : TProg F A.i α) Q)
      -∗ wp frame (wpE defs 𝒱 (A.thr d) bd) E ((dite c f fun _ => k) >>= kk : TProg F A.i α) Q) := by
  by_cases hc : c
  · rw [dif_pos hc]; exact h1 hc
  · rw [dif_neg hc]
    iintro HP Hk
    iapply Hk
    iapply (h2 hc) $$ HP

end Cert.Proof

end
-- ==== Proof.Even.lean ====
/-
  The even row of a pair: its row fetched, its types counted, its counts and offsets put into the tables, its coordinates
  placed and sent.
-/
module

public import proofs.«01_k».proof.Proof.Flow

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

theorem cond1 : ∀ t : Fin k1_t1_loop.trips, k1_cond1 t = 1#1 := by decide +kernel
theorem cond2 : ∀ t : Fin k1_t1_loop.trips, k1_cond2 t = 1#1 ↔ 0 < t.val := by decide +kernel
theorem cond3 : ∀ t : Fin k1_t1_loop.trips, k1_cond3 t = 1#1 ↔ t.val + 1 < 16 := by decide +kernel
theorem cond4 : ∀ t : Fin k1_t1_loop.trips, k1_cond4 t = 1#1 ↔ 0 < t.val := by decide +kernel

theorem trips_lt (t : Fin k1_t1_loop.trips) : t.val < 16 := lt_of_lt_of_eq t.isLt (by decide)

/-- The number of a pair's even row. -/
theorem even_word (t : ℕ) : Scalar.addi (Scalar.muli (Scf.iv 0#32 1#32 t) 2#32) 0#32 = BitVec.ofNat 32 (2 * t) := by
  unfold Scalar.addi Scalar.muli IntOp.addi IntOp.muli
  rw [iv_word, BitVec.add_zero, ← BitVec.ofNat_mul, Nat.mul_comm]

/-- The mask of the first eleven lanes. -/
theorem mask_iff {v3 : IVec S16 32} (h3 : ∀ x, v3 x = BitVec.ofNat 32 (x 0).val) (x : Lane.Idx) : k1_pay74 v3 x = 1#1 ↔ (x 0).val < 11 := by
  show IntOp.cmpi .slt (v3 x) 11#32 = 1#1 ↔ _
  rw [h3]
  have h : ∀ l : Fin 16, IntOp.cmpi .slt (BitVec.ofNat 32 l.val) 11#32 = 1#1 ↔ l.val < 11 := by decide +kernel
  exact h (x 0)

/-- The places of a table's row: the columns of row `j` on the first eleven lanes, zero elsewhere. -/
theorem table_idx {v3 : IVec S16 32} (h3 : ∀ x, v3 x = BitVec.ofNat 32 (x 0).val) {v31 : BitVec 32} {j : ℕ} (hj : j < 32) (h31 : v31 = BitVec.ofNat 32 j)
    (x : Lane.Idx) : (k1_pay75 v3 v31 x).toNat < 352 ∧ ((x 0).val < 11 → (k1_pay75 v3 v31 x).toNat = 11 * j + (x 0).val) := by
  show (Scalar.select (k1_pay74 v3 x) (IntOp.addi (Scalar.muli v31 11#32) (v3 x)) 0#32).toNat < 352 ∧
    (_ → (Scalar.select (k1_pay74 v3 x) (IntOp.addi (Scalar.muli v31 11#32) (v3 x)) 0#32).toNat = _)
  unfold Scalar.select
  by_cases hx : (x 0).val < 11
  · rw [(mask_iff h3 x).mpr hx, if_pos (by decide)]
    have : (IntOp.addi (Scalar.muli v31 11#32) (v3 x)).toNat = 11 * j + (x 0).val := by
      subst h31
      rw [h3]
      unfold Scalar.muli IntOp.addi IntOp.muli
      rw [← BitVec.ofNat_mul, ← BitVec.ofNat_add, toNat_small (by omega), Nat.mul_comm]
    omega
  · rw [if_neg (show ¬ k1_pay74 v3 x = 1 from fun h => hx ((mask_iff h3 x).mp h))]
    exact ⟨by decide, fun h => absurd h hx⟩

theorem offsets_lane {ty : ℕ → ℕ} {v53 : IVec S16 32} (h : ∀ x, v53 x = BitVec.ofNat 32 (before ty (x 0).val 4096)) (x : Lane.Idx) :
    k1_pay73 v53 x = BitVec.ofNat 32 (below ty (x 0).val) := by
  rw [below_eq_sum]
  exact scan_sub_lane h x

variable {F : FTy → Type} [FloatOps F]
variable {Ix : Type} [DecidableEq Ix] {Name : Type} [DecidableEq Name]
variable {U : Type} [URA U] {Lvl : Type} [Preorder Lvl]
variable (EC : UEmb Counters (MT nD τ sig Ix (Elt F) Name U Lvl)) [Infinite Name] [EC.LandsIn (upEmb : UEmb _ (MT nD τ sig Ix (Elt F) Name U Lvl))]
variable {defs : Defs nD τ sig (Elt F) Λ₀} (𝒱 : Variants) (d : Dev nD) (bd : Option 𝒱.V) (ι : Ix) (I : Inputs F) (A : Tile)
variable {α : Type} {Q : α → sProp (MT nD τ sig Ix (Elt F) Name U Lvl)}

local notation "𝕄" => MT nD τ sig Ix (Elt F) Name U Lvl

variable {O : CellTallies nD τ sig Ix} {W : Waits sig Ix} {q0 q1 : PosShare TreeShare}

/-- What the counting of a row leaves in the scratch buffers. -/
def Ready (r : Fin 1024) : sProp 𝕄 :=
  iprop(∃ e h off, ⌜(∀ m < 4096, e m = BitVec.ofNat 32 (encOf (I.typ r) m)) ∧ Summed (I.typ r) 256 h⌝
    ∗ hv (A.thr d) A.arg14 e ∗ hv (A.thr d) A.arg15 h ∗ hv (A.thr d) A.arg16 off)

theorem wp_evenCount {v2 : BitVec 32} {v3 : IVec S16 32} (h3 : ∀ x, v3 x = BitVec.ofNat 32 (x 0).val) (t : Fin k1_t1_loop.trips)
    {kk : (Σ' (_ : BitVec 32) (_ : BitVec 32) (_ : IVec S16 32), IVec S16 32) → TProg F A.i α} :
    (iprop(Fetching EC (A.thr d) ι (by omega) squeezes_S1x1024_S1024 A.arg3 q0 I.wrd (A.row (2 * t.val)) A.arg8 A.arg20.sem
        ∗ Fetching EC (A.thr d) ι (by omega) squeezes_S1x12288_S12288 A.arg2 q0 I.crd (A.row (2 * t.val)) A.arg10 A.arg22.sem
        ∗ Idle (A.thr d) A.arg3 q1 I.wrd A.arg9 A.arg21.sem ∗ Idle (A.thr d) A.arg2 q1 I.crd A.arg11 A.arg23.sem
        ∗ Scratch d A ∗ Nums d I A ∗ Owes (A.thr d) ι O W) : sProp 𝕄)
      ⊢ iprop((∀ v53 v56, ⌜(∀ x : Lane.Idx, v53 x = BitVec.ofNat 32 (before (I.typ (A.row (2 * t.val))) (x 0).val 4096)) ∧
              ∀ x : Lane.Idx, v56 x = BitVec.ofNat 32 (below (I.typ (A.row (2 * t.val))) (x 0).val)⌝
            -∗ Fetching EC (A.thr d) ι (by omega) squeezes_S1x1024_S1024 A.arg3 q1 I.wrd (A.row (2 * t.val + 1)) A.arg9 A.arg21.sem
            -∗ Fetching EC (A.thr d) ι (by omega) squeezes_S1x12288_S12288 A.arg2 q1 I.crd (A.row (2 * t.val + 1)) A.arg11 A.arg23.sem
            -∗ Fetched (A.thr d) (by omega) A.arg3 q0 I.wrd (A.row (2 * t.val)) A.arg8 A.arg20.sem
            -∗ Fetched (A.thr d) (by omega) A.arg2 q0 I.crd (A.row (2 * t.val)) A.arg10 A.arg22.sem
            -∗ Ready d I A (A.row (2 * t.val)) -∗ Nums d I A -∗ Owes (A.thr d) ι O W
            -∗ wp frame (wpE defs 𝒱 (A.thr d) bd) Set.univ (kk ⟨BitVec.ofNat 32 t.val, BitVec.ofNat 32 (2 * t.val), v53, v56⟩) Q)
        -∗ wp frame (wpE defs 𝒱 (A.thr d) bd) Set.univ (A.evenCount v2 v3 t >>= kk : TProg F A.i α) Q) := by
  have ht := trips_lt t
  unfold Tile.evenCount
  rw [k1_part7_eq_skeleton]
  unfold k1_part7_skel
  simp only [dif_pos (cond1 t), Prog.bind_lift, Prog.bind_op, Prog.bind_assoc, pure_bind, even_word]
  simp only [iv_word]
  iintro ⟨HT0, HC0, HT1, HC1, HS, HN, HO⟩ Hk
  iapply (wp_fetch EC 𝒱 (A.thr d) bd ι (by omega) squeezes_S1x1024_S1024 A.arg3 q1 I.wrd (A.row (2 * t.val + 1)) A.arg9 A.arg21.sem
    (rowM_of ((k1_off4_eq A.i t).trans (A.row_off (by omega) (by omega))))) $$ HT1
  iintro HT1
  iapply (wp_fetch EC 𝒱 (A.thr d) bd ι (by omega) squeezes_S1x12288_S12288 A.arg2 q1 I.crd (A.row (2 * t.val + 1)) A.arg11 A.arg23.sem
    (rowM_of ((k1_off5_eq A.i t).trans (A.row_off (by omega) (by omega))))) $$ HC1
  iintro HC1
  iapply (wp_fetched EC 𝒱 (A.thr d) bd ι (by omega) squeezes_S1x1024_S1024 A.arg3 q0 I.wrd (A.row (2 * t.val)) A.arg8 A.arg20.sem) $$ [HT0 HO]
  · isplitl [HT0]; · iexact HT0
    iexact HO
  iintro HT0 HO
  iapply (wp_fetched EC 𝒱 (A.thr d) bd ι (by omega) squeezes_S1x12288_S12288 A.arg2 q0 I.crd (A.row (2 * t.val)) A.arg10 A.arg22.sem) $$ [HC0 HO]
  · isplitl [HC0]; · iexact HC0
    iexact HO
  iintro HC0 HO
  have hidx : ∀ x, (k1_pay63 0#32 1#32 t x).toNat = 2 * t.val := fun x => by
    show (IntOp.addi 0#32 (Scalar.addi (Scalar.muli (Scf.iv 0#32 1#32 t) 2#32) 0#32)).toNat = _
    rw [even_word]
    unfold IntOp.addi
    rw [BitVec.zero_add, toNat_small (by omega)]
  rw [wp_assume_of 𝒱 (A.thr d) bd Set.univ (show k1_chk1 _ from idx_inb fun x => by rw [hidx]; omega)]
  unfold Nums Scratch
  icases HN with ⟨%na, %hna, HN⟩
  icases HS with ⟨%e, %h, %off, H14, H15, H16⟩
  iapply (wp_gather16 𝒱 (A.thr d) bd Set.univ) $$ HN
  iintro HN
  iapply (wp_zero_loop 𝒱 A d bd Set.univ (v2 := v2) (v3 := v3) (c0 := 0#32) (c1 := 1#32) (t := t) (fun _ _ => rfl)) $$ H15
  iintro %h' %hz H15
  unfold Fetched
  icases HT0 with ⟨HT0, H8, Hs⟩
  iapply (wp_count_loop 𝒱 A d bd Set.univ (v2 := v2) (v3 := v3) (c0 := 0#32) (c1 := 1#32) (t := t) (I.packed (A.row (2 * t.val))) (na := I.count (A.row (2 * t.val))) h3
    (fun x => by show na (k1_pay63 0#32 1#32 t x).toNat = _; rw [hidx]; exact hna _ (by omega)) (fun _ _ => rfl) hz) $$ [H8 H14 H15]
  · isplitl [H8]; · iexact H8
    isplitl [H14]; · iexact H14
    iexact H15
  iintro %e' %h'' %hc H8 H14 H15
  iapply (wp_sums_loop 𝒱 A d bd Set.univ (v2 := v2) (v3 := v3) (c0 := 0#32) (c1 := 1#32) (t := t) (fun _ _ => rfl) (fun _ => rfl) hc.summed) $$ H15
  iintro %v53 %h3' %hs H15
  iapply (wp_load16 𝒱 (A.thr d) bd Set.univ) $$ H16
  iintro H16
  iapply Hk $$ %v53 %_ [] HT1 HC1 [HT0 H8 Hs] HC0 [H14 H15 H16] [HN] HO
  · ipureintro
    exact ⟨hs.2, offsets_lane hs.2⟩
  · isplitl [HT0]; · iexact HT0
    isplitl [H8]; · iexact H8
    iexact Hs
  · unfold Ready
    iexists e', h3', off
    isplitr; · ipureintro; exact ⟨fun m hm => hc.enc hm, hs.1⟩
    isplitl [H14]; · iexact H14
    isplitl [H15]; · iexact H15
    iexact H16
  · iexists na
    isplitr; · ipureintro; exact hna
    iexact HN

theorem odd_word (t : ℕ) : Scalar.addi (Scalar.muli (BitVec.ofNat 32 t) 2#32) 1#32 = BitVec.ofNat 32 (2 * t + 1) := by
  unfold Scalar.addi Scalar.muli IntOp.addi IntOp.muli
  rw [← BitVec.ofNat_mul, ← BitVec.ofNat_add, Nat.mul_comm]

theorem wp_evenPlace {v2 : BitVec 32} {v3 : IVec S16 32} (h3 : ∀ x, v3 x = BitVec.ofNat 32 (x 0).val) (t : Fin k1_t1_loop.trips) {v53 v56 : IVec S16 32}
    (h53 : ∀ x : Lane.Idx, v53 x = BitVec.ofNat 32 (before (I.typ (A.row (2 * t.val))) (x 0).val 4096))
    (h56 : ∀ x : Lane.Idx, v56 x = BitVec.ofNat 32 (below (I.typ (A.row (2 * t.val))) (x 0).val)) {kk : BitVec 32 → TProg F A.i α} :
    (iprop(Ready d I A (A.row (2 * t.val)) ∗ Tables d I A (2 * t.val) ∗ Sending EC d ι I A A.arg12 A.arg24.sem 0 t.val
        ∗ Fetched (A.thr d) (by omega) A.arg3 q0 I.wrd (A.row (2 * t.val)) A.arg8 A.arg20.sem
        ∗ Fetched (A.thr d) (by omega) A.arg2 q0 I.crd (A.row (2 * t.val)) A.arg10 A.arg22.sem
        ∗ Fetching EC (A.thr d) ι (by omega) squeezes_S1x1024_S1024 A.arg3 q1 I.wrd (A.row (2 * t.val + 1)) A.arg9 A.arg21.sem
        ∗ Owes (A.thr d) ι O W) : sProp 𝕄)
      ⊢ iprop((Scratch d A -∗ Tables d I A (2 * t.val + 1) -∗ Sending EC d ι I A A.arg12 A.arg24.sem 0 (t.val + 1) -∗ Next EC d ι I A q0 (t.val + 1)
            -∗ Fetched (A.thr d) (by omega) A.arg3 q1 I.wrd (A.row (2 * t.val + 1)) A.arg9 A.arg21.sem -∗ Owes (A.thr d) ι O W
            -∗ wp frame (wpE defs 𝒱 (A.thr d) bd) Set.univ (kk (BitVec.ofNat 32 (2 * t.val + 1))) Q)
        -∗ wp frame (wpE defs 𝒱 (A.thr d) bd) Set.univ
            (A.evenPlace v2 v3 t (BitVec.ofNat 32 t.val) (BitVec.ofNat 32 (2 * t.val)) v53 v56 >>= kk : TProg F A.i α) Q) := by
  have ht := trips_lt t
  unfold Tile.evenPlace
  rw [k1_part8_eq_skeleton]
  unfold k1_part8_skel
  simp only [Prog.bind_lift, Prog.bind_op, Prog.bind_assoc, pure_bind, odd_word]
  iintro ⟨HS, HTab, HSend, HT0, HC0, HT1, HO⟩ Hk
  unfold Ready Tables
  icases HS with ⟨%e, %h, %off, %hr, H14, H15, H16⟩
  icases HTab with ⟨%co, %of, %htab, H18, H19⟩
  iapply (wp_store16 𝒱 (A.thr d) bd Set.univ) $$ H16
  iintro H16
  have hi := table_idx h3 (v31 := BitVec.ofNat 32 (2 * t.val)) (j := 2 * t.val) (by omega) rfl
  rw [wp_assume_of 𝒱 (A.thr d) bd Set.univ (show k1_chk6 _ from ⟨idx_inb fun x => (hi x).1, idx_inb fun x => (hi x).1⟩)]
  iapply (wp_scatter16 𝒱 (A.thr d) bd Set.univ (by omega)) $$ H18
  iintro %co' %hco H18
  iapply (wp_scatter16 𝒱 (A.thr d) bd Set.univ (by omega)) $$ H19
  iintro %of' %hof H19
  have ht1 := htab.1.step (by omega) (mask_iff h3) (fun x => (hi x).2) h53 hco
  have ht2 := htab.2.step (by omega) (mask_iff h3) (fun x => (hi x).2) h56 hof
  iapply (wp_under 𝒱 d bd (P := iprop(Sending EC d ι I A A.arg12 A.arg24.sem 0 t.val ∗ Owes (A.thr d) ι O W))
    (R := iprop(Rested d I A A.arg12 A.arg24.sem 0 t.val ∗ Owes (A.thr d) ι O W)) ?_ ?_) $$ [HSend HO]
  · intro hc
    simp only [Prog.bind_op]
    iintro HP Hk
    iapply (wp_sent EC 𝒱 d bd ι I A A.arg12 A.arg24.sem ((cond2 t).mp hc)) $$ HP
    iintro HR HO
    iapply Hk
    isplitl [HR]; · iexact HR
    iexact HO
  · intro hc
    have h0 : t.val = 0 := Nat.eq_zero_of_not_pos fun h => hc ((cond2 t).mpr h)
    rw [h0]
    iintro ⟨HR, HO⟩
    isplitl [HR]; · iapply (Sending.first EC d ι I A A.arg12 A.arg24.sem 0) $$ HR
    iexact HO
  · isplitl [HSend]; · iexact HSend
    iexact HO
  iintro ⟨HR, HO⟩
  simp only [Prog.bind_op, Prog.bind_assoc]
  unfold Rested
  icases HR with ⟨⟨%o, H12⟩, Hs12, HRows⟩
  unfold Fetched
  icases HC0 with ⟨HC0, H10, Hs10⟩
  have hoff : ∀ c < 16, put16 off 0 v56 c = BitVec.ofNat 32 (below (I.typ (A.row (2 * t.val))) c) := fun c hc =>
    ((congrArg (put16 off 0 v56) (Nat.zero_add c).symm).trans (put16_of_lt off 0 v56 ⟨c, hc⟩)).trans (h56 (ValueIdx.ix1 ⟨c, hc⟩))
  iapply (wp_place_loop 𝒱 A d bd Set.univ (v2 := v2) (v3 := v3) (t := t) (arg26 := BitVec.ofNat 32 t.val) (v31 := BitVec.ofNat 32 (2 * t.val))
    (v53 := v53) (v56 := v56) (z := Scalar.ofBits .f32 0x00000000#32) (I.typ_lt (A.row (2 * t.val))) hr.1 hr.2
    (off := put16 off 0 v56) hoff h3 (fun _ => rfl) (fun _ _ => rfl)) $$ [H12 H10 H14 H15 H16]
  · isplitl [H12]; · iexact H12
    isplitl [H10]; · iexact H10
    isplitl [H14]; · iexact H14
    isplitl [H15]; · iexact H15
    iexact H16
  iintro H12 H10 H14 H15 H16
  iapply (wp_send EC 𝒱 d bd ι I A A.arg12 A.arg24.sem (k := 0) ht
    (rowM_of ((k1_off17_eq A.i t 0).trans (A.row_off (by omega) (by rfl))))) $$ [H12 Hs12 HRows]
  · isplitl [H12]; · iexact H12
    isplitl [Hs12]; · iexact Hs12
    iexact HRows
  iintro HSend
  iapply (wp_under 𝒱 d bd (P := iprop(Idle (A.thr d) A.arg3 q0 I.wrd A.arg8 A.arg20.sem ∗ Idle (A.thr d) A.arg2 q0 I.crd A.arg10 A.arg22.sem))
    (R := Next EC d ι I A q0 (t.val + 1)) ?_ ?_) $$ [HT0 HC0 H10 Hs10]
  · intro hc
    simp only [Prog.bind_op]
    unfold Next
    rw [if_pos ((cond3 t).mp hc)]
    iintro ⟨HT0, HC0⟩ Hk
    iapply (wp_fetch EC 𝒱 (A.thr d) bd ι (by omega) squeezes_S1x1024_S1024 A.arg3 q0 I.wrd (A.row (2 * (t.val + 1))) A.arg8 A.arg20.sem
      (rowM_of ((k1_off18_eq A.i t).trans (A.row_off (by have := (cond3 t).mp hc; omega) (by omega))))) $$ HT0
    iintro HT0
    iapply (wp_fetch EC 𝒱 (A.thr d) bd ι (by omega) squeezes_S1x12288_S12288 A.arg2 q0 I.crd (A.row (2 * (t.val + 1))) A.arg10 A.arg22.sem
      (rowM_of ((k1_off19_eq A.i t).trans (A.row_off (by have := (cond3 t).mp hc; omega) (by omega))))) $$ HC0
    iintro HC0
    iapply Hk
    isplitl [HT0]; · iexact HT0
    iexact HC0
  · intro hc
    unfold Next
    rw [if_neg (fun h => hc ((cond3 t).mpr h))]
  · isplitl [HT0]
    · icases HT0 with ⟨H, HB, Hs⟩
      unfold Idle
      isplitl [H]; · iexact H
      isplitl [HB]; · iexists _; iexact HB
      iexact Hs
    · unfold Idle
      isplitl [HC0]; · iexact HC0
      isplitl [H10]; · iexists _; iexact H10
      iexact Hs10
  iintro HNext
  simp only [Prog.bind_op, pure_bind]
  iapply (wp_fetched EC 𝒱 (A.thr d) bd ι (by omega) squeezes_S1x1024_S1024 A.arg3 q1 I.wrd (A.row (2 * t.val + 1)) A.arg9 A.arg21.sem) $$ [HT1 HO]
  · isplitl [HT1]; · iexact HT1
    iexact HO
  iintro HT1 HO
  unfold Fetched
  iapply Hk $$ [H14 H15 H16] [H18 H19] HSend HNext HT1 HO
  · unfold Scratch
    iexists _, _, _
    isplitl [H14]; · iexact H14
    isplitl [H15]; · iexact H15
    iexact H16
  · iexists co', of'
    isplitr; · ipureintro; exact ⟨ht1, ht2⟩
    isplitl [H18]; · iexact H18
    iexact H19

end Cert.Proof

end
-- ==== Proof.Odd.lean ====
/-
  The odd row of a pair, and the pair.
-/
module

public import proofs.«01_k».proof.Proof.Even

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name]
variable {U : Type} [URA U] {Lvl : Type} [Preorder Lvl]
variable (EC : UEmb Counters (MT nD τ sig Ix (Elt F) Name U Lvl)) [Infinite Name] [EC.LandsIn (upEmb : UEmb _ (MT nD τ sig Ix (Elt F) Name U Lvl))]
variable {defs : Defs nD τ sig (Elt F) Λ₀} (𝒱 : Variants) (d : Dev nD) (bd : Option 𝒱.V) (ι : Ix) (I : Inputs F) (A : Tile)
variable {α : Type} {Q : α → sProp (MT nD τ sig Ix (Elt F) Name U Lvl)}

local notation "𝕄" => MT nD τ sig Ix (Elt F) Name U Lvl

variable {O : CellTallies nD τ sig Ix} {W : Waits sig Ix} {q0 q1 : PosShare TreeShare}

theorem wp_odd {v2 : BitVec 32} {v3 : IVec S16 32} (h3 : ∀ x, v3 x = BitVec.ofNat 32 (x 0).val) (t : Fin k1_t1_loop.trips) {kk : PUnit → TProg F A.i α} :
    (iprop(Fetched (A.thr d) (by omega) A.arg3 q1 I.wrd (A.row (2 * t.val + 1)) A.arg9 A.arg21.sem
        ∗ Fetching EC (A.thr d) ι (by omega) squeezes_S1x12288_S12288 A.arg2 q1 I.crd (A.row (2 * t.val + 1)) A.arg11 A.arg23.sem
        ∗ Scratch d A ∗ Nums d I A ∗ Tables d I A (2 * t.val + 1) ∗ Sending EC d ι I A A.arg13 A.arg25.sem 1 t.val ∗ Owes (A.thr d) ι O W) : sProp 𝕄)
      ⊢ iprop((Idle (A.thr d) A.arg3 q1 I.wrd A.arg9 A.arg21.sem -∗ Idle (A.thr d) A.arg2 q1 I.crd A.arg11 A.arg23.sem
            -∗ Scratch d A -∗ Nums d I A -∗ Tables d I A (2 * t.val + 2)
            -∗ iprop(hv (A.thr d) A.arg13 (I.sorted (A.row (2 * t.val + 1))) ∗ semVal (A.thr d, .dma A.arg25.sem) 0 ∗ RowsOut d I A 1 t.val t.val)
            -∗ Owes (A.thr d) ι O W
            -∗ wp frame (wpE defs 𝒱 (A.thr d) bd) Set.univ (kk ⟨⟩) Q)
        -∗ wp frame (wpE defs 𝒱 (A.thr d) bd) Set.univ (A.odd v2 v3 t (BitVec.ofNat 32 (2 * t.val + 1)) >>= kk : TProg F A.i α) Q) := by
  have ht := trips_lt t
  unfold Tile.odd
  rw [k1_part9_eq_skeleton]
  unfold k1_part9_skel
  simp only [Prog.bind_lift, Prog.bind_op, Prog.bind_assoc, pure_bind]
  iintro ⟨HT1, HC1, HS, HN, HTab, HSend, HO⟩ Hk
  iapply (wp_fetched EC 𝒱 (A.thr d) bd ι (by omega) squeezes_S1x12288_S12288 A.arg2 q1 I.crd (A.row (2 * t.val + 1)) A.arg11 A.arg23.sem) $$ [HC1 HO]
  · isplitl [HC1]; · iexact HC1
    iexact HO
  iintro HC1 HO
  have hidx : ∀ x, (k1_pay77 (BitVec.ofNat 32 (2 * t.val + 1)) x).toNat = 2 * t.val + 1 := fun x => by
    show (IntOp.addi 0#32 (BitVec.ofNat 32 (2 * t.val + 1))).toNat = _
    unfold IntOp.addi
    rw [BitVec.zero_add, toNat_small (by omega)]
  rw [wp_assume_of 𝒱 (A.thr d) bd Set.univ (show k1_chk15 _ from idx_inb fun x => by rw [hidx]; omega)]
  unfold Nums Scratch Tables
  icases HN with ⟨%na, %hna, HN⟩
  icases HS with ⟨%e, %h, %off, H14, H15, H16⟩
  icases HTab with ⟨%co, %of, %htab, H18, H19⟩
  iapply (wp_gather16 𝒱 (A.thr d) bd Set.univ) $$ HN
  iintro HN
  iapply (wp_zero_loop_odd 𝒱 A d bd Set.univ (v2 := v2) (v3 := v3) (c0 := 0#32) (c1 := 1#32) (t := t) (fun _ _ => rfl)) $$ H15
  iintro %h' %hz H15
  unfold Fetched
  icases HT1 with ⟨HT1, H9, Hs9⟩
  icases HC1 with ⟨HC1, H11, Hs11⟩
  iapply (wp_count_loop_odd 𝒱 A d bd Set.univ (v2 := v2) (v3 := v3) (c0 := 0#32) (c1 := 1#32) (t := t) (I.packed (A.row (2 * t.val + 1)))
    (na := I.count (A.row (2 * t.val + 1))) h3
    (fun x => by show na (k1_pay77 (BitVec.ofNat 32 (2 * t.val + 1)) x).toNat = _; rw [hidx]; exact hna _ (by omega)) (fun _ _ => rfl) hz) $$ [H9 H14 H15]
  · isplitl [H9]; · iexact H9
    isplitl [H14]; · iexact H14
    iexact H15
  iintro %e' %h'' %hc H9 H14 H15
  iapply (wp_sums_loop_odd 𝒱 A d bd Set.univ (v2 := v2) (v3 := v3) (c0 := 0#32) (c1 := 1#32) (t := t) (fun _ _ => rfl) (fun _ => rfl) hc.summed) $$ H15
  iintro %v97 %h3' %hs H15
  have h56 : ∀ x : Lane.Idx, k1_pay87 v97 x = BitVec.ofNat 32 (below (I.typ (A.row (2 * t.val + 1))) (x 0).val) := offsets_lane hs.2
  iapply (wp_load16 𝒱 (A.thr d) bd Set.univ) $$ H16
  iintro H16
  iapply (wp_store16 𝒱 (A.thr d) bd Set.univ) $$ H16
  iintro H16
  have hi : ∀ x : Lane.Idx, (k1_pay89 v3 (BitVec.ofNat 32 (2 * t.val + 1)) x).toNat < 352 ∧
      ((x 0).val < 11 → (k1_pay89 v3 (BitVec.ofNat 32 (2 * t.val + 1)) x).toNat = 11 * (2 * t.val + 1) + (x 0).val) :=
    table_idx h3 (v31 := BitVec.ofNat 32 (2 * t.val + 1)) (j := 2 * t.val + 1) (by omega) rfl
  have hm : ∀ x : Lane.Idx, k1_pay88 v3 x = 1#1 ↔ (x 0).val < 11 := mask_iff h3
  rw [wp_assume_of 𝒱 (A.thr d) bd Set.univ (show k1_chk20 _ from ⟨idx_inb fun x => (hi x).1, idx_inb fun x => (hi x).1⟩)]
  iapply (wp_scatter16 𝒱 (A.thr d) bd Set.univ (by omega)) $$ H18
  iintro %co' %hco H18
  iapply (wp_scatter16 𝒱 (A.thr d) bd Set.univ (by omega)) $$ H19
  iintro %of' %hof H19
  have ht1 := htab.1.step (by omega) hm (fun x => (hi x).2) hs.2 hco
  have ht2 := htab.2.step (by omega) hm (fun x => (hi x).2) h56 hof
  iapply (wp_under 𝒱 d bd (P := iprop(Sending EC d ι I A A.arg13 A.arg25.sem 1 t.val ∗ Owes (A.thr d) ι O W))
    (R := iprop(Rested d I A A.arg13 A.arg25.sem 1 t.val ∗ Owes (A.thr d) ι O W)) ?_ ?_) $$ [HSend HO]
  · intro hc
    simp only [Prog.bind_op]
    iintro HP Hk
    iapply (wp_sent EC 𝒱 d bd ι I A A.arg13 A.arg25.sem ((cond4 t).mp hc)) $$ HP
    iintro HR HO
    iapply Hk
    isplitl [HR]; · iexact HR
    iexact HO
  · intro hc
    have h0 : t.val = 0 := Nat.eq_zero_of_not_pos fun h => hc ((cond4 t).mpr h)
    rw [h0]
    iintro ⟨HR, HO⟩
    isplitl [HR]; · iapply (Sending.first EC d ι I A A.arg13 A.arg25.sem 1) $$ HR
    iexact HO
  · isplitl [HSend]; · iexact HSend
    iexact HO
  iintro ⟨HR, HO⟩
  simp only [Prog.bind_op, Prog.bind_assoc, pure_bind]
  unfold Rested
  icases HR with ⟨⟨%o, H13⟩, Hs13, HRows⟩
  have hoff : ∀ c < 16, put16 off 0 (k1_pay87 v97) c = BitVec.ofNat 32 (below (I.typ (A.row (2 * t.val + 1))) c) := fun c hc =>
    ((congrArg (put16 off 0 (k1_pay87 v97)) (Nat.zero_add c).symm).trans (put16_of_lt off 0 (k1_pay87 v97) ⟨c, hc⟩)).trans (h56 (ValueIdx.ix1 ⟨c, hc⟩))
  iapply (wp_place_loop_odd 𝒱 A d bd Set.univ (v2 := v2) (v3 := v3) (t := t) (arg26 := 0#32) (v31 := 0#32)
    (v53 := v97) (v56 := v97) (z := Scalar.ofBits .f32 0x00000000#32) (I.typ_lt (A.row (2 * t.val + 1))) (fun m hm => hc.enc hm) hs.1
    (off := put16 off 0 (k1_pay87 v97)) hoff h3 (fun _ => rfl) (fun _ _ => rfl)) $$ [H13 H11 H14 H15 H16]
  · isplitl [H13]; · iexact H13
    isplitl [H11]; · iexact H11
    isplitl [H14]; · iexact H14
    isplitl [H15]; · iexact H15
    iexact H16
  iintro H13 H11 H14 H15 H16
  iapply Hk $$ [HT1 H9 Hs9] [HC1 H11 Hs11] [H14 H15 H16] [HN] [H18 H19] [H13 Hs13 HRows] HO
  · unfold Idle
    isplitl [HT1]; · iexact HT1
    isplitl [H9]; · iexists _; iexact H9
    iexact Hs9
  · unfold Idle
    isplitl [HC1]; · iexact HC1
    isplitl [H11]; · iexists _; iexact H11
    iexact Hs11
  · iexists _, _, _
    isplitl [H14]; · iexact H14
    isplitl [H15]; · iexact H15
    iexact H16
  · iexists na
    isplitr; · ipureintro; exact hna
    iexact HN
  · iexists co', of'
    isplitr; · ipureintro; exact ⟨ht1, ht2⟩
    isplitl [H18]; · iexact H18
    iexact H19
  · isplitl [H13]; · iexact H13
    isplitl [Hs13]; · iexact Hs13
    iexact HRows

/-- What a tile holds before pair `p`. -/
def Between (q0 q1 : PosShare TreeShare) (O : CellTallies nD τ sig Ix) (W : Waits sig Ix) (p : ℕ) : sProp 𝕄 :=
  iprop(Next EC d ι I A q0 p ∗ Idle (A.thr d) A.arg3 q1 I.wrd A.arg9 A.arg21.sem ∗ Idle (A.thr d) A.arg2 q1 I.crd A.arg11 A.arg23.sem
    ∗ Scratch d A ∗ Nums d I A ∗ Tables d I A (2 * p) ∗ Sending EC d ι I A A.arg12 A.arg24.sem 0 p ∗ Sending EC d ι I A A.arg13 A.arg25.sem 1 p
    ∗ Owes (A.thr d) ι O W)

theorem wp_pair {v2 : BitVec 32} {v3 : IVec S16 32} (h3 : ∀ x, v3 x = BitVec.ofNat 32 (x 0).val) (t : Fin k1_t1_loop.trips) (acc : BitVec 32) :
    (Between EC d ι I A q0 q1 O W t.val : sProp 𝕄)
      ⊢ wp frame (wpE defs 𝒱 (A.thr d) bd) Set.univ (A.pair v2 v3 t acc : TProg F A.i (BitVec 32))
          fun _ => Between EC d ι I A q0 q1 O W (t.val + 1) := by
  have ht := trips_lt t
  have hN : Next EC d ι I A q0 t.val = iprop(Fetching EC (A.thr d) ι (by omega) squeezes_S1x1024_S1024 A.arg3 q0 I.wrd (A.row (2 * t.val)) A.arg8 A.arg20.sem
      ∗ Fetching EC (A.thr d) ι (by omega) squeezes_S1x12288_S12288 A.arg2 q0 I.crd (A.row (2 * t.val)) A.arg10 A.arg22.sem) := if_pos ht
  unfold Between
  rw [hN]
  iintro ⟨⟨HT0, HC0⟩, HT1, HC1, HS, HN, HTab, HE, HOd, HO⟩
  have hp : A.pair (F := F) v2 v3 t acc = (A.evenCount v2 v3 t >>= fun r => A.evenPlace v2 v3 t r.1 r.2.1 r.2.2.1 r.2.2.2 >>= fun v75 =>
      A.odd v2 v3 t v75 >>= fun _ => Prog.lift (.enqueueDma A.arg13 (.here ((A.arg5.slice (Rect.unit (s := S1024x12288) (k1_off30 A.i t) S1x12288.size
        (k1_off30_inb A.i t)) (fun _ => rfl)).squeeze S12288 squeezes_S1x12288_S12288)) (.dma A.arg25.sem) A.harg13.wordExact
        ((View.wordExact_bits rfl).reshape _ _) ⟨Or.inl rfl, trivial⟩) >>= fun _ => pure 0#32) := rfl
  rw [hp]
  iapply (wp_evenCount EC 𝒱 d bd ι I A (q0 := q0) (q1 := q1) h3 t) $$ [HT0 HC0 HT1 HC1 HS HN HO]
  · isplitl [HT0]; · iexact HT0
    isplitl [HC0]; · iexact HC0
    isplitl [HT1]; · iexact HT1
    isplitl [HC1]; · iexact HC1
    isplitl [HS]; · iexact HS
    isplitl [HN]; · iexact HN
    iexact HO
  iintro %v53 %v56 %hv HT1 HC1 HT0 HC0 HR HN HO
  iapply (wp_evenPlace EC 𝒱 d bd ι I A (q0 := q0) (q1 := q1) h3 t hv.1 hv.2) $$ [HR HTab HE HT0 HC0 HT1 HO]
  · isplitl [HR]; · iexact HR
    isplitl [HTab]; · iexact HTab
    isplitl [HE]; · iexact HE
    isplitl [HT0]; · iexact HT0
    isplitl [HC0]; · iexact HC0
    isplitl [HT1]; · iexact HT1
    iexact HO
  iintro HS HTab HE HNext HT1 HO
  iapply (wp_odd EC 𝒱 d bd ι I A (q1 := q1) h3 t) $$ [HT1 HC1 HS HN HTab HOd HO]
  · isplitl [HT1]; · iexact HT1
    isplitl [HC1]; · iexact HC1
    isplitl [HS]; · iexact HS
    isplitl [HN]; · iexact HN
    isplitl [HTab]; · iexact HTab
    isplitl [HOd]; · iexact HOd
    iexact HO
  iintro HT1 HC1 HS HN HTab HB HO
  simp only [Prog.bind_lift]
  iapply (wp_send EC 𝒱 d bd ι I A A.arg13 A.arg25.sem (k := 1) ht
    (rowM_of ((k1_off30_eq A.i t).trans (A.row_off (by omega) (by omega))))) $$ HB
  iintro HOd
  rw [Prog.pure_eq_ret, wp_ret]
  imodintro
  isplitl [HNext]; · iexact HNext
  isplitl [HT1]; · iexact HT1
  isplitl [HC1]; · iexact HC1
  isplitl [HS]; · iexact HS
  isplitl [HN]; · iexact HN
  isplitl [HTab]; · iexact HTab
  isplitl [HE]; · iexact HE
  isplitl [HOd]; · iexact HOd
  iexact HO

end Cert.Proof

end
-- ==== Proof.Whole.lean ====
/-
  A tile's whole program: its thirty-two rows sorted, its counts and offsets written.
-/
module

public import proofs.«01_k».proof.Proof.Odd

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

section Spec

variable {F : FTy → Type} [FloatOps F] (I : Inputs F)

/-- The row a place of the flat arrays of counts and offsets belongs to. -/
def flatRow (x : S11264.Idx) : Fin 1024 := ⟨(x 0).val / 11, by have h : (x 0).val < 11264 := (x 0).isLt; omega⟩

/-- The counts of all rows, flat. -/
def Inputs.counts : S11264.Idx → BitVec 32 := fun x => BitVec.ofNat 32 (before (I.typ (flatRow x)) ((x 0).val % 11) 4096)

/-- The offsets of all rows, flat. -/
def Inputs.offsets : S11264.Idx → BitVec 32 := fun x => BitVec.ofNat 32 (below (I.typ (flatRow x)) ((x 0).val % 11))

end Spec

set_option maxRecDepth 8192 in
theorem off32_eq : ∀ i : grid1.Coords, k1_off32 i = ![11 * (512 * (i 0).val + 32 * (i 1).val)] := by decide +kernel

/-- A tile's part of the flat arrays. -/
def Tile.part (A : Tile) : Rect S11264 := Rect.unit (s := S11264) (k1_off32 A.i) S352.size (k1_off32_inb A.i)

theorem Tile.part_emb (A : Tile) (y : S352.Idx) : ((A.part.emb y) 0).val = 11 * (512 * (A.i 0).val + 32 * (A.i 1).val) + (y 0).val := by
  show k1_off32 A.i 0 + 1 * (y 0).val = _
  rw [off32_eq]
  show 11 * _ + 1 * (y 0).val = _
  omega

/-- A table of a tile's thirty-two rows is the tile's part of the flat array. -/
theorem Tab.part {A : Tile} {a : ℕ → BitVec 32} {f : Fin 1024 → ℕ → ℕ} (h : Tab 32 a (fun j c => f (A.row j) c)) :
    (vec a : S352.Idx → BitVec 32) = fun y => BitVec.ofNat 32 (f (flatRow (A.part.emb y)) (((A.part.emb y) 0).val % 11)) := by
  funext y
  have hy : (y 0).val < 352 := (y 0).isLt
  have h1 := h ((y 0).val / 11) (by omega) ((y 0).val % 11) (by omega)
  have h2 : flatRow (A.part.emb y) = A.row ((y 0).val / 11) := Fin.ext (by
    show ((A.part.emb y) 0).val / 11 = 512 * (A.i 0).val + 32 * (A.i 1).val + (y 0).val / 11 % 32
    rw [A.part_emb]; omega)
  have h3 : ((A.part.emb y) 0).val % 11 = (y 0).val % 11 := by rw [A.part_emb]; omega
  show a (y 0).val = _
  rw [h2, h3, ← h1]
  congr 1
  omega

variable {F : FTy → Type} [FloatOps F]
variable {Ix : Type} [DecidableEq Ix] {Name : Type} [DecidableEq Name]
variable {U : Type} [URA U] {Lvl : Type} [Preorder Lvl]
variable (EC : UEmb Counters (MT nD τ sig Ix (Elt F) Name U Lvl)) [Infinite Name] [EC.LandsIn (upEmb : UEmb _ (MT nD τ sig Ix (Elt F) Name U Lvl))]
variable {defs : Defs nD τ sig (Elt F) Λ₀} (𝒱 : Variants) (d : Dev nD) (bd : Option 𝒱.V) (ι : Ix) (I : Inputs F) (A : Tile)
variable {α : Type} {Q : α → sProp (MT nD τ sig Ix (Elt F) Name U Lvl)}

local notation "𝕄" => MT nD τ sig Ix (Elt F) Name U Lvl

include EC in
/-- A copy and its wait. -/
theorem wp_move {thr : Thread nD τ} {s : Shape} (hs : 0 < s.numel) {e : EltTy} {sp sp' : Space} {sm : DmaSem sig}
    {S : Memref sig thr.2.kind sp s e} {q : PosShare TreeShare} {B : Memref sig thr.2.kind sp' s e} {X Y : s.Idx → Elt F e}
    {hsrc hsrc' : S.view.WordExact} {hdst hdst' : B.view.WordExact} {hsem : DmaTarget.Typed (nD := nD) sp (.dma sm) (.here B)}
    {O : CellTallies nD τ sig Ix} {W : Waits sig Ix} {k : PUnit → Prog (TpuEff nD τ sig (Elt F) Λ₀ thr.2) α} :
    (iprop(owns thr S q X ∗ owns thr B fullShare Y ∗ semVal (thr, .dma sm) 0 ∗ Owes thr ι O W) : sProp 𝕄)
      ⊢ iprop((owns thr B fullShare X -∗ owns thr S q X -∗ semVal (thr, .dma sm) 0 -∗ Owes thr ι O W
          -∗ wp frame (wpE defs 𝒱 thr bd) Set.univ (k ⟨⟩) Q)
        -∗ wp frame (wpE defs 𝒱 thr bd) Set.univ
            (.op (.enqueueDma S (.here B) (.dma sm) hsrc hdst hsem) fun _ => .op (.waitDma2 sm S B hsrc' hdst') k) Q) := by
  iintro ⟨HS, HB, Hs, HO⟩ Hk
  iapply (wp_copy EC 𝒱 thr bd ι (X := X) hs rfl rfl) $$ [HS HB Hs]
  · isplitl [HS]; · iexact HS
    isplitl [HB]; · iexact HB
    iexact Hs
  iintro HF
  iapply (wp_copied EC 𝒱 thr bd ι rfl) $$ [HF HO]
  · isplitl [HF]; · iexact HF
    iexact HO
  iintro ⟨HB, HS, Hs, HO⟩
  iapply Hk $$ HB HS Hs HO

/-- A tile with no copy in flight, the rows of the first `p` pairs written; `C6` and `C7` are what it holds of the counts
    and of the offsets. -/
def Resting (q q0 q1 : PosShare TreeShare) (O : CellTallies nD τ sig Ix) (W : Waits sig Ix) (p : ℕ) (C6 C7 : sProp 𝕄) : sProp 𝕄 :=
  iprop(Idle (A.thr d) A.arg3 q0 I.wrd A.arg8 A.arg20.sem ∗ Idle (A.thr d) A.arg2 q0 I.crd A.arg10 A.arg22.sem
    ∗ Idle (A.thr d) A.arg3 q1 I.wrd A.arg9 A.arg21.sem ∗ Idle (A.thr d) A.arg2 q1 I.crd A.arg11 A.arg23.sem
    ∗ Rested d I A A.arg12 A.arg24.sem 0 p ∗ Rested d I A A.arg13 A.arg25.sem 1 p
    ∗ Scratch d A ∗ (∃ na, hv (A.thr d) A.arg17 na) ∗ (∃ co, hv (A.thr d) A.arg18 co) ∗ (∃ of, hv (A.thr d) A.arg19 of)
    ∗ semVal (A.thr d, .dma A.v30_r0.sem) 0 ∗ semVal (A.thr d, .dma A.v30_r1.sem) 0 ∗ semVal (A.thr d, .dma A.v30_r2.sem) 0
    ∗ owns (A.thr d) A.arg4 q I.num ∗ C6 ∗ C7 ∗ Owes (A.thr d) ι O W)

variable {O : CellTallies nD τ sig Ix} {W : Waits sig Ix} {q q0 q1 : PosShare TreeShare}

/-- The tile's part of a flat array. -/
abbrev Tile.own (M : Memref sig (A.thr d).2.kind .hbm S11264 .i32) : Memref sig (A.thr d).2.kind .hbm S352 .i32 :=
  M.slice (Rect.unit (s := S11264) (k1_off32 A.i) S352.size (k1_off32_inb A.i)) (fun _ => rfl)

theorem Tables.first : (iprop((∃ co, hv (A.thr d) A.arg18 co) ∗ ∃ of, hv (A.thr d) A.arg19 of) : sProp 𝕄) ⊢ Tables d I A 0 := by
  unfold Tables
  iintro ⟨⟨%co, H⟩, %of, H'⟩
  iexists co, of
  isplitr; · ipureintro; exact ⟨fun _ h => absurd h (Nat.not_lt_zero _), fun _ h => absurd h (Nat.not_lt_zero _)⟩
  isplitl [H]; · iexact H
  iexact H'

theorem nums_slice {na : ℕ → BitVec 32} (h : (fun y : S32.Idx => I.num ((Rect.unit (s := S1024) (k1_off1 A.i) S32.size (k1_off1_inb A.i)).emb y)) = vec na) :
    ∀ j < 32, na j = I.count (A.row j) := fun j hj => by
  have := congrFun h (ValueIdx.ix1 ⟨j, hj⟩)
  refine this.symm.trans ?_
  unfold Inputs.count
  congr 1
  funext a
  refine Fin.ext ?_
  match a with
  | ⟨0, _⟩ =>
    show k1_off1 A.i 0 + 1 * j = 512 * (A.i 0).val + 32 * (A.i 1).val + j % 32
    rw [k1_off1_eq, Nat.mod_eq_of_lt hj]
    show 512 * _ + 32 * _ + 1 * j = _
    omega

theorem Next.last : (Next EC d ι I A q0 16 : sProp 𝕄)
    ⊢ iprop(Idle (A.thr d) A.arg3 q0 I.wrd A.arg8 A.arg20.sem ∗ Idle (A.thr d) A.arg2 q0 I.crd A.arg10 A.arg22.sem) := by
  unfold Next
  rw [if_neg (by omega)]

theorem Next.start : (iprop(Fetching EC (A.thr d) ι (by omega) squeezes_S1x1024_S1024 A.arg3 q0 I.wrd (A.row (2 * 0)) A.arg8 A.arg20.sem
      ∗ Fetching EC (A.thr d) ι (by omega) squeezes_S1x12288_S12288 A.arg2 q0 I.crd (A.row (2 * 0)) A.arg10 A.arg22.sem) : sProp 𝕄)
    ⊢ Next EC d ι I A q0 0 := by
  unfold Next
  rw [if_pos (by omega)]

/-- The loop over the pairs of rows. -/
theorem wp_pairs {v2 : BitVec 32} {v3 : IVec S16 32} (h3 : ∀ x, v3 x = BitVec.ofNat 32 (x 0).val)
    {body : Fin k1_t1_loop.trips → BitVec 32 → TProg F A.i (BitVec 32)} (hb : ∀ t acc, body t acc = A.pair v2 v3 t acc) {kk : BitVec 32 → TProg F A.i α} :
    (Between EC d ι I A q0 q1 O W 0 : sProp 𝕄)
      ⊢ iprop((∀ acc, Between EC d ι I A q0 q1 O W 16 -∗ wp frame (wpE defs 𝒱 (A.thr d) bd) Set.univ (kk acc) Q)
        -∗ wp frame (wpE defs 𝒱 (A.thr d) bd) Set.univ (Scf.Loop.for k1_t1_loop k1_t1_ok 0#32 body >>= kk : TProg F A.i α) Q) := by
  have h16 : k1_t1_loop.trips = 16 := by decide
  have := Scf.wp_for_bind frame (wpE defs 𝒱 (A.thr d) bd) Set.univ _ _ _ k1_t1_ok 0#32 body
    (fun p _ => Between EC d ι I A q0 q1 O W p) (fun t acc => by rw [hb]; exact wp_pair EC 𝒱 d bd ι I A h3 t acc) (kk := kk) (Q := Q)
  rw [show Scf.trips k1_t1_loop.lb k1_t1_loop.ub k1_t1_loop.st = 16 from h16] at this
  exact this

theorem wp_rows {C6 C7 : sProp 𝕄} {kk : BitVec 32 → TProg F A.i α} :
    (Resting d ι I A q q0 q1 O W 0 C6 C7 : sProp 𝕄)
      ⊢ iprop((∀ v, iprop(Next EC d ι I A q0 16 ∗ Idle (A.thr d) A.arg3 q1 I.wrd A.arg9 A.arg21.sem ∗ Idle (A.thr d) A.arg2 q1 I.crd A.arg11 A.arg23.sem
            ∗ Scratch d A ∗ Nums d I A ∗ Tables d I A 32 ∗ Rested d I A A.arg12 A.arg24.sem 0 16 ∗ Sending EC d ι I A A.arg13 A.arg25.sem 1 16
            ∗ semVal (A.thr d, .dma A.v30_r0.sem) 0 ∗ semVal (A.thr d, .dma A.v30_r1.sem) 0 ∗ semVal (A.thr d, .dma A.v30_r2.sem) 0
            ∗ owns (A.thr d) A.arg4 q I.num ∗ C6 ∗ C7 ∗ Owes (A.thr d) ι O W)
            -∗ wp frame (wpE defs 𝒱 (A.thr d) bd) Set.univ (kk v) Q)
        -∗ wp frame (wpE defs 𝒱 (A.thr d) bd) Set.univ (A.rows >>= kk : TProg F A.i α) Q) := by
  unfold Tile.rows
  rw [k1_part10_eq_skeleton]
  unfold k1_part10_skel
  simp only [Prog.bind_lift, Prog.bind_op, Prog.bind_assoc, pure_bind]
  have h3 : ∀ x, iota .scVector S16 32 [0] iota_S16_d0_w32_scVector x = BitVec.ofNat 32 (x 0).val :=
    fun x => iota_single_apply .scVector S16 32 0 iota_S16_d0_w32_scVector x
  revert h3
  generalize iota .scVector S16 32 [0] iota_S16_d0_w32_scVector = v3
  generalize Scalar.muli (Scalar.addi (Scalar.muli (BitVec.ofNat 32 (A.i 0).val) 16#32) (BitVec.ofNat 32 (A.i 1).val)) 32#32 = v2
  intro h3
  unfold Resting
  iintro ⟨HT0, HC0, HT1, HC1, HE, HOd, HS, ⟨%na0, H17⟩, H18, H19, Hr0, Hr1, Hr2, H4, H6, H7, HO⟩ Hk
  ihave H4 := (slice_take (A.thr d) A.arg4 q (Rect.unit (s := S1024) (k1_off1 A.i) S32.size (k1_off1_inb A.i)) (fun _ => rfl) I.num) $$ H4
  icases H4 with ⟨H4, H4back⟩
  obtain ⟨na, hna⟩ := exists_vec (by omega) (fun y : S32.Idx => I.num ((Rect.unit (s := S1024) (k1_off1 A.i) S32.size (k1_off1_inb A.i)).emb y))
  unfold hv
  iapply (wp_move EC 𝒱 bd ι (by rw [Shape.numel_rank1]; exact (by decide : 0 < 32))) $$ [H4 H17 Hr0 HO]
  · isplitl [H4]; · iexact H4
    isplitl [H17]; · iexact H17
    isplitl [Hr0]; · iexact Hr0
    iexact HO
  iintro H17 H4 Hr0 HO
  ihave H4 := H4back $$ H4
  iapply (wp_fetch EC 𝒱 (A.thr d) bd ι (by omega) squeezes_S1x1024_S1024 A.arg3 q0 I.wrd (A.row (2 * 0)) A.arg8 A.arg20.sem
    (rowM_of ((k1_off2_eq A.i).trans (A.row_off (by omega) (by omega))))) $$ HT0
  iintro HT0
  iapply (wp_fetch EC 𝒱 (A.thr d) bd ι (by omega) squeezes_S1x12288_S12288 A.arg2 q0 I.crd (A.row (2 * 0)) A.arg10 A.arg22.sem
    (rowM_of ((k1_off3_eq A.i).trans (A.row_off (by omega) (by omega))))) $$ HC0
  iintro HC0
  iapply (wp_pairs EC 𝒱 d bd ι I A (q0 := q0) (q1 := q1) (O := O) (W := W) (v2 := v2) (v3 := v3) h3 (fun _ _ => rfl)) $$ [HT0 HC0 HT1 HC1 HS H17 H18 H19 HE HOd HO]
  · unfold Between
    isplitl [HT0 HC0]
    · iapply (Next.start EC d ι I A)
      isplitl [HT0]; · iexact HT0
      iexact HC0
    isplitl [HT1]; · iexact HT1
    isplitl [HC1]; · iexact HC1
    isplitl [HS]; · iexact HS
    isplitl [H17]
    · unfold Nums
      iexists na
      isplitr; · ipureintro; exact nums_slice I A hna
      unfold hv
      iapply (Entails.of_eq (congrArg (owns (A.thr d) A.arg17 fullShare) hna)) $$ H17
    isplitl [H18 H19]
    · iapply (Tables.first d I A)
      unfold hv
      isplitl [H18]; · iexact H18
      iexact H19
    isplitl [HE]; · iapply (Rested.first EC d ι I A A.arg12 A.arg24.sem 0) $$ HE
    isplitl [HOd]; · iapply (Rested.first EC d ι I A A.arg13 A.arg25.sem 1) $$ HOd
    iexact HO
  iintro %acc HB
  unfold Between
  icases HB with ⟨HN0, HT1, HC1, HS, HN, HTab, HE, HOd, HO⟩
  iapply (wp_sent EC 𝒱 d bd ι I A A.arg12 A.arg24.sem (k := 0) (p := 16) (by omega)) $$ [HE HO]
  · isplitl [HE]; · iexact HE
    iexact HO
  iintro HE HO
  iapply Hk
  isplitl [HN0]; · iexact HN0
  isplitl [HT1]; · iexact HT1
  isplitl [HC1]; · iexact HC1
  isplitl [HS]; · iexact HS
  isplitl [HN]; · iexact HN
  isplitl [HTab]; · iexact HTab
  isplitl [HE]; · iexact HE
  isplitl [HOd]; · iexact HOd
  isplitl [Hr0]; · iexact Hr0
  isplitl [Hr1]; · iexact Hr1
  isplitl [Hr2]; · iexact Hr2
  isplitl [H4]; · iexact H4
  isplitl [H6]; · iexact H6
  isplitl [H7]; · iexact H7
  iexact HO

include EC in
theorem wp_prog :
    (Resting d ι I A q q0 q1 O W 0 iprop(∃ X, owns (A.thr d) (A.own d A.arg6) fullShare X) iprop(∃ X, owns (A.thr d) (A.own d A.arg7) fullShare X) : sProp 𝕄)
      ⊢ wp frame (wpE defs 𝒱 (A.thr d) bd) Set.univ (A.prog : TProg F A.i PUnit) fun _ =>
          Resting d ι I A q q0 q1 O W 16 (owns (A.thr d) (A.own d A.arg6) fullShare fun y => I.counts (A.part.emb y))
            (owns (A.thr d) (A.own d A.arg7) fullShare fun y => I.offsets (A.part.emb y)) := by
  have hp : A.prog (F := F) = (A.rows >>= fun _ =>
      .op (.waitDma2 A.arg25.sem A.arg13 ((A.arg5.slice (Rect.unit (s := S1024x12288) (k1_off31 A.i 1#32) S1x12288.size (k1_off31_inb A.i 0)) (fun _ => rfl)).squeeze S12288 squeezes_S1x12288_S12288)
        A.harg13.wordExact ((View.wordExact_bits rfl).reshape _ _)) fun _ =>
      .op (.enqueueDma A.arg18 (.here (A.own d A.arg6)) (.dma A.v30_r1.sem) A.harg18.wordExact (View.wordExact_bits rfl) ⟨Or.inl rfl, trivial⟩) fun _ =>
      .op (.waitDma2 A.v30_r1.sem A.arg18 (A.own d A.arg6) A.harg18.wordExact (View.wordExact_bits rfl)) fun _ =>
      .op (.enqueueDma A.arg19 (.here (A.own d A.arg7)) (.dma A.v30_r2.sem) A.harg19.wordExact (View.wordExact_bits rfl) ⟨Or.inl rfl, trivial⟩) fun _ =>
      .op (.waitDma2 A.v30_r2.sem A.arg19 (A.own d A.arg7) A.harg19.wordExact (View.wordExact_bits rfl)) fun _ => pure ⟨⟩) := rfl
  rw [hp]
  iintro HR
  iapply (wp_rows EC 𝒱 d bd ι I A) $$ HR
  iintro %v ⟨HN0, HT1, HC1, HS, HN, HTab, HE, HOd, Hr0, Hr1, Hr2, H4, ⟨%X6, H6⟩, ⟨%X7, H7⟩, HO⟩
  iapply (wp_sent EC 𝒱 d bd ι I A A.arg13 A.arg25.sem (k := 1) (p := 16) (by omega)) $$ [HOd HO]
  · isplitl [HOd]; · iexact HOd
    iexact HO
  iintro HOd HO
  unfold Tables hv
  icases HTab with ⟨%co, %of, %htab, H18, H19⟩
  iapply (wp_move EC 𝒱 bd ι (by rw [Shape.numel_rank1]; exact (by decide : 0 < 352))) $$ [H18 H6 Hr1 HO]
  · isplitl [H18]; · iexact H18
    isplitl [H6]; · iexact H6
    isplitl [Hr1]; · iexact Hr1
    iexact HO
  iintro H6 H18 Hr1 HO
  iapply (wp_move EC 𝒱 bd ι (by rw [Shape.numel_rank1]; exact (by decide : 0 < 352))) $$ [H19 H7 Hr2 HO]
  · isplitl [H19]; · iexact H19
    isplitl [H7]; · iexact H7
    isplitl [Hr2]; · iexact Hr2
    iexact HO
  iintro H7 H19 Hr2 HO
  rw [Prog.pure_eq_ret, wp_ret]
  imodintro
  unfold Resting
  ihave HN0 := (Next.last EC d ι I A) $$ HN0
  icases HN0 with ⟨HT0, HC0⟩
  unfold Nums
  icases HN with ⟨%na, %hna, HN⟩
  isplitl [HT0]; · iexact HT0
  isplitl [HC0]; · iexact HC0
  isplitl [HT1]; · iexact HT1
  isplitl [HC1]; · iexact HC1
  isplitl [HE]; · iexact HE
  isplitl [HOd]; · iexact HOd
  isplitl [HS]; · iexact HS
  isplitl [HN]; · iexists na; iexact HN
  isplitl [H18]; · iexists co; unfold hv; iexact H18
  isplitl [H19]; · iexists of; unfold hv; iexact H19
  isplitl [Hr0]; · iexact Hr0
  isplitl [Hr1]; · iexact Hr1
  isplitl [Hr2]; · iexact Hr2
  isplitl [H4]; · iexact H4
  isplitl [H6]
  · iapply (Entails.of_eq (congrArg (owns (A.thr d) (A.own d A.arg6) fullShare) (Tab.part (f := fun r c => before (I.typ r) c 4096) htab.1))) $$ H6
  isplitl [H7]
  · iapply (Entails.of_eq (congrArg (owns (A.thr d) (A.own d A.arg7) fullShare) (Tab.part (f := fun r c => below (I.typ r) c) htab.2))) $$ H7
  iexact HO

end Cert.Proof

end
-- ==== Proof.Setup.lean ====
/-
  The program as a launch sees it: the two kernels' configuration, the handshakes' algebra, the tiles' buffers and
  what each tile is handed and hands back.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Launch
public import proofs.«01_k».proof.Proof.Whole

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the pipeline's rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

instance EP_landsIn : (EP : Emb UP 𝕄).LandsIn (upEmb : UEmb _ 𝕄) := by unfold EP embR; infer_instance
instance EC_landsIn : (EC : UEmb Counters 𝕄).LandsIn (upEmb : UEmb _ 𝕄) := by infer_instance

/-! ## A tile's memrefs -/

/-- The pair of coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The tile at a pair of coordinates, with the buffers and semaphores the program names. -/
def tileAt (L : grid1.Coords) : Tile where
  i := L
  arg2 := Memref.whole main_arg0_scv
  harg2 := Memref.isWhole_whole _
  arg3 := Memref.whole main_v0_scv
  harg3 := Memref.isWhole_whole _
  arg4 := Memref.whole main_arg3_scv
  harg4 := Memref.isWhole_whole _
  arg5 := Memref.whole main_v1_0_scv
  harg5 := Memref.isWhole_whole _
  arg6 := Memref.whole main_v1_1_scv
  harg6 := Memref.isWhole_whole _
  arg7 := Memref.whole main_v1_2_scv
  harg7 := Memref.isWhole_whole _
  arg8 := Memref.whole cc1_scratch0
  harg8 := Memref.isWhole_whole _
  arg9 := Memref.whole cc1_scratch1
  harg9 := Memref.isWhole_whole _
  arg10 := Memref.whole cc1_scratch2
  harg10 := Memref.isWhole_whole _
  arg11 := Memref.whole cc1_scratch3
  harg11 := Memref.isWhole_whole _
  arg12 := Memref.whole cc1_scratch4
  harg12 := Memref.isWhole_whole _
  arg13 := Memref.whole cc1_scratch5
  harg13 := Memref.isWhole_whole _
  arg14 := Memref.whole cc1_scratch6
  harg14 := Memref.isWhole_whole _
  arg15 := Memref.whole cc1_scratch7
  harg15 := Memref.isWhole_whole _
  arg16 := Memref.whole cc1_scratch8
  harg16 := Memref.isWhole_whole _
  arg17 := Memref.whole cc1_scratch9
  harg17 := Memref.isWhole_whole _
  arg18 := Memref.whole cc1_scratch10
  harg18 := Memref.isWhole_whole _
  arg19 := Memref.whole cc1_scratch11
  harg19 := Memref.isWhole_whole _
  arg20 := cc1_scratch12
  arg21 := cc1_scratch13
  arg22 := cc1_scratch14
  arg23 := cc1_scratch15
  arg24 := cc1_scratch16
  arg25 := cc1_scratch17
  v30_r0 := cc1_scoped0
  v30_r1 := cc1_scoped1
  v30_r2 := cc1_scoped2

/-- The vector memory buffers, by number. -/
def scr (k : Fin 12) : Ref sig .scVector := ⟨.vmem, k, rfl⟩

theorem scr_injective : Function.Injective scr := by decide

/-- The kernel's semaphores, by number. -/
def sems (k : Fin 9) : SemLoc sig := .dma ⟨6 + k.val, by have := k.isLt; show 6 + k.val < 15; omega⟩

theorem sems_injective : Function.Injective sems := by decide

section Own

variable (d : Dev nD) (c : Fin τ.nSC) (s : Fin τ.nSub)

/-- The buffers of a subcore as it numbers them, and the rest of its own. -/
def scrSet : Finset (DevRef τ sig) :=
  (Finset.univ : Finset (Fin 12)).map ⟨fun k => (Proc.scVector c s).devRef (scr k), fun _ _ h => scr_injective (Proc.devRef_injective _ h)⟩

theorem scrSet_sub : scrSet c s ⊆ ownRefs (τ := τ) (.scVector c s) := by
  intro b hb
  obtain ⟨k, -, rfl⟩ := Finset.mem_map.mp hb
  exact SparseCore.Cfg.mem_ownRefs_of_owner rfl

def semSet : Finset (GSem nD τ sig) :=
  (Finset.univ : Finset (Fin 9)).map ⟨fun k => (V d c s, sems k), fun _ _ h => sems_injective (Prod.ext_iff.mp h).2⟩

theorem semSet_sub : semSet d c s ⊆ ownCells (V d c s) := by
  intro b hb
  obtain ⟨k, -, rfl⟩ := Finset.mem_map.mp hb
  exact mem_ownCells.mpr ⟨rfl, (show ∀ k : Fin 9, (sems k).isScoped .scVector = true by decide) k⟩

/-- The rest of a subcore's buffers and semaphores. -/
def restBufs : sProp 𝕄 := bigSep (ownRefs (τ := τ) (.scVector c s) \ scrSet c s) fun b => iprop(∃ f, ((d, b) : Loc nD τ sig) ↦{fullShare} f)
def restSems : sProp 𝕄 := bigSep (ownCells (V d c s) \ semSet d c s) fun g => semVal g 0

/-- A subcore's buffer, at some contents. -/
abbrev anyBuf (b : Ref sig .scVector) : sProp 𝕄 := iprop(∃ f, (V d c s).loc b ↦{fullShare} f)

theorem ownBufs_tile :
    (ownBufs (V d c s) : sProp 𝕄)
      = iprop((anyBuf d c s cc1_scratch0 ∗ anyBuf d c s cc1_scratch1 ∗ anyBuf d c s cc1_scratch2 ∗ anyBuf d c s cc1_scratch3
        ∗ anyBuf d c s cc1_scratch4 ∗ anyBuf d c s cc1_scratch5 ∗ anyBuf d c s cc1_scratch6 ∗ anyBuf d c s cc1_scratch7
        ∗ anyBuf d c s cc1_scratch8 ∗ anyBuf d c s cc1_scratch9 ∗ anyBuf d c s cc1_scratch10 ∗ anyBuf d c s cc1_scratch11) ∗ restBufs d c s) := by
  unfold SparseCore.Cfg.ownBufs restBufs
  rw [bigSep_sdiff_split (scrSet_sub c s)]
  unfold scrSet
  rw [bigSep_map, bigSep_univ_eq_bigSepL [0, 1, 2, 3, 4, 5, 6, 7, 8, 9, 10, 11] (by decide) (by decide)]
  rfl

theorem ownSems0_tile :
    (ownSems0 (V d c s) : sProp 𝕄)
      = iprop((semVal (V d c s, .dma cc1_scratch12.sem) 0 ∗ semVal (V d c s, .dma cc1_scratch13.sem) 0 ∗ semVal (V d c s, .dma cc1_scratch14.sem) 0
        ∗ semVal (V d c s, .dma cc1_scratch15.sem) 0 ∗ semVal (V d c s, .dma cc1_scratch16.sem) 0 ∗ semVal (V d c s, .dma cc1_scratch17.sem) 0
        ∗ semVal (V d c s, .dma cc1_scoped0.sem) 0 ∗ semVal (V d c s, .dma cc1_scoped1.sem) 0 ∗ semVal (V d c s, .dma cc1_scoped2.sem) 0) ∗ restSems d c s) := by
  unfold SparseCore.Cfg.ownSems0 restSems
  rw [bigSep_sdiff_split (semSet_sub d c s)]
  unfold semSet
  rw [bigSep_map, bigSep_univ_eq_bigSepL [0, 1, 2, 3, 4, 5, 6, 7, 8] (by decide) (by decide)]
  rfl

end Own

/-! ## What a tile is handed and hands back -/

section Pay

variable [FloatOps F] (d : Dev nD) (I : Inputs F) (A : Tile) (q : PosShare TreeShare)

/-- A tile's shares of the arrays it reads. -/
def Ins : sProp 𝕄 :=
  iprop(owns (A.thr d) A.arg3 q.left I.wrd ∗ owns (A.thr d) A.arg2 q.left I.crd ∗ owns (A.thr d) A.arg3 q.right I.wrd
    ∗ owns (A.thr d) A.arg2 q.right I.crd ∗ owns (A.thr d) A.arg4 q I.num)

/-- Handed to a tile. -/
def Handed : sProp 𝕄 :=
  iprop(Ins d I A q ∗ RowsOut d I A 0 0 0 ∗ RowsOut d I A 1 0 0
    ∗ (∃ X, owns (A.thr d) (A.own d A.arg6) fullShare X) ∗ ∃ X, owns (A.thr d) (A.own d A.arg7) fullShare X)

/-- Handed back by it. -/
def Returned : sProp 𝕄 :=
  iprop(Ins d I A q ∗ RowsOut d I A 0 16 16 ∗ RowsOut d I A 1 16 16
    ∗ owns (A.thr d) (A.own d A.arg6) fullShare (fun y => I.counts (A.part.emb y)) ∗ owns (A.thr d) (A.own d A.arg7) fullShare fun y => I.offsets (A.part.emb y))

instance owns_storable {thr : Thread nD τ} {sp : Space} {s : Shape} {e : EltTy} (M : Memref sig thr.2.kind sp s e) (q : PosShare TreeShare) (X : s.Idx → Elt F e) :
    BI.Storable (upEmb : UEmb _ 𝕄) (owns thr M q X : sProp 𝕄) := by
  unfold owns; infer_instance

instance Handed_storable : BI.Storable (upEmb : UEmb _ 𝕄) (Handed d I A q : sProp 𝕄) := by
  unfold Handed Ins RowsOut RowDone RowFree; infer_instance
instance Returned_storable : BI.Storable (upEmb : UEmb _ 𝕄) (Returned d I A q : sProp 𝕄) := by
  unfold Returned Ins RowsOut RowDone RowFree; infer_instance

end Pay

end Cert.Proof

end
-- ==== Proof.Pack.lean ====
/-
  The packing kernel: what one run of its body stores, as a function of the two blocks it reads, and that its bytes
  are types.
-/
module

public import proofs.«01_k».proof.Proof.Setup

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Loads and stores of a whole memref -/

section Rules

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (thr : Thread nD τ) (bd : Option 𝒱.V) (E : Set Name)
variable {S : Shape} {cs : CoreSpace} {e : EltTy} {α : Type} {Q : α → sProp (MT nD τ sig Ix (Elt F) Name U Lvl)}

local notation "𝕄" => MT nD τ sig Ix (Elt F) Name U Lvl

/-- The rectangle of every index sends an index to itself. -/
theorem full_emb {off : Fin S.rank → ℕ} (h0 : ∀ a, off a = 0) (inb : ∀ a, off a + S.size a ≤ S.size a) (x : S.Idx) :
    (Rect.unit (s := S) off S.size inb).emb x = x := by
  funext a
  refine Fin.ext ?_
  show off a + 1 * (x a).val = _
  rw [h0]; omega

/-- A load of a whole memref reads what it holds. -/
theorem wp_load_all {M : Memref sig thr.2.kind cs S e} {off : Fin S.rank → ℕ} (h0 : ∀ a, off a = 0) {inb : ∀ a, off a + S.size a ≤ S.size a}
    {hl : M.view.LoadsAt (Rect.unit (s := S) off S.size inb).toLoadRect}
    {k : (S.Idx → Elt F e) → Prog (TpuEff nD τ sig (Elt F) Λ thr.2) α} {X : S.Idx → Elt F e} :
    (owns thr M fullShare X : sProp 𝕄)
      ⊢ iprop((owns thr M fullShare X -∗ wp frame (wpE defs 𝒱 thr bd) E (k X) Q)
        -∗ wp frame (wpE defs 𝒱 thr bd) E (.op (.load M (Rect.unit (s := S) off S.size inb).toLoadRect hl) k) Q) := by
  unfold owns
  iintro ⟨%f, %hf, H⟩ Hk
  iapply (wp_load 𝒱 thr bd E (m := M) (S := M.view.set) (View.setOn_subset_set _ _)) $$ H
  iintro H
  rw [show M.view.readAt (Elt F) (Rect.unit (s := S) off S.size inb).toLoadRect f = X from ?_]
  · iapply Hk
    iexists f
    isplitr; · ipureintro; exact hf
    iexact H
  · funext x
    rw [View.readAt_apply, hf]
    exact congrArg X (full_emb h0 inb x)

/-- A store of a whole memref replaces what it holds. -/
theorem wp_store_all {M : Memref sig thr.2.kind cs S e} {off : Fin S.rank → ℕ} (h0 : ∀ a, off a = 0) {inb : ∀ a, off a + S.size a ≤ S.size a}
    {w : S.Idx → Elt F e} {hx : (M.access (Rect.unit (s := S) off S.size inb)).Stores Finset.univ} {hm}
    {k : PUnit → Prog (TpuEff nD τ sig (Elt F) Λ thr.2) α} {X : S.Idx → Elt F e} :
    (owns thr M fullShare X : sProp 𝕄)
      ⊢ iprop((owns thr M fullShare w -∗ wp frame (wpE defs 𝒱 thr bd) E (k ⟨⟩) Q)
        -∗ wp frame (wpE defs 𝒱 thr bd) E (.op (.store M (Rect.unit (s := S) off S.size inb) w Finset.univ hx hm) k) Q) := by
  unfold owns
  iintro ⟨%f, %hf, H⟩ Hk
  iapply (wp_store 𝒱 thr bd E (m := M) (r := Rect.unit (s := S) off S.size inb) (Mk := Finset.univ) (S := M.view.set)
    (by rw [View.setOn_univ]; exact View.set_slice_subset _ _)) $$ H
  iintro H
  iapply Hk
  iexists _
  isplitr; swap; · iexact H
  ipureintro
  funext y
  have hread : ∀ g : M.view.ty.Contents (Elt F), M.view.read (Elt F) g ((Rect.unit (s := S) off S.size inb).emb y)
      = (M.view.slice (Rect.unit (s := S) off S.size inb)).read (Elt F) g y := fun _ => rfl
  have h := hread ((M.access (Rect.unit (s := S) off S.size inb)).write (Elt F) f w Finset.univ)
  rw [full_emb h0 inb y] at h
  rw [h, View.read_write_univ]

end Rules

/-! ## The packed words -/

/-- One conditional subtraction of `k`. -/
def dropOnce (k x : BitVec 32) : BitVec 32 := IntOp.subi x (Scalar.select (IntOp.cmpi .sge x k) k 0#32)

/-- The type named by a residue and an atom name. -/
def nameOf (x y : BitVec 32) : BitVec 32 := dropOnce 11#32 (dropOnce 22#32 (dropOnce 44#32 (IntOp.addi x y)))

/-- Four types packed into a word. -/
def packWord (t : ℕ → BitVec 32) : BitVec 32 :=
  IntOp.ori (IntOp.ori (IntOp.ori (t 0) (IntOp.shli .vector (t 1) 8#32)) (IntOp.shli .vector (t 2) 16#32)) (IntOp.shli .vector (t 3) 24#32)

/-- The column, of the four that word `c` packs, in byte `q`. -/
def colOf (q : ℕ) (c : Fin 1024) : Fin 4096 := ⟨(c.val + 1024 * q) % 4096, Nat.mod_lt _ (by norm_num)⟩

/-- The packed words of arrays of `n` rows. -/
def packed {n : ℕ} (a b : (⟨2, ![n, 4096]⟩ : Shape).Idx → BitVec 32) : (⟨2, ![n, 1024]⟩ : Shape).Idx → BitVec 32 :=
  fun x => packWord fun q => nameOf (a (ValueIdx.ix2 (x 0) (colOf q (x 1)))) (b (ValueIdx.ix2 (x 0) (colOf q (x 1))))

theorem dropOnce_toNat {k x : BitVec 32} (hk : k.toNat < 2 ^ 31) (hx : x.toNat < 2 ^ 31) :
    (dropOnce k x).toNat = if k.toNat ≤ x.toNat then x.toNat - k.toNat else x.toNat := by
  have hki : k.toInt = k.toNat := BitVec.toInt_eq_toNat_of_lt (by omega)
  have hxi : x.toInt = x.toNat := BitVec.toInt_eq_toNat_of_lt (by omega)
  have hs : k.sle x = decide (k.toNat ≤ x.toNat) := by
    unfold BitVec.sle
    rw [hki, hxi]
    simp only [Nat.cast_le]
  unfold dropOnce IntOp.cmpi IntOp.subi Scalar.select
  by_cases h : k.toNat ≤ x.toNat
  · rw [if_pos h]
    simp only [hs, h, decide_true, BitVec.ofBool_true]
    rw [if_pos (by decide), BitVec.toNat_sub_of_le (by rw [BitVec.le_def]; exact h)]
  · rw [if_neg h]
    simp only [hs, h, decide_false, BitVec.ofBool_false]
    rw [if_neg (by decide), BitVec.sub_zero]

/-- The type named is the sum modulo eleven. -/
theorem nameOf_toNat {x y : BitVec 32} (hx : x.toNat < 21) (hy : y.toNat < 38) : (nameOf x y).toNat = (x.toNat + y.toNat) % 11 := by
  have h0 : (IntOp.addi x y).toNat = x.toNat + y.toNat := by
    unfold IntOp.addi
    rw [BitVec.toNat_add, Nat.mod_eq_of_lt (by omega)]
  have e44 : (44#32).toNat = 44 := rfl
  have e22 : (22#32).toNat = 22 := rfl
  have e11 : (11#32).toNat = 11 := rfl
  have h1 := dropOnce_toNat (k := 44#32) (x := IntOp.addi x y) (by omega) (by omega)
  rw [h0, e44] at h1
  have b1 : (dropOnce 44#32 (IntOp.addi x y)).toNat < 2 ^ 31 := by rw [h1]; split <;> omega
  have h2 := dropOnce_toNat (k := 22#32) (by omega) b1
  rw [h1, e22] at h2
  have b2 : (dropOnce 22#32 (dropOnce 44#32 (IntOp.addi x y))).toNat < 2 ^ 31 := by rw [h2]; split <;> split <;> omega
  have h3 := dropOnce_toNat (k := 11#32) (by omega) b2
  rw [h2, e11] at h3
  unfold nameOf
  rw [h3]
  split <;> split <;> split <;> omega

/-- Two numbers on disjoint bits of a word. -/
theorem ori_shli {a b n : BitVec 32} (hn : n.toNat < 32) (ha : a.toNat < 2 ^ n.toNat) (hb : b.toNat * 2 ^ n.toNat < 2 ^ 32) :
    (IntOp.ori a (IntOp.shli .vector b n)).toNat = a.toNat + b.toNat * 2 ^ n.toNat := by
  unfold IntOp.ori IntOp.shli
  rw [if_pos hn, BitVec.toNat_or, BitVec.shiftLeft_eq', BitVec.toNat_shiftLeft, Nat.shiftLeft_eq, Nat.mod_eq_of_lt hb, Nat.or_comm,
    ← Nat.shiftLeft_eq, ← Nat.shiftLeft_add_eq_or_of_lt ha, Nat.add_comm]

theorem packWord_toNat {t : ℕ → BitVec 32} (ht : ∀ q < 4, (t q).toNat < 256) :
    (packWord t).toNat = (t 0).toNat + (t 1).toNat * 256 + (t 2).toNat * 65536 + (t 3).toNat * 16777216 := by
  have h0 := ht 0 (by norm_num)
  have h1 := ht 1 (by norm_num)
  have h2 := ht 2 (by norm_num)
  have h3 := ht 3 (by norm_num)
  have e8 : (8#32).toNat = 8 := rfl
  have e16 : (16#32).toNat = 16 := rfl
  have e24 : (24#32).toNat = 24 := rfl
  have s1 := ori_shli (a := t 0) (b := t 1) (n := 8#32) (by omega) (by rw [e8]; omega) (by rw [e8]; omega)
  rw [e8] at s1
  have s2 := ori_shli (b := t 2) (n := 16#32) (by omega) (by rw [s1, e16]; omega) (by rw [e16]; omega)
  rw [s1, e16] at s2
  have s3 := ori_shli (b := t 3) (n := 24#32) (by omega) (by rw [s2, e24]; omega) (by rw [e24]; omega)
  rw [s2, e24] at s3
  unfold packWord
  rw [s3]
  norm_num

/-- Each byte of a packed word is the type packed there. -/
theorem byte_packWord {t : ℕ → BitVec 32} (ht : ∀ q < 4, (t q).toNat < 256) {q : ℕ} (hq : q < 4) : byte (packWord t) q = (t q).toNat := by
  have h0 := ht 0 (by norm_num)
  have h1 := ht 1 (by norm_num)
  have h2 := ht 2 (by norm_num)
  have h3 := ht 3 (by norm_num)
  unfold byte
  rw [packWord_toNat ht]
  have h4 : q = 0 ∨ q = 1 ∨ q = 2 ∨ q = 3 := by omega
  rcases h4 with rfl | rfl | rfl | rfl <;> norm_num <;> omega

section Body

variable {F : FTy → Type} [FloatOps F]

theorem slice_at {n : ℕ} {v : (⟨2, ![n, 4096]⟩ : Shape).Idx → BitVec 32} {o : ℕ} (q : ℕ) (hq : q < 4) (ho : o = 1024 * q)
    (h : (⟨2, ![n, 4096]⟩ : Shape).Slices ![0, o] ⟨2, ![n, 1024]⟩) (x : (⟨2, ![n, 1024]⟩ : Shape).Idx) :
    extractStridedSlice ⟨2, ![n, 1024]⟩ ![0, o] v h x = v (ValueIdx.ix2 (x 0) (colOf q (x 1))) := by
  subst ho
  refine extractStridedSlice_apply _ _ _ _ _ fun a => ?_
  have h1 : (x 1).val < 1024 := (x 1).isLt
  match a with
  | ⟨0, _⟩ => show (x 0).val = 0 + (x 0).val; omega
  | ⟨1, _⟩ => show ((x 1).val + 1024 * q) % 4096 = 1024 * q + (x 1).val; omega

theorem pay_eq (a b : Vec F S128x4096 .i32) : k0_pay1 a b = packed (n := 128) a b := by
  funext x
  unfold k0_pay1 packed packWord
  exact congrArg₂ IntOp.ori (congrArg₂ IntOp.ori (congrArg₂ IntOp.ori (slice_at 0 (by norm_num) rfl _ x)
    (congrArg (IntOp.shli .vector · 8#32) (slice_at 1 (by norm_num) rfl _ x)))
    (congrArg (IntOp.shli .vector · 16#32) (slice_at 2 (by norm_num) rfl _ x)))
    (congrArg (IntOp.shli .vector · 24#32) (slice_at 3 (by norm_num) rfl _ x))

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)
variable {Q : PUnit → sProp (MT nD τ sig Ix (Elt F) Name U Lvl)}

/-- One run of the packing kernel's body stores the packed words of the two blocks. -/
theorem wp_pack {i : grid0.Coords} {M0 M1 : Memref sig .tc .vmem S128x4096 .i32} {M2 : Memref sig .tc .vmem S128x1024 .i32} {h0 h1 h2}
    {a b : S128x4096.Idx → BitVec 32} {X : S128x1024.Idx → BitVec 32} :
    iprop(owns (d : Thread nD τ) M0 fullShare a ∗ owns (d : Thread nD τ) M1 fullShare b ∗ owns (d : Thread nD τ) M2 fullShare X
        ∗ (iprop(owns (d : Thread nD τ) M0 fullShare a ∗ owns (d : Thread nD τ) M1 fullShare b
            ∗ owns (d : Thread nD τ) M2 fullShare (packed (n := 128) a b)) -∗ Q ⟨⟩))
      ⊢ wp frame (wpE defs 𝒱 (d : Thread nD τ) bd) E (cc0__pack_body (F := F) i M0 h0 M1 h1 M2 h2) Q := by
  rw [cc0__pack_body_eq_skeleton]
  unfold cc0__pack_body_skel
  simp only [Prog.bind_lift, Prog.bind_op, pure_bind]
  have hz : ∀ a : Fin 2, (![0, 0] : Fin 2 → ℕ) a = 0 := by decide
  iintro ⟨H0, H1, H2, Hk⟩
  iapply (wp_load_all 𝒱 (d : Thread nD τ) bd E (M := M0) hz) $$ H0
  iintro H0
  iapply (wp_load_all 𝒱 (d : Thread nD τ) bd E (M := M1) hz) $$ H1
  iintro H1
  iapply (wp_load_all 𝒱 (d : Thread nD τ) bd E (M := M2) hz) $$ H2
  iintro H2
  iapply (wp_store_all 𝒱 (d : Thread nD τ) bd E (M := M2) hz) $$ H2
  iintro H2
  rw [pay_eq, Prog.pure_eq_ret, wp_ret]
  imodintro
  iapply Hk
  isplitl [H0]; · iexact H0
  isplitl [H1]; · iexact H1
  iexact H2

end Body

end Cert.Proof

end
-- ==== Proof.Region.lean ====
/-
  The packing kernel's pipeline: from every array of a device at some contents to the same contents, with the packed
  words of its second and third argument in its first intermediate array.
-/
module

public import Idealize.ShloMosaic.Lib.Pipeline.RegionsLoop
public import Idealize.ShloMosaic.Lib.Tactic
public import proofs.«01_k».proof.Proof.Gen.KernelIdeal.Points
public import proofs.«01_k».proof.Proof.Pack

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-- The block of an argument a point reads. -/
abbrev blk0 (c : Dev nD) (t : Fin cfg0.N) : S128x4096.Idx → BitVec 32 := ((cfg0.win 0).blk t).view.read (Elt F) (V c main_arg1)
abbrev blk1 (c : Dev nD) (t : Fin cfg0.N) : S128x4096.Idx → BitVec 32 := ((cfg0.win 1).blk t).view.read (Elt F) (V c main_arg2)

/-- The recorded waits a TensorCore may have made before the SparseCore call. -/
abbrev lowPairs (c : Dev nD) : Set (SemLoc sig × HIx 1) := {p | (K (F := F)).lev (T c, p.1) p.2 ≤ 0}

def dat (c : Dev nD) : Dat τ (Elt F) (HIx 1) ℕ UU ℕ cfg0 c where
  A w := V c (Pipeline.arrRef spec0 w)
  after w t := match w with
    | ⟨0, _⟩ => blk0 V c t
    | ⟨1, _⟩ => blk1 V c t
    | ⟨2, _⟩ => packed (n := 128) (blk0 V c t) (blk1 V c t)
  Φ _ := Pipeline.scopedRest (Ix := HIx 1) (Name := ℕ) (U := UU) (Lvl := ℕ) (Val := Elt F) spec0 c
  q _ := fullShare
  owed _ := (K (F := F)).Otc c 0
  recorded _ := lowPairs (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (d) : (dat V c).before 0 t d = blk0 V c t := by
  unfold Dat.before; rw [if_pos (fetch0_0 t)]; rfl

theorem before1 (c : Dev nD) (t : Fin cfg0.N) (d) : (dat V c).before 1 t d = blk1 V c t := by
  unfold Dat.before; rw [if_pos (fetch0_1 t)]; rfl

theorem body_obligation (c : Dev nD) : BodyObligation (dat V c) (defs₀ (F := F)) 𝒱₀ none Set.univ := fun t => by
  rw [bigSep_W0, bigSep_W0]
  rw [show (dat V c).Φ t.succ = (dat V c).Φ t.castSucc from rfl, show (dat V c).owesAt none t.succ = (dat V c).owesAt none t.castSucc from rfl]
  iintro ⟨HΦ, Howes, ⟨%d0, H0⟩, ⟨%d1, H1⟩, ⟨%d2, H2⟩⟩
  rw [before0, before1]
  iapply (wp_pack (F := F) (Ix := HIx 1) (Name := ℕ) (U := UU) (Lvl := ℕ) (defs := defs₀) 𝒱₀ c none Set.univ (i := grid0.coords t)
    (M0 := st0_0 t) (M1 := st0_1 t) (M2 := st0_2 t) (h0 := hstage0_0 ((cfg0.slots t 0).cast nbuf0_0))
    (h1 := hstage0_1 ((cfg0.slots t 1).cast nbuf0_1)) (h2 := hstage0_2 ((cfg0.slots t 2).cast nbuf0_2)) (a := blk0 V c t) (b := blk1 V c t))
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## What the pipeline leaves -/

abbrev packedArr (c : Dev nD) : S1024x1024.Idx → BitVec 32 := packed (n := 1024) (V c main_arg1) (V c main_arg2)

theorem index0 (t : Fin cfg0.N) : win0_0.index t 0 = t.val ∧ win0_0.index t 1 = 0 := by
  rcases fin_N0 t with rfl | rfl | rfl | rfl | rfl | rfl | rfl | rfl <;> decide +kernel
theorem index1 (t : Fin cfg0.N) : win0_1.index t 0 = t.val ∧ win0_1.index t 1 = 0 := by
  rcases fin_N0 t with rfl | rfl | rfl | rfl | rfl | rfl | rfl | rfl <;> decide +kernel
theorem index2 (t : Fin cfg0.N) : win0_2.index t 0 = t.val ∧ win0_2.index t 1 = 0 := by
  rcases fin_N0 t with rfl | rfl | rfl | rfl | rfl | rfl | rfl | rfl <;> decide +kernel

theorem t_lt (t : Fin cfg0.N) : t.val < 8 := by have := t.isLt; have h : cfg0.N = 8 := N_0; omega

/-- Row `y` of the block of point `t`. -/
def blkRow (t : Fin cfg0.N) (y : Fin 128) : Fin 1024 := ⟨128 * t.val + y.val, by have := t_lt t; omega⟩

theorem emb0 (t : Fin cfg0.N) (y : S128x4096.Idx) : ((cfg0.win 0).blk t).view.emb y = ValueIdx.ix2 (blkRow t (y 0)) (y 1) := by
  obtain ⟨e0, e1⟩ := index0 t
  funext a; apply Fin.ext
  match a with
  | ⟨0, _⟩ => show win0_0.index t (0 : Fin 2) * 128 + 1 * (y 0).val = 128 * t.val + (y 0).val; omega
  | ⟨1, _⟩ => show win0_0.index t (1 : Fin 2) * 4096 + 1 * (y 1).val = (y 1).val; omega
theorem emb1 (t : Fin cfg0.N) (y : S128x4096.Idx) : ((cfg0.win 1).blk t).view.emb y = ValueIdx.ix2 (blkRow t (y 0)) (y 1) := by
  obtain ⟨e0, e1⟩ := index1 t
  funext a; apply Fin.ext
  match a with
  | ⟨0, _⟩ => show win0_1.index t (0 : Fin 2) * 128 + 1 * (y 0).val = 128 * t.val + (y 0).val; omega
  | ⟨1, _⟩ => show win0_1.index t (1 : Fin 2) * 4096 + 1 * (y 1).val = (y 1).val; omega
theorem emb2 (t : Fin cfg0.N) (y : S128x1024.Idx) : ((cfg0.win 2).blk t).view.emb y = ValueIdx.ix2 (blkRow t (y 0)) (y 1) := by
  obtain ⟨e0, e1⟩ := index2 t
  funext a; apply Fin.ext
  match a with
  | ⟨0, _⟩ => show win0_2.index t (0 : Fin 2) * 128 + 1 * (y 0).val = 128 * t.val + (y 0).val; omega
  | ⟨1, _⟩ => show win0_2.index t (1 : Fin 2) * 1024 + 1 * (y 1).val = (y 1).val; omega

theorem flushed_eq (c : Dev nD) (t : Fin cfg0.N) :
    (dat V c).flushed 2 t = ((cfg0.win 2).blk t).view.read (Elt F) (packedArr V c) := by
  funext y
  show packed (n := 128) (blk0 V c t) (blk1 V c t) y = packed (n := 1024) (V c main_arg1) (V c main_arg2) (((cfg0.win 2).blk t).view.emb y)
  rw [emb2]
  unfold packed
  refine congrArg packWord (funext fun q => ?_)
  refine congrArg₂ nameOf ?_ ?_
  · show V c main_arg1 (((cfg0.win 0).blk t).view.emb _) = _
    rw [emb0]; rfl
  · show V c main_arg2 (((cfg0.win 1).blk t).view.emb _) = _
    rw [emb1]; rfl

theorem covered (i : S1024x1024.Idx) : ∃ t : Fin cfg0.N, (cfg0.win 2).flush t = true ∧ i ∈ ((cfg0.win 2).blk t).view.set := by
  have h0 : (i 0).val < 1024 := (i 0).isLt
  have hN : cfg0.N = 8 := N_0
  have ht : (i 0).val / 128 < cfg0.N := by rw [hN]; omega
  refine ⟨⟨(i 0).val / 128, ht⟩, flush0_2 _, ?_⟩
  have h := ((cfg0.win 2).blk ⟨(i 0).val / 128, ht⟩).view.emb_mem_set (ValueIdx.ix2 ⟨(i 0).val % 128, by omega⟩ (i 1))
  rw [emb2] at h
  refine (congrArg (· ∈ _) ?_).mp h
  refine Eq.trans (congrArg₂ ValueIdx.ix2 (Fin.ext ?_) rfl) (ValueIdx.eq_ix2 i).symm
  show 128 * ((i 0).val / 128) + (i 0).val % 128 = (i 0).val
  omega

theorem final_eq (c : Dev nD) : (dat V c).arrAt 2 cfg0.N = packedArr V c :=
  (dat V c).arrAt_eq_of_cover 2 (packedArr V c) (fun t _ => flushed_eq V c t) covered

/-! ## The region -/

theorem Otc_none (c : Dev nD) : ∀ g, (K (F := F)).Otc c 0 g none = 0 := by
  intro g
  unfold SparseCore.Cfg.Otc
  simp [Finset.sum_apply, tallyAt_apply]

variable (Vp : (c : Dev nD) → (b : Ref sig .tc) → Buf (Elt F) ((c : Thread nD τ).loc b))

set_option backward.isDefEq.respectTransparency.types false in
/-- The packing region, from every array at `V` to every array at `Vp`. -/
def packReg (hout : ∀ c, Vp c main_v0 = packedArr V c) (hne : ∀ c (b : Ref sig .tc), b ≠ main_v0 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ none 0 c fun w s t => (K (F := F)).mayWait_none _ (Otc_none c)
  pre c := iprop(unscopedBufs c (V c) ∗ ∃ W, ⌜(K (F := F)).WBelow (T c) W (0)⌝ ∗ owes (c : Thread nD τ) ((K (F := F)).Otc c 0) W)
  post c := iprop(unscopedBufs c (Vp c) ∗ ∃ W, ⌜(K (F := F)).WBelow (T c) W (0)⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hne c main_arg1 (by decide)).symm
        · exact ((pdats V adm 0 c).arrAt_in 1 rfl _).trans (hne c main_arg2 (by decide)).symm
        · exact (final_eq V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact le_of_eq ((K (F := F)).lev_none _)

end Cert.Proof

end
-- ==== Proof.Run.lean ====
/-
  The run of a tile at the launch: from what a tile is handed and its own buffers and semaphores to what it hands back.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (I : Inputs F) (L : grid1.Coords) (q : PosShare TreeShare)

abbrev coreAt (L : grid1.Coords) : Fin τ.nSC := (L 0).castLE hcore1
abbrev subAt (L : grid1.Coords) : Fin τ.nSub := (L 1).castLE hsub1

/-- A whole buffer at some contents is owned at some contents. -/
theorem owns_of_any {thr : Thread nD τ} (b : Ref sig thr.2.kind) :
    (iprop(∃ f, thr.loc b ↦{fullShare} f) : sProp 𝕄) ⊢ iprop(∃ X, owns thr (Memref.whole b) fullShare X) := by
  iintro ⟨%f, H⟩
  iexists f
  rw [owns_whole]
  iexact H

theorem any_of_owns {thr : Thread nD τ} (b : Ref sig thr.2.kind) (X : b.ty.Contents (Elt F)) :
    (owns thr (Memref.whole b) fullShare X : sProp 𝕄) ⊢ iprop(∃ f, thr.loc b ↦{fullShare} f) := by
  rw [owns_whole]
  iintro H
  iexists X
  iexact H

/-- An owned memref of vector memory is held by name. -/
theorem hv_of_some {thr : Thread nD τ} {n : ℕ} {e : EltTy} (hn : 0 < n) (M : Memref sig thr.2.kind .vmem ⟨1, ![n]⟩ e) :
    (iprop(∃ X, owns thr M fullShare X) : sProp 𝕄) ⊢ iprop(∃ a, hv thr M a) := by
  iintro ⟨%X, H⟩
  ihave H := (hv_of_owns thr hn X) $$ H
  icases H with ⟨%a, -, H⟩
  iexists a
  iexact H

theorem some_of_hv {thr : Thread nD τ} {n : ℕ} {e : EltTy} (M : Memref sig thr.2.kind .vmem ⟨1, ![n]⟩ e) :
    (iprop(∃ a, hv thr M a) : sProp 𝕄) ⊢ iprop(∃ X, owns thr M fullShare X) := by
  unfold hv
  iintro ⟨%a, H⟩
  iexists _
  iexact H

/-- The tile at rest, at the launch: from what it is handed and its own. -/
theorem rest_intro (A : Tile) (O : CellTallies nD τ sig (HIx 1)) (W : Waits sig (HIx 1)) (C6 C7 : sProp 𝕄) (p : ℕ) :
    (iprop((Ins d I A q ∗ RowsOut d I A 0 p p ∗ RowsOut d I A 1 p p ∗ C6 ∗ C7)
        ∗ ((∃ X, owns (A.thr d) A.arg8 fullShare X) ∗ (∃ X, owns (A.thr d) A.arg9 fullShare X) ∗ (∃ X, owns (A.thr d) A.arg10 fullShare X)
          ∗ (∃ X, owns (A.thr d) A.arg11 fullShare X) ∗ (∃ X, owns (A.thr d) A.arg12 fullShare X) ∗ (∃ X, owns (A.thr d) A.arg13 fullShare X)
          ∗ (∃ X, owns (A.thr d) A.arg14 fullShare X) ∗ (∃ X, owns (A.thr d) A.arg15 fullShare X) ∗ (∃ X, owns (A.thr d) A.arg16 fullShare X)
          ∗ (∃ X, owns (A.thr d) A.arg17 fullShare X) ∗ (∃ X, owns (A.thr d) A.arg18 fullShare X) ∗ (∃ X, owns (A.thr d) A.arg19 fullShare X))
        ∗ (semVal (A.thr d, .dma A.arg20.sem) 0 ∗ semVal (A.thr d, .dma A.arg21.sem) 0 ∗ semVal (A.thr d, .dma A.arg22.sem) 0
          ∗ semVal (A.thr d, .dma A.arg23.sem) 0 ∗ semVal (A.thr d, .dma A.arg24.sem) 0 ∗ semVal (A.thr d, .dma A.arg25.sem) 0
          ∗ semVal (A.thr d, .dma A.v30_r0.sem) 0 ∗ semVal (A.thr d, .dma A.v30_r1.sem) 0 ∗ semVal (A.thr d, .dma A.v30_r2.sem) 0)
        ∗ Owes (A.thr d) none O W) : sProp 𝕄)
      ⊢ Resting d none I A q q.left q.right O W p C6 C7 := by
  unfold Resting Ins Idle Rested Scratch
  iintro ⟨⟨⟨H30, H20, H31, H21, H4⟩, HR0, HR1, H6, H7⟩, ⟨B8, B9, B10, B11, B12, B13, B14, B15, B16, B17, B18, B19⟩,
    ⟨S20, S21, S22, S23, S24, S25, R0, R1, R2⟩, HO⟩
  ihave B8 := (hv_of_some (thr := A.thr d) (by decide) A.arg8) $$ B8
  ihave B9 := (hv_of_some (thr := A.thr d) (by decide) A.arg9) $$ B9
  ihave B10 := (hv_of_some (thr := A.thr d) (by decide) A.arg10) $$ B10
  ihave B11 := (hv_of_some (thr := A.thr d) (by decide) A.arg11) $$ B11
  ihave B12 := (hv_of_some (thr := A.thr d) (by decide) A.arg12) $$ B12
  ihave B13 := (hv_of_some (thr := A.thr d) (by decide) A.arg13) $$ B13
  ihave B14 := (hv_of_some (thr := A.thr d) (by decide) A.arg14) $$ B14
  ihave B15 := (hv_of_some (thr := A.thr d) (by decide) A.arg15) $$ B15
  ihave B16 := (hv_of_some (thr := A.thr d) (by decide) A.arg16) $$ B16
  ihave B17 := (hv_of_some (thr := A.thr d) (by decide) A.arg17) $$ B17
  ihave B18 := (hv_of_some (thr := A.thr d) (by decide) A.arg18) $$ B18
  ihave B19 := (hv_of_some (thr := A.thr d) (by decide) A.arg19) $$ B19
  icases B14 with ⟨%e, B14⟩
  icases B15 with ⟨%h, B15⟩
  icases B16 with ⟨%o, B16⟩
  isplitl [H30 B8 S20]
  · isplitl [H30]; · iexact H30
    isplitl [B8]; · iexact B8
    iexact S20
  isplitl [H20 B10 S22]
  · isplitl [H20]; · iexact H20
    isplitl [B10]; · iexact B10
    iexact S22
  isplitl [H31 B9 S21]
  · isplitl [H31]; · iexact H31
    isplitl [B9]; · iexact B9
    iexact S21
  isplitl [H21 B11 S23]
  · isplitl [H21]; · iexact H21
    isplitl [B11]; · iexact B11
    iexact S23
  isplitl [B12 S24 HR0]
  · isplitl [B12]; · iexact B12
    isplitl [S24]; · iexact S24
    iexact HR0
  isplitl [B13 S25 HR1]
  · isplitl [B13]; · iexact B13
    isplitl [S25]; · iexact S25
    iexact HR1
  isplitl [B14 B15 B16]
  · iexists e, h, o
    isplitl [B14]; · iexact B14
    isplitl [B15]; · iexact B15
    iexact B16
  isplitl [B17]; · iexact B17
  isplitl [B18]; · iexact B18
  isplitl [B19]; · iexact B19
  isplitl [R0]; · iexact R0
  isplitl [R1]; · iexact R1
  isplitl [R2]; · iexact R2
  isplitl [H4]; · iexact H4
  isplitl [H6]; · iexact H6
  isplitl [H7]; · iexact H7
  iexact HO

/-- And back. -/
theorem rest_elim (A : Tile) (O : CellTallies nD τ sig (HIx 1)) (W : Waits sig (HIx 1)) (C6 C7 : sProp 𝕄) (p : ℕ) :
    (Resting d none I A q q.left q.right O W p C6 C7 : sProp 𝕄)
      ⊢ iprop((Ins d I A q ∗ RowsOut d I A 0 p p ∗ RowsOut d I A 1 p p ∗ C6 ∗ C7)
        ∗ ((∃ X, owns (A.thr d) A.arg8 fullShare X) ∗ (∃ X, owns (A.thr d) A.arg9 fullShare X) ∗ (∃ X, owns (A.thr d) A.arg10 fullShare X)
          ∗ (∃ X, owns (A.thr d) A.arg11 fullShare X) ∗ (∃ X, owns (A.thr d) A.arg12 fullShare X) ∗ (∃ X, owns (A.thr d) A.arg13 fullShare X)
          ∗ (∃ X, owns (A.thr d) A.arg14 fullShare X) ∗ (∃ X, owns (A.thr d) A.arg15 fullShare X) ∗ (∃ X, owns (A.thr d) A.arg16 fullShare X)
          ∗ (∃ X, owns (A.thr d) A.arg17 fullShare X) ∗ (∃ X, owns (A.thr d) A.arg18 fullShare X) ∗ (∃ X, owns (A.thr d) A.arg19 fullShare X))
        ∗ (semVal (A.thr d, .dma A.arg20.sem) 0 ∗ semVal (A.thr d, .dma A.arg21.sem) 0 ∗ semVal (A.thr d, .dma A.arg22.sem) 0
          ∗ semVal (A.thr d, .dma A.arg23.sem) 0 ∗ semVal (A.thr d, .dma A.arg24.sem) 0 ∗ semVal (A.thr d, .dma A.arg25.sem) 0
          ∗ semVal (A.thr d, .dma A.v30_r0.sem) 0 ∗ semVal (A.thr d, .dma A.v30_r1.sem) 0 ∗ semVal (A.thr d, .dma A.v30_r2.sem) 0)
        ∗ Owes (A.thr d) none O W) := by
  unfold Resting Ins Idle Rested Scratch
  iintro ⟨⟨H30, B8, S20⟩, ⟨H20, B10, S22⟩, ⟨H31, B9, S21⟩, ⟨H21, B11, S23⟩, ⟨B12, S24, HR0⟩, ⟨B13, S25, HR1⟩, ⟨%e, %h, %o, B14, B15, B16⟩,
    B17, B18, B19, R0, R1, R2, H4, H6, H7, HO⟩
  isplitl [H30 H20 H31 H21 H4 HR0 HR1 H6 H7]
  · isplitl [H30 H20 H31 H21 H4]
    · isplitl [H30]; · iexact H30
      isplitl [H20]; · iexact H20
      isplitl [H31]; · iexact H31
      isplitl [H21]; · iexact H21
      iexact H4
    isplitl [HR0]; · iexact HR0
    isplitl [HR1]; · iexact HR1
    isplitl [H6]; · iexact H6
    iexact H7
  isplitl [B8 B9 B10 B11 B12 B13 B14 B15 B16 B17 B18 B19]
  · isplitl [B8]; · iapply (some_of_hv (thr := A.thr d) A.arg8) $$ B8
    isplitl [B9]; · iapply (some_of_hv (thr := A.thr d) A.arg9) $$ B9
    isplitl [B10]; · iapply (some_of_hv (thr := A.thr d) A.arg10) $$ B10
    isplitl [B11]; · iapply (some_of_hv (thr := A.thr d) A.arg11) $$ B11
    isplitl [B12]; · iapply (some_of_hv (thr := A.thr d) A.arg12) $$ B12
    isplitl [B13]; · iapply (some_of_hv (thr := A.thr d) A.arg13) $$ B13
    isplitl [B14]
    · iapply (some_of_hv (thr := A.thr d) A.arg14); iexists e; iexact B14
    isplitl [B15]
    · iapply (some_of_hv (thr := A.thr d) A.arg15); iexists h; iexact B15
    isplitl [B16]
    · iapply (some_of_hv (thr := A.thr d) A.arg16); iexists o; iexact B16
    isplitl [B17]; · iapply (some_of_hv (thr := A.thr d) A.arg17) $$ B17
    isplitl [B18]; · iapply (some_of_hv (thr := A.thr d) A.arg18) $$ B18
    iapply (some_of_hv (thr := A.thr d) A.arg19) $$ B19
  isplitl [S20 S21 S22 S23 S24 S25 R0 R1 R2]
  · isplitl [S20]; · iexact S20
    isplitl [S21]; · iexact S21
    isplitl [S22]; · iexact S22
    isplitl [S23]; · iexact S23
    isplitl [S24]; · iexact S24
    isplitl [S25]; · iexact S25
    isplitl [R0]; · iexact R0
    isplitl [R1]; · iexact R1
    iexact R2
  iexact HO

/-- A subcore's buffers, owned. -/
theorem bufs_eq (b : Ref sig .scVector) (c : Fin τ.nSC) (s : Fin τ.nSub) :
    (anyBuf d c s b : sProp 𝕄) = iprop(∃ X, owns (V d c s) (Memref.whole b) fullShare X) :=
  BI.equiv_iff.mp ⟨owns_of_any (thr := V d c s) b, exists_elim fun X => any_of_owns (thr := V d c s) b X⟩

/-- The tile's run. -/
theorem tile_body (O : CellTallies nD τ sig (HIx 1)) (W : Waits sig (HIx 1)) (hO : ∀ g, O g none = 0) :
    iprop(levAts (K (F := F)).L (K (F := F)).lev ∗ emp ∗ Handed d I (tileAt L) q
        ∗ scopedBufs (V d (coreAt L) (subAt L)) ∗ scopedSems0 (V d (coreAt L) (subAt L)) ∗ owes (V d (coreAt L) (subAt L)) O W)
      ⊢ wp frame (wpE (defs₀ (F := F)) 𝒱₀ (V d (coreAt L) (subAt L)) none) Set.univ ((tileAt L).prog (F := F))
          fun _ => iprop(Returned d I (tileAt L) q ∗ scopedBufs (V d (coreAt L) (subAt L)) ∗ scopedSems0 (V d (coreAt L) (subAt L))
            ∗ ∃ W', ⌜∀ p ∈ W', p ∈ W ∨ p.2 = none⌝ ∗ owes (V d (coreAt L) (subAt L)) O W') := by
  rw [(K (F := F)).scopedBufs_V kfacts d (coreAt L) (subAt L), SparseCore.Cfg.scopedSems0_V (Val := Elt F) d (coreAt L) (subAt L), ownSems0_tile, ownBufs_tile]
  simp only [bufs_eq]
  unfold Handed Returned
  iintro ⟨#Hlv, -, Hh, ⟨Hb, Hrb⟩, ⟨Hs, Hrs⟩, HO⟩
  ihave Hmw := ((K (F := F)).mayWaits_none (thr := V d (coreAt L) (subAt L)) hO) $$ Hlv
  ihave HO := (owes_start (V d (coreAt L) (subAt L)) none) $$ [Hmw HO]
  · isplitl [Hmw]; · iexact Hmw
    iexact HO
  ihave HR := (rest_intro d I q (tileAt L) O W _ _ 0) $$ [Hh Hb Hs HO]
  · isplitl [Hh]; · iexact Hh
    isplitl [Hb]; · iexact Hb
    isplitl [Hs]; · iexact Hs
    iexact HO
  ihave Hw := (wp_prog (defs := defs₀ (F := F)) EC 𝒱₀ d none none I (tileAt L)) $$ HR
  iapply (wp_wand frame _ _) $$ Hw
  iintro %_ HR
  ihave HR := (rest_elim d I q (tileAt L) O W _ _ 16) $$ HR
  icases HR with ⟨Hh, Hb, Hs, HO⟩
  unfold Owes
  icases HO with ⟨-, HO⟩
  isplitl [Hh]; · iexact Hh
  isplitl [Hb Hrb]
  · isplitl [Hb]; · iexact Hb
    iexact Hrb
  isplitl [Hs Hrs]
  · isplitl [Hs]; · iexact Hs
    iexact Hrs
  iexact HO

end Body

end Cert.Proof

end
-- ==== Proof.Pays.lean ====
/-
  What the launch hands each SparseCore and each tile, and the launch's obligations about a tile's run.
-/
module

public import proofs.«01_k».proof.Proof.Run

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem nCore_eq : ∀ q : Fin 1, (K (F := F)).nCore q = 2 := fun | 0 => rfl
theorem nSub_eq : ∀ q : Fin 1, (K (F := F)).nSub q = 16 := fun | 0 => rfl

/-- The tile `(c, s)`, and its share of the arrays read. -/
abbrev tileOf (c : Fin 2) (s : Fin 16) : Tile := tileAt (coordsV c s)
def tileShare (c : Fin 2) (s : Fin 16) : PosShare TreeShare := Transfers.dealOf fullShare.right (Finset.univ : Finset (Fin (2 * 16))) (finProdFinEquiv (c, s))

variable (I : Dev nD → Inputs F)

def P : (K (F := F)).Pay (nD := nD) (Val := Elt F) (Name := ℕ) (U := UU) where
  st := fun q d c => bigSep Finset.univ fun i : Fin ((K (F := F)).nSub q) =>
    Handed d (I d) (tileOf (c.cast (nCore_eq q)) (i.cast (nSub_eq q))) (tileShare (c.cast (nCore_eq q)) (i.cast (nSub_eq q)))
  dn := fun q d c => bigSep Finset.univ fun i : Fin ((K (F := F)).nSub q) =>
    Returned d (I d) (tileOf (c.cast (nCore_eq q)) (i.cast (nSub_eq q))) (tileShare (c.cast (nCore_eq q)) (i.cast (nSub_eq q)))
  go := fun q d c i => Handed d (I d) (tileOf (c.cast (nCore_eq q)) (i.cast (nSub_eq q))) (tileShare (c.cast (nCore_eq q)) (i.cast (nSub_eq q)))
  td := fun q d c i => Returned d (I d) (tileOf (c.cast (nCore_eq q)) (i.cast (nSub_eq q))) (tileShare (c.cast (nCore_eq q)) (i.cast (nSub_eq q)))
  x := fun _ _ => iprop(emp)

instance P_storable : (P I).IsStorable where
  st _ d c := by unfold P; infer_instance
  dn _ d c := by unfold P; infer_instance
  go _ _ _ _ := by unfold P; infer_instance
  td _ _ _ _ := by unfold P; infer_instance

theorem defs₀_vector (c : Fin τ.nSC) (s : Fin τ.nSub) :
    defs₀ (F := F) (.scVector c s) 1 () = SparseCore.onTile hcore1 hsub1 (fun c s => (tileAt (coordsV c s)).prog (F := F)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (I d) (coordsV ⟨_, hc.1⟩ ⟨_, hc.2⟩) (tileShare c i) O W hO).trans (wp_mono frame _ _ fun _ => obl_post)

theorem vecSplit : (K (F := F)).VecSplit (P I) 0 := by
  refine SparseCore.Cfg.VecSplit.of_plain fun d c => ?_
  unfold P
  iintro H
  imodintro
  isplitl [H]; · iexact H
  iintro H
  iexact H

end Cert.Proof

end
-- ==== Proof.Deal.lean ====
/-
  The arrays of a device dealt to its thirty-two tiles, and put together again from what the tiles hand back.
-/
module

public import proofs.«01_k».proof.Proof.Pays
public import Idealize.ShloMosaic.Lib.Ring

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A rank-two memref as its rows -/

section Rows

variable {thr : Thread nD τ} {sp : Space} {R n : ℕ} {e : EltTy} (M : Memref sig thr.2.kind sp ⟨2, ![R, n]⟩ e)
variable (hn : 0 < n) (hq : (⟨2, ![1, n]⟩ : Shape).Squeezes ⟨1, ![n]⟩) (q : PosShare TreeShare) (X : (⟨2, ![R, n]⟩ : Shape).Idx → Elt F e)

/-- The rectangle of row `r`. -/
abbrev rowRect (r : Fin R) : Rect ⟨2, ![R, n]⟩ := Rect.unit (s := ⟨2, ![R, n]⟩) ![r.val, 0] ![1, n] (row_inb rfl)

theorem mem_rowRect (r : Fin R) (i : (⟨2, ![R, n]⟩ : Shape).Idx) : i ∈ (rowRect (n := n) r).set ↔ (i 0).val = r.val := by
  have h1 : (i 1).val < n := (i 1).isLt
  rw [Rect.mem_set_unit]
  constructor
  · intro h
    have := h 0
    have ha : r.val ≤ (i 0).val ∧ (i 0).val < r.val + 1 := this
    omega
  · intro h a
    match a with
    | ⟨0, _⟩ => show r.val ≤ (i 0).val ∧ (i 0).val < r.val + 1; omega
    | ⟨1, _⟩ => show 0 ≤ (i 1).val ∧ (i 1).val < 0 + n; omega

theorem row_ext (r : Fin R) (Y : (⟨2, ![R, n]⟩ : Shape).Idx → Elt F e) :
    ((vec (rowOf Y hn r) : (⟨1, ![n]⟩ : Shape).Idx → Elt F e) = vec (rowOf X hn r))
      ↔ (fun j => Y ((rowRect r).emb j)) = fun j => X ((rowRect r).emb j) := by
  constructor
  · intro h
    funext j
    have hj : j = Fin.cons (⟨0, Nat.one_pos⟩ : Fin 1) (ValueIdx.ix1 (⟨(j 1).val, (j 1).isLt⟩ : Fin n)) := by
      funext a
      match a with
      | ⟨0, _⟩ => exact Subsingleton.elim (α := Fin 1) _ _
      | ⟨1, _⟩ => rfl
    have h2 := congrFun h (ValueIdx.ix1 (⟨(j 1).val, (j 1).isLt⟩ : Fin n))
    rw [hj]
    exact (congrArg Y (row_emb (hn := hn) r (row_inb rfl) _)).trans (h2.trans (congrArg X (row_emb (hn := hn) r (row_inb rfl) _)).symm)
  · intro h
    funext y
    have h2 := congrFun h (Fin.cons (⟨0, Nat.one_pos⟩ : Fin 1) y)
    exact (congrArg Y (row_emb (hn := hn) r (row_inb rfl) y)).symm.trans (h2.trans (congrArg X (row_emb (hn := hn) r (row_inb rfl) y)))

theorem owns_rowM (r : Fin R) :
    (owns thr (rowM M r hq) q (vec (rowOf X hn r)) : sProp 𝕄) = owns thr (M.slice (rowRect r) (fun _ => rfl)) q fun j => X ((rowRect r).emb j) := by
  unfold owns
  refine congrArg (fun Φ : M.view.ty.Contents (Elt F) → sProp 𝕄 => iprop(∃ f, Φ f)) (funext fun f => ?_)
  rw [read_rowM M hn r hq f, propext (row_ext hn X r _), set_rowM]
  rfl

theorem rowRect_disjoint (r r' : Fin R) (h : r ≠ r') : Disjoint (rowRect (n := n) r).set (rowRect (n := n) r').set := by
  rw [Finset.disjoint_left]
  intro i hi hi'
  rw [mem_rowRect] at hi hi'
  exact h (Fin.ext (hi.symm.trans hi'))

theorem rowRect_cover : (Finset.univ : Finset (Fin R)).biUnion (fun r => (rowRect (n := n) r).set) = Finset.univ := by
  refine Finset.eq_univ_iff_forall.mpr fun i => Finset.mem_biUnion.mpr ⟨(⟨(i 0).val, (i 0).isLt⟩ : Fin R), Finset.mem_univ _, ?_⟩
  exact (mem_rowRect _ i).mpr rfl

theorem owns_rows : (owns thr M q X : sProp 𝕄) ⊢ bigSep Finset.univ fun r => owns thr (rowM M r hq) q (vec (rowOf X hn r)) := by
  simp only [owns_rowM]
  exact owns_rects thr M q rowRect (fun _ _ => rfl) rowRect_disjoint rowRect_cover X

theorem owns_of_rows [∀ e, Nonempty (Elt F e)] :
    (bigSep Finset.univ fun r => owns thr (rowM M r hq) q (vec (rowOf X hn r)) : sProp 𝕄) ⊢ owns thr M q X := by
  simp only [owns_rowM]
  exact owns_of_rects thr M q rowRect (fun _ _ => rfl) rowRect_disjoint rowRect_cover X

end Rows

/-! ## The rows and the parts by tile -/

/-- A row's number from its tile, its pair and its place in the pair. -/
def rowEquiv : (Fin 2 × Fin 16) × (Fin 16 × Fin 2) ≃ Fin 1024 := (finProdFinEquiv.prodCongr finProdFinEquiv).trans finProdFinEquiv

theorem rowEquiv_eq (c : Fin 2) (s : Fin 16) (p : Fin 16) (k : Fin 2) : rowEquiv ((c, s), (p, k)) = (tileOf c s).row (2 * p.val + k.val) := by
  refine Fin.ext ?_
  show (k.val + 2 * p.val) + (16 * 2) * (s.val + 16 * c.val) = 512 * c.val + 32 * s.val + (2 * p.val + k.val) % 32
  omega

/-- All rows are each tile's even rows and its odd rows. -/
theorem rows_by_tile (Φ : Fin 1024 → sProp 𝕄) :
    bigSep Finset.univ Φ = bigSep Finset.univ fun cs : Fin 2 × Fin 16 =>
      iprop((bigSep (Finset.range 16) fun p => Φ ((tileOf cs.1 cs.2).row (2 * p + 0))) ∗ bigSep (Finset.range 16) fun p => Φ ((tileOf cs.1 cs.2).row (2 * p + 1))) := by
  rw [bigSep_univ_equiv rowEquiv, bigSep_univ_prod]
  refine bigSep_congr fun cs _ => ?_
  rw [bigSep_univ_prod]
  simp only [rowEquiv_eq, bigSep_fin_two]
  rw [Ring.bigSep_fin_eq_range 16 _ (fun p => iprop(Φ ((tileOf cs.1 cs.2).row (2 * p + 0)) ∗ Φ ((tileOf cs.1 cs.2).row (2 * p + 1))))
    (fun t h => (congrArg₂ BI.sep (congrArg Φ (rowEquiv_eq cs.1 cs.2 ⟨t, h⟩ 0)) (congrArg Φ (rowEquiv_eq cs.1 cs.2 ⟨t, h⟩ 1))).symm)]
  exact bigSep_sep' _ _ _

/-- The part of a flat array a tile writes. -/
abbrev partRect (cs : Fin 2 × Fin 16) : Rect S11264 := (tileOf cs.1 cs.2).part

theorem mem_part (cs : Fin 2 × Fin 16) (i : S11264.Idx) : i ∈ (partRect cs).set ↔ (i 0).val / 352 = cs.2.val + 16 * cs.1.val := by
  unfold partRect Tile.part
  rw [Rect.mem_set_unit]
  have h0 : k1_off32 (tileOf cs.1 cs.2).i 0 = 11 * (512 * cs.1.val + 32 * cs.2.val) := congrFun (off32_eq _) 0
  constructor
  · intro h
    have h' := h 0
    rw [h0] at h'
    have h'' : 11 * (512 * cs.1.val + 32 * cs.2.val) ≤ (i 0).val ∧ (i 0).val < 11 * (512 * cs.1.val + 32 * cs.2.val) + 352 := h'
    omega
  · intro h a
    match a with
    | ⟨0, _⟩ =>
      show k1_off32 (tileOf cs.1 cs.2).i 0 ≤ (i 0).val ∧ (i 0).val < k1_off32 (tileOf cs.1 cs.2).i 0 + 352
      rw [h0]; omega

theorem part_disjoint (t t' : Fin 2 × Fin 16) (h : t ≠ t') : Disjoint (partRect t).set (partRect t').set := by
  rw [Finset.disjoint_left]
  intro i hi hi'
  rw [mem_part] at hi hi'
  have h1 := t.2.isLt
  have h2 := t'.2.isLt
  exact h (Prod.ext (Fin.ext (by omega)) (Fin.ext (by omega)))

theorem part_cover : (Finset.univ : Finset (Fin 2 × Fin 16)).biUnion (fun t => (partRect t).set) = Finset.univ := by
  refine Finset.eq_univ_iff_forall.mpr fun i => Finset.mem_biUnion.mpr ?_
  have hi : (i 0).val < 11264 := (i 0).isLt
  refine ⟨(⟨(i 0).val / 352 / 16, by omega⟩, ⟨(i 0).val / 352 % 16, by omega⟩), Finset.mem_univ _, ?_⟩
  rw [mem_part]
  show _ = (i 0).val / 352 % 16 + 16 * ((i 0).val / 352 / 16)
  omega

/-! ## Dealing -/

variable (d : Dev nD) (I : Inputs F)

/-- One array read, dealt. -/
theorem deal_read {ℓ : Dev nD × DevRef τ sig} (f : Buf (Elt F) ℓ) :
    (ℓ ↦{fullShare.right} f : sProp 𝕄) ⊢ bigSep Finset.univ fun cs : Fin 2 × Fin 16 => ℓ ↦{tileShare cs.1 cs.2} f := by
  rw [Transfers.pointsTo_deal (Finset.univ : Finset (Fin (2 * 16))) ⟨0, Finset.mem_univ _⟩, bigSep_univ_equiv finProdFinEquiv]
  exact .rfl

theorem halve {ℓ : Dev nD × DevRef τ sig} (q : PosShare TreeShare) (f : Buf (Elt F) ℓ) :
    (ℓ ↦{q} f : sProp 𝕄) ⊢ iprop((ℓ ↦{q.left} f) ∗ ℓ ↦{q.right} f) := (pointsTo_share (PosShare.mem_left_op_right q)).1

/-- A tile's shares of the arrays read, from its share of each. -/
theorem ins_of (c : Fin 2) (s : Fin 16) (q : PosShare TreeShare) :
    (iprop(((SparseCore.T d).loc main_arg0 ↦{q} I.crd) ∗ ((SparseCore.T d).loc main_arg3 ↦{q} I.num) ∗ (SparseCore.T d).loc main_v0 ↦{q} I.wrd) : sProp 𝕄) ⊢ Ins d I (tileOf c s) q := by
  unfold Ins
  have e2 (q : PosShare TreeShare) : (owns ((tileOf c s).thr d) (tileOf c s).arg2 q I.crd : sProp 𝕄) = ((SparseCore.T d).loc main_arg0 ↦{q} I.crd) := owns_whole _ _ _ _
  have e3 (q : PosShare TreeShare) : (owns ((tileOf c s).thr d) (tileOf c s).arg3 q I.wrd : sProp 𝕄) = ((SparseCore.T d).loc main_v0 ↦{q} I.wrd) := owns_whole _ _ _ _
  have e4 (q : PosShare TreeShare) : (owns ((tileOf c s).thr d) (tileOf c s).arg4 q I.num : sProp 𝕄) = ((SparseCore.T d).loc main_arg3 ↦{q} I.num) := owns_whole _ _ _ _
  rw [e2, e2, e3, e3, e4]
  iintro ⟨H0, H3, Hv⟩
  ihave H0 := (halve q _) $$ H0
  ihave Hv := (halve q _) $$ Hv
  icases H0 with ⟨H0l, H0r⟩
  icases Hv with ⟨Hvl, Hvr⟩
  isplitl [Hvl]; · iexact Hvl
  isplitl [H0l]; · iexact H0l
  isplitl [Hvr]; · iexact Hvr
  isplitl [H0r]; · iexact H0r
  iexact H3

theorem emp_in {B : sProp (MT nD τ sig (HIx 1) (Elt F) ℕ UU ℕ)} : B ⊢ iprop(emp ∗ B) := by
  iintro H
  isplitr; · iempintro
  iexact H

/-- The sorted array dealt as each tile's rows of it, still to be written. -/
theorem deal_rows (X : S1024x12288.Idx → F .f32) :
    ((SparseCore.T d).loc main_v1_0 ↦{fullShare} X : sProp 𝕄)
      ⊢ bigSep Finset.univ fun cs : Fin 2 × Fin 16 => iprop(RowsOut d I (tileOf cs.1 cs.2) 0 0 0 ∗ RowsOut d I (tileOf cs.1 cs.2) 1 0 0) := by
  have e : ((SparseCore.T d).loc main_v1_0 ↦{fullShare} X : sProp 𝕄) = owns ((tileOf 0 0).thr d) (Memref.whole main_v1_0_scv) fullShare X := (owns_whole _ _ _ _).symm
  rw [e]
  refine (owns_rows (F := F) (thr := (tileOf 0 0).thr d) (Memref.whole main_v1_0_scv) (by omega) squeezes_S1x12288_S12288 fullShare X).trans ?_
  rw [rows_by_tile]
  refine bigSep_mono fun cs _ => ?_
  unfold RowsOut
  have free (k : ℕ) : (bigSep (Finset.range 16) fun p => owns ((tileOf 0 0).thr d) (rowM (Memref.whole main_v1_0_scv) ((tileOf cs.1 cs.2).row (2 * p + k)) squeezes_S1x12288_S12288) fullShare
        (vec (rowOf X (by omega) ((tileOf cs.1 cs.2).row (2 * p + k)))) : sProp 𝕄)
      ⊢ iprop(bigSep (Finset.range 0) (fun p => RowDone d I (tileOf cs.1 cs.2) (2 * p + k)) ∗ bigSep (Finset.Ico 0 16) fun p => RowFree d (tileOf cs.1 cs.2) (2 * p + k)) := by
    rw [Finset.range_zero, bigSep_empty, ← Finset.range_eq_Ico]
    refine BI.Entails.trans (bigSep_mono (Ψ := fun p => RowFree d (tileOf cs.1 cs.2) (2 * p + k)) fun p _ => exists_intro (Φ := fun Y => owns ((tileOf cs.1 cs.2).thr d) (rowM (tileOf cs.1 cs.2).arg5 ((tileOf cs.1 cs.2).row (2 * p + k)) squeezes_S1x12288_S12288) fullShare Y) _) ?_
    exact emp_in
  exact BI.sep_mono (free 0) (free 1)

/-- A flat array dealt as the tiles' parts of it. -/
theorem deal_part {M : Memref sig ((tileOf 0 0).thr d).2.kind .hbm S11264 .i32} (X : S11264.Idx → Elt F .i32) :
    (owns ((tileOf 0 0).thr d) M fullShare X : sProp 𝕄)
      ⊢ bigSep Finset.univ fun cs : Fin 2 × Fin 16 => iprop(∃ Y, owns ((tileOf 0 0).thr d) (M.slice (partRect cs) (fun _ => rfl)) fullShare Y) :=
  (owns_rects ((tileOf 0 0).thr d) M fullShare partRect (fun _ _ => rfl) part_disjoint part_cover X).trans
    (bigSep_mono fun cs _ => exists_intro (Φ := fun Y => owns ((tileOf 0 0).thr d) (M.slice (partRect cs) (fun _ => rfl)) fullShare Y) fun j => X ((partRect cs).emb j))

theorem own1 (X : S11264.Idx → BitVec 32) :
    ((SparseCore.T d).loc main_v1_1 ↦{fullShare} X : sProp 𝕄) = owns ((tileOf 0 0).thr d) (Memref.whole main_v1_1_scv) fullShare X := (owns_whole _ _ _ _).symm
theorem own2 (X : S11264.Idx → BitVec 32) :
    ((SparseCore.T d).loc main_v1_2 ↦{fullShare} X : sProp 𝕄) = owns ((tileOf 0 0).thr d) (Memref.whole main_v1_2_scv) fullShare X := (owns_whole _ _ _ _).symm

theorem handed_of (cs : Fin 2 × Fin 16) :
    (iprop(((SparseCore.T d).loc main_arg0 ↦{tileShare cs.1 cs.2} I.crd) ∗ ((SparseCore.T d).loc main_arg3 ↦{tileShare cs.1 cs.2} I.num)
        ∗ ((SparseCore.T d).loc main_v0 ↦{tileShare cs.1 cs.2} I.wrd)
        ∗ (RowsOut d I (tileOf cs.1 cs.2) 0 0 0 ∗ RowsOut d I (tileOf cs.1 cs.2) 1 0 0)
        ∗ (∃ Y, owns ((tileOf 0 0).thr d) ((Memref.whole main_v1_1_scv).slice (partRect cs) (fun _ => rfl)) fullShare Y)
        ∗ ∃ Y, owns ((tileOf 0 0).thr d) ((Memref.whole main_v1_2_scv).slice (partRect cs) (fun _ => rfl)) fullShare Y) : sProp 𝕄)
      ⊢ Handed d I (tileOf cs.1 cs.2) (tileShare cs.1 cs.2) := by
  unfold Handed
  iintro ⟨H0, H3, Hv, ⟨HR, HR'⟩, H6, H7⟩
  isplitl [H0 H3 Hv]
  · iapply (ins_of d I cs.1 cs.2 (tileShare cs.1 cs.2))
    isplitl [H0]; · iexact H0
    isplitl [H3]; · iexact H3
    iexact Hv
  isplitl [HR]; · iexact HR
  isplitl [HR']; · iexact HR'
  isplitl [H6]; · iexact H6
  iexact H7

/-- What the launch hands the tiles. -/
theorem deal (X : S1024x12288.Idx → F .f32) (Y Z : S11264.Idx → BitVec 32) :
    (iprop(((SparseCore.T d).loc main_arg0 ↦{fullShare.right} I.crd) ∗ ((SparseCore.T d).loc main_arg3 ↦{fullShare.right} I.num)
        ∗ ((SparseCore.T d).loc main_v0 ↦{fullShare.right} I.wrd) ∗ ((SparseCore.T d).loc main_v1_0 ↦{fullShare} X)
        ∗ ((SparseCore.T d).loc main_v1_1 ↦{fullShare} Y) ∗ (SparseCore.T d).loc main_v1_2 ↦{fullShare} Z) : sProp 𝕄)
      ⊢ bigSep Finset.univ fun c : Fin 2 => bigSep Finset.univ fun s : Fin 16 => Handed d I (tileOf c s) (tileShare c s) := by
  rw [← bigSep_univ_prod (fun cs : Fin 2 × Fin 16 => Handed d I (tileOf cs.1 cs.2) (tileShare cs.1 cs.2)), own1, own2]
  refine BI.Entails.trans (BI.sep_mono (deal_read _) (BI.sep_mono (deal_read _) (BI.sep_mono (deal_read _) (BI.sep_mono (deal_rows d I X) (BI.sep_mono (deal_part d Y) (deal_part d Z)))))) ?_
  simp only [← bigSep_sep]
  refine bigSep_mono fun cs _ => ?_
  exact handed_of d I cs

/-! ## Putting together -/

variable [∀ e, Nonempty (Elt F e)]

/-- The sorted coordinates of all rows. -/
def Inputs.out : S1024x12288.Idx → F .f32 := fun x => I.sorted (x 0) (x 1).val

theorem out_row (r : Fin 1024) : (vec (rowOf I.out (by omega) r) : S12288.Idx → F .f32) = vec (I.sorted r) := by
  funext y
  have h : (y 0).val < 12288 := (y 0).isLt
  show I.sorted r ((y 0).val % 12288) = I.sorted r (y 0).val
  rw [Nat.mod_eq_of_lt h]

theorem join_rows :
    (bigSep Finset.univ fun cs : Fin 2 × Fin 16 => iprop(RowsOut d I (tileOf cs.1 cs.2) 0 16 16 ∗ RowsOut d I (tileOf cs.1 cs.2) 1 16 16) : sProp 𝕄)
      ⊢ (SparseCore.T d).loc main_v1_0 ↦{fullShare} I.out := by
  have e : ((SparseCore.T d).loc main_v1_0 ↦{fullShare} I.out : sProp 𝕄) = owns ((tileOf 0 0).thr d) (Memref.whole main_v1_0_scv) fullShare I.out := (owns_whole _ _ _ _).symm
  rw [e]
  refine BI.Entails.trans ?_ (owns_of_rows (F := F) (thr := (tileOf 0 0).thr d) (Memref.whole main_v1_0_scv) (by omega) squeezes_S1x12288_S12288 fullShare I.out)
  rw [rows_by_tile]
  refine bigSep_mono fun cs _ => ?_
  have done (k : ℕ) : (RowsOut d I (tileOf cs.1 cs.2) k 16 16 : sProp 𝕄)
      ⊢ bigSep (Finset.range 16) fun p => owns ((tileOf 0 0).thr d) (rowM (Memref.whole main_v1_0_scv) ((tileOf cs.1 cs.2).row (2 * p + k)) squeezes_S1x12288_S12288) fullShare
        (vec (rowOf I.out (by omega) ((tileOf cs.1 cs.2).row (2 * p + k)))) := by
    unfold RowsOut
    rw [Finset.Ico_self, bigSep_empty]
    simp only [out_row]
    exact sep_elim_left
  exact BI.sep_mono (done 0) (done 1)

theorem join_part {M : Memref sig ((tileOf 0 0).thr d).2.kind .hbm S11264 .i32} (X : S11264.Idx → Elt F .i32) :
    (bigSep Finset.univ fun cs : Fin 2 × Fin 16 => owns ((tileOf 0 0).thr d) (M.slice (partRect cs) (fun _ => rfl)) fullShare fun j => X ((partRect cs).emb j) : sProp 𝕄)
      ⊢ owns ((tileOf 0 0).thr d) M fullShare X :=
  owns_of_rects ((tileOf 0 0).thr d) M fullShare partRect (fun _ _ => rfl) part_disjoint part_cover X

theorem of_returned (cs : Fin 2 × Fin 16) :
    (Returned d I (tileOf cs.1 cs.2) (tileShare cs.1 cs.2) : sProp 𝕄)
      ⊢ iprop((RowsOut d I (tileOf cs.1 cs.2) 0 16 16 ∗ RowsOut d I (tileOf cs.1 cs.2) 1 16 16)
        ∗ (owns ((tileOf 0 0).thr d) ((Memref.whole main_v1_1_scv).slice (partRect cs) (fun _ => rfl)) fullShare fun j => I.counts ((partRect cs).emb j))
        ∗ owns ((tileOf 0 0).thr d) ((Memref.whole main_v1_2_scv).slice (partRect cs) (fun _ => rfl)) fullShare fun j => I.offsets ((partRect cs).emb j)) := by
  unfold Returned
  iintro ⟨-, HR, HR', H6, H7⟩
  isplitl [HR HR']
  · isplitl [HR]; · iexact HR
    iexact HR'
  isplitl [H6]; · iexact H6
  iexact H7

/-- What the tiles hand back. -/
theorem join :
    (bigSep Finset.univ fun c : Fin 2 => bigSep Finset.univ fun s : Fin 16 => Returned d I (tileOf c s) (tileShare c s) : sProp 𝕄)
      ⊢ iprop(((SparseCore.T d).loc main_v1_0 ↦{fullShare} I.out) ∗ ((SparseCore.T d).loc main_v1_1 ↦{fullShare} I.counts)
          ∗ (SparseCore.T d).loc main_v1_2 ↦{fullShare} I.offsets) := by
  rw [← bigSep_univ_prod (fun cs : Fin 2 × Fin 16 => Returned d I (tileOf cs.1 cs.2) (tileShare cs.1 cs.2)), own1, own2]
  refine BI.Entails.trans ?_ (BI.sep_mono (join_rows d I) (BI.sep_mono (join_part d I.counts) (join_part d I.offsets)))
  simp only [← bigSep_sep]
  refine bigSep_mono fun cs _ => ?_
  exact of_returned d I cs

end Cert.Proof

end
-- ==== Proof.Main.lean ====
/-
  The program on the TensorCore: the packing kernel, the call of the SparseCores, the two reshapes; and the run of the
  whole machine from it.
-/
module

public import Idealize.ShloMosaic.Lib.SparseCore.Quiescent
public import proofs.«01_k».proof.Proof.Region
public import proofs.«01_k».proof.Proof.Deal

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- Every array as the launch finds it, and as the packing kernel leaves it. -/
abbrev atLaunch (c : Dev nD) (b : Ref sig .tc) : Buf (Elt F) ((c : Thread nD τ).loc b) := m ((c : Thread nD τ).loc b)
def words (c : Dev nD) : S1024x1024.Idx → BitVec 32 := packedArr (atLaunch m) c
def afterPack (c : Dev nD) : (b : Ref sig .tc) → Buf (Elt F) ((c : Thread nD τ).loc b) := Function.update (atLaunch m c) main_v0 (words m c)

theorem words_pos : 0 < 1024 := by norm_num

variable (hp : ∀ d (r : Fin 1024), Packed (rowOf (words m d) words_pos r))

/-- What the SparseCores read. -/
def inputs (d : Dev nD) : Inputs F where
  crd := m ((SparseCore.T d).loc main_arg0)
  wrd := words m d
  num := m ((SparseCore.T d).loc main_arg3)
  packed := hp d

/-- A flat array as one line of eleven per row. -/
def tableOf (X : S11264.Idx → BitVec 32) : S1024x11.Idx → BitVec 32 := shapeCast S1024x11 X shapeCasts_S11264_S1024x11

/-! ## The launch element of the ghost state -/

theorem hinj : Function.Injective (Pipeline.cellOf (nD := nD) (τ := τ) cfgs) := cellOf_inj

def u₀ : UU := (initOf (K (F := F)).hsCells (K (F := F)).hsToks, initOf (Pipeline.cells cfgs hinj) (Pipeline.launchToks cfgs hinj), 1)

/-- What the launch gives the packing kernel on device `d`. -/
def G (d : Dev nD) : sProp 𝕄 := iprop(Pipeline.cellsGhost cfgs EP 0 d ∗ Pipeline.toksInit cfgs EP 0 d)

theorem hu₀ (I : Dev nD → Inputs F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P I).x q thr) := by
  have hx : (iprop(emp) : sProp 𝕄) ⊢ bigSep Finset.univ fun thr : Thread nD τ => bigSep Finset.univ fun q : Fin 1 => (P I).x q thr := by
    unfold P
    have e1 : (bigSep Finset.univ fun _ : Fin 1 => iprop(emp) : sProp 𝕄) = iprop(emp) := bigSep_emp_const _
    have e2 : (bigSep Finset.univ fun _ : Thread nD τ => iprop(emp) : sProp 𝕄) = iprop(emp) := bigSep_emp_const _
    refine Entails.of_eq (Eq.symm ?_)
    show (bigSep Finset.univ fun _ : Thread nD τ => bigSep Finset.univ fun _ : Fin 1 => iprop(emp) : sProp 𝕄) = iprop(emp)
    rw [e1, e2]
  have hg : (iprop((bigSep Finset.univ fun c : Dev nD => bigSep Finset.univ fun p : Fin 1 => Pipeline.cellsGhost cfgs EP p c)
      ∗ bigSep Finset.univ fun c : Dev nD => bigSep Finset.univ fun p : Fin 1 => Pipeline.toksInit cfgs EP p c) : sProp 𝕄) ⊢ bigSep Finset.univ fun d : Dev nD => G d := by
    unfold G
    rw [bigSep_sep']
    simp only [bigSep_univ_of_subsingleton (0 : Fin 1)]
    exact .rfl
  unfold u₀
  iintro Hu
  ihave H := (ownU_pair (initOf (K (F := F)).hsCells (K (F := F)).hsToks) (initOf (Pipeline.cells cfgs hinj) (Pipeline.launchToks cfgs hinj), (1 : Counters))) $$ Hu
  icases H with ⟨HH, HR⟩
  ihave HR := (own_pair_emb (embR : Emb (UP × Counters) (MT nD τ sig (HIx 1) (Elt F) ℕ UU ℕ)) (initOf (Pipeline.cells cfgs hinj) (Pipeline.launchToks cfgs hinj)) (1 : Counters)) $$ HR
  icases HR with ⟨HP, -⟩
  ihave HP := (Pipeline.fund_ghost cfgs (EP : Emb UP (MT nD τ sig (HIx 1) (Elt F) ℕ UU ℕ)) hinj) $$ HP
  imod HP with HP
  imodintro
  isplitl [HH]; · iexact HH
  isplitl [HP]; · iapply hg $$ HP
  iapply hx
  iempintro

/-! ## The steps of the program on the TensorCore -/

theorem unscopedBufs_eq (d : Dev nD) (W : (b : Ref sig .tc) → Buf (Elt F) ((d : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1_0 ↦{fullShare} W main_v1_0)
      ∗ ((SparseCore.T d).loc main_v1_1 ↦{fullShare} W main_v1_1) ∗ ((SparseCore.T d).loc main_v1_2 ↦{fullShare} W main_v1_2)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_arg2, main_arg3, main_v0, main_v1_0, main_v1_1, main_v1_2, main_v2, main_v3} by decide,
    bigSep_insert (by decide), bigSep_insert (by decide), bigSep_insert (by decide), bigSep_insert (by decide), bigSep_insert (by decide),
    bigSep_insert (by decide), bigSep_insert (by decide), bigSep_insert (by decide), bigSep_insert (by decide), bigSep_singleton]
  rfl

/-- The waits the TensorCore may owe before the call. -/
abbrev Owing (d : Dev nD) : sProp 𝕄 := iprop(∃ W, ⌜(K (F := F)).WBelow (SparseCore.T d) W 0⌝ ∗ owes (SparseCore.T d) ((K (F := F)).Otc d 0) W)

theorem tcSt_open (d : Dev nD) : ((K (F := F)).tcSt EH d 0 : sProp 𝕄) ⊢ iprop(Owing d ∗ (Owing d -∗ (K (F := F)).tcSt EH d 0)) := by
  unfold SparseCore.Cfg.tcSt
  iintro ⟨HO, H⟩
  isplitl [HO]; · iexact HO
  iintro HO
  isplitl [HO]; · iexact HO
  iexact H

abbrev adm : (p : Fin 1) → (pcfgs (F := F) p).Adm := fun p => (cfgs p).toPCfg_adm

/-- The packing kernel's call, under the labels of the pipelines alone. -/
def packCall : Prog (TpuEff nD τ sig (Elt F) (ΛP (F := F)) .tc) PUnit := .op (.customCall (Pipeline.entry 0) ()) fun x => .ret x

abbrev packCallSc : Prog (TpuEff nD τ sig (Elt F) (SparseCore.Sig (ΛP (F := F)) 1) .tc) PUnit := Prog.lift (.customCall (SparseCore.inner (Pipeline.entry 0)) ())

theorem packCall_lift : packCallSc (F := F) = SparseCore.liftProg packCall := rfl

def packRegion := packReg (atLaunch m) adm (afterPack m) (fun c => Function.update_self _ _ _) (fun c b hb => Function.update_of_ne hb _ _)

theorem pre_eq (d : Dev nD) : (packRegion m).pre d = (iprop(unscopedBufs d (atLaunch m d) ∗ Owing d) : sProp 𝕄) := rfl
theorem post_eq (d : Dev nD) : (packRegion m).post d = (iprop(unscopedBufs d (afterPack m d) ∗ Owing d) : sProp 𝕄) := rfl

theorem wp_region (d : Dev nD) (Φ : PUnit → sProp (MT nD τ sig (HIx 1) (Elt F) ℕ UU ℕ)) :
    (iprop((boundary (SparseCore.T d : Thread nD τ) ∗ (unscopedBufs d (afterPack m d) ∗ Owing d) -∗ Φ ⟨⟩)
        ∗ boundary (SparseCore.T d : Thread nD τ) ∗ (unscopedBufs d (atLaunch m d) ∗ Owing d) ∗ levAts (K (F := F)).L (K (F := F)).lev ∗ G d) : sProp 𝕄)
      ⊢ wp frame (wpE ((K (F := F)).defs (D (F := F))) 𝒱 (SparseCore.T d) none) Set.univ (packCallSc (F := F)) Φ := by
  rw [packCall_lift]
  refine BIBase.Entails.trans ?_ ((K (F := F)).wp_liftProg (D (F := F)) 𝒱 (SparseCore.T d) Set.univ none packCall Φ)
  refine BIBase.Entails.trans ?_ (Pipeline.RegionSeg.wp (pcfgs (F := F)) adm (pdats (atLaunch m) adm) none hinj EP defs₀ 𝒱₀ (K (F := F)).L (K (F := F)).lev
    (packRegion m) d none (fun _ h => nomatch h) (fun x => .ret x) Φ)
  unfold G
  rw [pre_eq, post_eq]
  iintro ⟨Hk, Hb, Hpre, Hl, Hc, Ht⟩
  isplitl [Hk]
  · iintro H
    rw [wp_ret]
    imodintro
    iapply Hk $$ H
  isplitl [Hb]; · iexact Hb
  isplitl [Hpre]; · iexact Hpre
  isplitl [Hl]; · iexact Hl
  isplitl [Hc]; · iexact Hc
  iexact Ht

/-- A reshape of a flat array of a device into an array of eleven columns. -/
theorem wp_reshape (d : Dev nD) {x y : Ref sig .tc} (hxy : x ≠ y) {he : x.ty.elt = y.ty.elt} {hn : x.ty.shape.ShapeCasts y.ty.shape} {hx hy} {f : x.ty.Contents (Elt F)} {g : y.ty.Contents (Elt F)}
    {Q : PUnit → sProp (MT nD τ sig (HIx 1) (Elt F) ℕ UU ℕ)} :
    (iprop(boundary (SparseCore.T d : Thread nD τ) ∗ ((SparseCore.T d).loc x ↦{fullShare} f) ∗ (SparseCore.T d).loc y ↦{fullShare} g) : sProp 𝕄)
      ⊢ iprop(((boundary (SparseCore.T d : Thread nD τ) ∗ ((SparseCore.T d).loc x ↦{fullShare} f)
            ∗ (SparseCore.T d).loc y ↦{fullShare} (fun i => he ▸ shapeCast y.ty.shape f hn i)) -∗ Q ⟨⟩)
        -∗ wp frame (wpE ((K (F := F)).defs (D (F := F))) 𝒱 (SparseCore.T d) none) Set.univ
          (hlo rfl (StableHlo.reshape x y he hn hx hy) fun _ => .ret ⟨⟩) Q) := by
  have hne : (Proc.devRef (τ := τ) .tc x) ≠ Proc.devRef .tc y := StableHlo.devRef_ne_of_ne hxy
  have W₀ : Valuation τ sig (Elt F) := fun b _ => Classical.choice inferInstance
  let W : Valuation τ sig (Elt F) := Function.update (Function.update W₀ (Proc.devRef .tc x) f) (Proc.devRef .tc y) g
  have hWx : W (Proc.devRef .tc x) = f := (Function.update_of_ne hne _ _).trans (Function.update_self _ _ _)
  have hWy : W (Proc.devRef .tc y) = g := Function.update_self _ _ _
  have hold (W' : Valuation τ sig (Elt F)) : (StableHlo.held (SparseCore.T d) {Proc.devRef .tc x, Proc.devRef .tc y} W' : sProp 𝕄)
      = iprop(((SparseCore.T d).loc x ↦{fullShare} W' (Proc.devRef .tc x)) ∗ (SparseCore.T d).loc y ↦{fullShare} W' (Proc.devRef .tc y)) := by
    unfold StableHlo.held
    rw [bigSep_insert (by simpa using hne), bigSep_singleton]
    rfl
  have h := StableHlo.wp_hlo_within (defs := (K (F := F)).defs (D (F := F))) 𝒱 (SparseCore.T d) none Set.univ (hp := rfl) (op := StableHlo.reshape x y he hn hx hy) (k := fun _ => .ret ⟨⟩)
    (S := {Proc.devRef .tc x, Proc.devRef .tc y}) (Finset.Subset.refl _) (V := W) (Q := Q) rfl
  rw [hold, hold, StableHlo.reshape_result_ne _ _ he hn hx hy _ hxy, StableHlo.reshape_result, hWx, hWy, wp_ret] at h
  iintro H Hk
  iapply h $$ H
  iintro H
  imodintro
  iapply Hk $$ H

/-! ## The whole program -/

variable (I : Dev nD → Inputs F)

theorem cast_eq (Φ : Fin 2 → Fin 16 → sProp (MT nD τ sig (HIx 1) (Elt F) ℕ UU ℕ)) :
    (bigSep Finset.univ fun c : Fin ((K (F := F)).nCore 0) => bigSep Finset.univ fun i : Fin ((K (F := F)).nSub 0) => Φ (c.cast (nCore_eq 0)) (i.cast (nSub_eq 0)))
      = bigSep Finset.univ fun c : Fin 2 => bigSep Finset.univ fun s : Fin 16 => Φ c s := rfl

theorem st0_eq (d : Dev nD) : (bigSep Finset.univ fun c : Fin ((K (F := F)).nCore 0) => (P I).st 0 d c : sProp 𝕄)
    = bigSep Finset.univ fun c : Fin 2 => bigSep Finset.univ fun s : Fin 16 => Handed d (I d) (tileOf c s) (tileShare c s) :=
  cast_eq fun c s => Handed d (I d) (tileOf c s) (tileShare c s)
theorem dn0_eq (d : Dev nD) : (bigSep Finset.univ fun c : Fin ((K (F := F)).nCore 0) => (P I).dn 0 d c : sProp 𝕄)
    = bigSep Finset.univ fun c : Fin 2 => bigSep Finset.univ fun s : Fin 16 => Returned d (I d) (tileOf c s) (tileShare c s) :=
  cast_eq fun c s => Returned d (I d) (tileOf c s) (tileShare c s)

/-- What the program leaves: its arguments as they were, its results as specified. -/
def FIN (d : Dev nD) : sProp 𝕄 :=
  iprop(((SparseCore.T d).loc main_arg0 ↦{fullShare.left} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare.left} m ((SparseCore.T d).loc main_arg3))
    ∗ ((SparseCore.T d).loc main_v1_0 ↦{fullShare} (inputs m hp d).out)
    ∗ ((SparseCore.T d).loc main_v2 ↦{fullShare} tableOf (inputs m hp d).counts)
    ∗ (SparseCore.T d).loc main_v3 ↦{fullShare} tableOf (inputs m hp d).offsets)

theorem afterPack_of {d : Dev nD} {b : Ref sig .tc} (h : b ≠ main_v0) : afterPack m d b = m ((SparseCore.T d).loc b) := Function.update_of_ne h _ _
theorem afterPack_self {d : Dev nD} : afterPack m d main_v0 = words m d := Function.update_self _ _ _

/-- The arrays after the packing kernel, those the SparseCores take set apart. -/
theorem after_split (d : Dev nD) :
    (unscopedBufs d (afterPack m d) : sProp 𝕄)
      ⊢ iprop((bigSep Finset.univ fun c : Fin 2 => bigSep Finset.univ fun s : Fin 16 => Handed d (inputs m hp d) (tileOf c s) (tileShare c s))
        ∗ ((SparseCore.T d).loc main_arg0 ↦{fullShare.left} m ((SparseCore.T d).loc main_arg0))
        ∗ ((SparseCore.T d).loc main_arg1 ↦{fullShare} m ((SparseCore.T d).loc main_arg1))
        ∗ ((SparseCore.T d).loc main_arg2 ↦{fullShare} m ((SparseCore.T d).loc main_arg2))
        ∗ ((SparseCore.T d).loc main_arg3 ↦{fullShare.left} m ((SparseCore.T d).loc main_arg3))
        ∗ ((SparseCore.T d).loc main_v2 ↦{fullShare} m ((SparseCore.T d).loc main_v2))
        ∗ (SparseCore.T d).loc main_v3 ↦{fullShare} m ((SparseCore.T d).loc main_v3)) := by
  rw [unscopedBufs_eq, afterPack_self, afterPack_of m (b := main_arg0) (by decide), afterPack_of m (b := main_arg1) (by decide), afterPack_of m (b := main_arg2) (by decide),
    afterPack_of m (b := main_arg3) (by decide), afterPack_of m (b := main_v1_0) (by decide), afterPack_of m (b := main_v1_1) (by decide),
    afterPack_of m (b := main_v1_2) (by decide), afterPack_of m (b := main_v2) (by decide), afterPack_of m (b := main_v3) (by decide)]
  iintro ⟨H0, H1, H2, H3, Hw, Ho, Hc, Hf, Hr2, Hr3⟩
  ihave H0 := (halve fullShare _) $$ H0
  ihave H3 := (halve fullShare _) $$ H3
  ihave Hw := (halve fullShare _) $$ Hw
  icases H0 with ⟨H0, H0'⟩
  icases H3 with ⟨H3, H3'⟩
  icases Hw with ⟨-, Hw⟩
  isplitl [H0' H3' Hw Ho Hc Hf]
  · iapply (deal d (inputs m hp d) (m ((SparseCore.T d).loc main_v1_0)) (m ((SparseCore.T d).loc main_v1_1)) (m ((SparseCore.T d).loc main_v1_2)))
    isplitl [H0']; · iexact H0'
    isplitl [H3']; · iexact H3'
    isplitl [Hw]; · iexact Hw
    isplitl [Ho]; · iexact Ho
    isplitl [Hc]; · iexact Hc
    iexact Hf
  isplitl [H0]; · iexact H0
  isplitl [H1]; · iexact H1
  isplitl [H2]; · iexact H2
  isplitl [H3]; · iexact H3
  isplitl [Hr2]; · iexact Hr2
  iexact Hr3

theorem hmain (κ : GSem nD τ sig → ℕ) (d : Dev nD) :
    iprop((K (F := F)).ctx EH (P (inputs m hp)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hp d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave Hlv := (SparseCore.Cfg.ctx_levAts κ) $$ Hctx
  ihave Hst := (tcSt_open d) $$ Hst
  icases Hst with ⟨HO, Hst⟩
  iapply (wp_region m d _)
  isplitr [Hb Hub HO HG Hlv]
  · iintro ⟨Hb, Hub, HO⟩
    ihave Hst := Hst $$ HO
    ihave Hub := (after_split m hp d) $$ Hub
    icases Hub with ⟨Hgo, H0, H1, H2, H3, Hr2, Hr3⟩
    iapply ((K (F := F)).wp_run (D (F := F)) 𝒱 (EH := EH) (P := P (inputs m hp)) κ d 0)
    isplitr; · iexact Hctx
    isplitl [Hst]; · iexact Hst
    isplitl [Hgo]; · rw [st0_eq]; iexact Hgo
    iintro ⟨Hst, Hdn⟩
    ihave Hdn := (Entails.of_eq (dn0_eq (inputs m hp) d)) $$ Hdn
    ihave Hdn := (join d (inputs m hp d)) $$ Hdn
    icases Hdn with ⟨Ho, Hc, Hf⟩
    iapply (wp_reshape d (x := main_v1_1) (y := main_v2) (by decide)) $$ [Hb Hc Hr2]
    · isplitl [Hb]; · iexact Hb
      isplitl [Hc]; · iexact Hc
      iexact Hr2
    iintro ⟨Hb, -, Hr2⟩
    iapply (wp_reshape d (x := main_v1_2) (y := main_v3) (by decide)) $$ [Hb Hf Hr3]
    · isplitl [Hb]; · iexact Hb
      isplitl [Hf]; · iexact Hf
      iexact Hr3
    iintro ⟨Hb, -, Hr3⟩
    imodintro
    isplitl [Hst]; · iexact Hst
    isplitr [Hb Hts]
    · unfold FIN
      isplitl [H0]; · iexact H0
      isplitl [H1]; · iexact H1
      isplitl [H2]; · iexact H2
      isplitl [H3]; · iexact H3
      isplitl [Ho]; · iexact Ho
      isplitl [Hr2]; · iexact Hr2
      iexact Hr3
    isplitl [Hb] <;> iassumption
  isplitl [Hb]; · iexact Hb
  isplitl [Hub HO]
  · isplitl [Hub]; · iexact Hub
    iexact HO
  isplitl [Hlv]; · iexact Hlv
  iexact HG

/-! ## The final memory -/

/-- What is read of device `d` at the end. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v1_0) = (inputs m hp d).out ∧ s'.mem.mem ((SparseCore.T d).loc main_v2) = tableOf (inputs m hp d).counts
    ∧ s'.mem.mem ((SparseCore.T d).loc main_v3) = tableOf (inputs m hp d).offsets

theorem read_one {s' : Phys nD τ sig (Elt F)} {ℓ : Loc nD τ sig} {q : PosShare TreeShare} {f : Buf (Elt F) ℓ} :
    (iprop((ℓ ↦{q} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := q) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m hp d ∗ SI s') ⊢ (⌜fq m hp d s'⌝ : sProp 𝕄) := by
  unfold FIN
  iintro ⟨⟨H0, H1, H2, H3, Ho, Hc, Hf⟩, HS⟩
  ihave H := (read_one (s' := s')) $$ [H0 HS]
  · isplitl [H0] <;> iassumption
  icases H with ⟨%h0, HS⟩
  ihave H := (read_one (s' := s')) $$ [H1 HS]
  · isplitl [H1] <;> iassumption
  icases H with ⟨%h1, HS⟩
  ihave H := (read_one (s' := s')) $$ [H2 HS]
  · isplitl [H2] <;> iassumption
  icases H with ⟨%h2, HS⟩
  ihave H := (read_one (s' := s')) $$ [H3 HS]
  · isplitl [H3] <;> iassumption
  icases H with ⟨%h3, HS⟩
  ihave H := (read_one (s' := s')) $$ [Ho HS]
  · isplitl [Ho] <;> iassumption
  icases H with ⟨%ho, HS⟩
  ihave H := (read_one (s' := s')) $$ [Hc HS]
  · isplitl [Hc] <;> iassumption
  icases H with ⟨%hc, HS⟩
  ihave H := (read_one (s' := s')) $$ [Hf HS]
  · isplitl [Hf] <;> iassumption
  icases H with ⟨%hf, -⟩
  ipureintro
  exact ⟨h0, h1, h2, h3, ho, hc, hf⟩

/-- The run of the whole machine: it ends, its semaphores at zero, its arguments as they were and its results as
    specified, on every device. -/
theorem run_main :
    θ_run (Cert.KernelIdeal.defs (F := F)) (Cert.KernelIdeal.threads (F := F)) ⟨m, fun _ => 0, ρ⟩
      fun r => (∀ d : Dev nD, r.2.mem ((SparseCore.T d).loc main_arg0) = m ((SparseCore.T d).loc main_arg0) ∧ r.2.mem ((SparseCore.T d).loc main_arg1) = m ((SparseCore.T d).loc main_arg1)
        ∧ r.2.mem ((SparseCore.T d).loc main_arg2) = m ((SparseCore.T d).loc main_arg2) ∧ r.2.mem ((SparseCore.T d).loc main_arg3) = m ((SparseCore.T d).loc main_arg3)
        ∧ r.2.mem ((SparseCore.T d).loc main_v1_0) = (inputs m hp d).out ∧ r.2.mem ((SparseCore.T d).loc main_v2) = tableOf (inputs m hp d).counts
        ∧ r.2.mem ((SparseCore.T d).loc main_v3) = tableOf (inputs m hp d).offsets) ∧ r.2.sem = fun _ => 0 :=
  SparseCore.Cfg.θ_run_sc_quiescent (K := K (F := F)) (D := D (F := F)) (𝒱 := 𝒱) (EH := EH) (P := P (inputs m hp)) (A := ∅) kfacts v₀
    (fun q hq => match q with | 0 => nomatch hq)
    (fun q _ => match q with | 0 => tileObl (inputs m hp))
    (fun q _ => match q with | 0 => vecSplit (inputs m hp))
    m ρ main G (FIN m hp) (u₀ (F := F)) (sep_elim_left.trans (hu₀ (inputs m hp))) (hmain m ρ hp) (fq m hp) (hfin m hp) _ (fun _ h hz => ⟨h, hz⟩)

end Cert.Proof

end
-- ==== Proof.Frames.lean ====
/-
  What the precondition says of the two arrays of names, and that the kernel runs and leaves its arguments as they were.
-/
module

public import proofs.«01_k».proof.Defs
public import proofs.«01_k».proof.Proof.Gen.Kernel
public import proofs.«01_k».proof.Proof.Gen.Pre_names_in_range
public import Idealize.ShloMosaic.Lib.ReduceAll
public import proofs.«01_k».proof.Proof.Main

@[expose] public section

noncomputable section

namespace Cert.Proof

open Idealize.ShloMosaic Idealize.SL.Sem

/-- A signed word from zero up to below `k`, in numbers. -/
theorem toNat_lt_of_range {x k : BitVec 32} (hk : k.toNat < 2 ^ 31)
    (h : IntOp.andi (IntOp.cmpi .sge x 0#32) (IntOp.cmpi .slt x k) = 1#1) : x.toNat < k.toNat := by
  obtain ⟨h0, h1⟩ := IntOp.andi_eq_one.1 h
  have a0 : (0#32 : BitVec 32).toInt ≤ x.toInt := IntOp.cmpi_sge.1 h0
  have a1 : x.toInt < k.toInt := IntOp.cmpi_slt.1 h1
  have e0 : (0#32 : BitVec 32).toInt = 0 := rfl
  have ek : k.toInt = k.toNat := BitVec.toInt_eq_toNat_of_lt (by omega)
  rw [e0] at a0
  rw [ek] at a1
  have ex := BitVec.toInt_eq_toNat_cond x
  have hx := x.isLt
  split at ex <;> omega

instance : Subsingleton Cert.Pre_names_in_range.S_.Idx := ⟨fun a b => funext fun i => i.elim0⟩

/-- The precondition bounds every residue by 21 and every atom name by 38. -/
theorem names_of_pre {F : FTy → Type} [FloatOps F] (a0 : FVec F Cert.Pre_names_in_range.S1024x12288 .f32)
    (a1 a2 : IVec Cert.Pre_names_in_range.S1024x4096 32) (a3 : IVec Cert.Pre_names_in_range.S1024 32)
    (h : Cert.Pre_names_in_range.fn a0 a1 a2 a3 = fun _ => 1#1) : ∀ i, (a1 i).toNat < 21 ∧ (a2 i).toNat < 38 := by
  intro i
  have e := congrFun h (fun i => i.elim0)
  obtain ⟨e1, e2⟩ := IntOp.andi_eq_one.1 e
  have f1 := Host.reduce_andi_all _ _ _ _ _ e1 i
  have f2 := Host.reduce_andi_all _ _ _ _ _ e2 i
  exact ⟨toNat_lt_of_range (k := 21#32) (by decide) f1, toNat_lt_of_range (k := 38#32) (by decide) f2⟩

open Cert.KernelIdeal

/-- The precondition, for floats of any kind: every residue and every atom name is in its range. -/
def Named {F : FTy → Type} (m : (ℓ : Loc nD τ sig) → Buf (Elt F) ℓ) : Prop :=
  ∀ d : Dev nD, ∀ i : S1024x4096.Idx, ((m ((SparseCore.T d).loc main_arg1) : S1024x4096.Idx → BitVec 32) i).toNat < 21
    ∧ ((m ((SparseCore.T d).loc main_arg2) : S1024x4096.Idx → BitVec 32) i).toNat < 38

/-- Every word packed from names in range holds four types below eleven. -/
theorem packed_rows {n : ℕ} {a b : (⟨2, ![n, 4096]⟩ : Shape).Idx → BitVec 32} (h : ∀ i, (a i).toNat < 21 ∧ (b i).toNat < 38) (r : Fin n) :
    Packed (rowOf (packed a b) (by omega) r) := by
  intro k _ q hq
  have key : ∀ q : ℕ, (nameOf (a (ValueIdx.ix2 r (colOf q ⟨k % 1024, Nat.mod_lt _ (by omega)⟩)))
      (b (ValueIdx.ix2 r (colOf q ⟨k % 1024, Nat.mod_lt _ (by omega)⟩)))).toNat < 11 := by
    intro q
    have h' := h (ValueIdx.ix2 r (colOf q ⟨k % 1024, Nat.mod_lt _ (by omega)⟩))
    rw [nameOf_toNat h'.1 h'.2]
    exact Nat.mod_lt _ (by omega)
  exact (byte_packWord (fun q _ => (key q).trans (by norm_num)) hq).trans_lt (key q)

theorem packed_of_named {F : FTy → Type} [FloatOps F] [∀ e, Nonempty (Elt F e)] {m : (ℓ : Loc nD τ sig) → Buf (Elt F) ℓ} (h : Named m) (d : Dev nD) (r : Fin 1024) :
    Packed (rowOf (words m d) words_pos r) := packed_rows (n := 1024) (h d) r

/-- The kernel runs, leaves its arguments as they were and every semaphore at zero. -/
theorem run_frame {F : FTy → Type} [FloatOps F] [∀ e, Nonempty (Elt F e)] (m : (ℓ : Loc nD τ sig) → Buf (Elt F) ℓ) (ρ : Dev nD → PrngReg) (h : Named m) :
    θ_run (Cert.KernelIdeal.defs (F := F)) (Cert.KernelIdeal.threads (F := F)) ⟨m, fun _ => 0, ρ⟩
      fun r => (∀ d : Dev nD, r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2)
        ∧ r.2.mem ((SparseCore.T d).loc main_arg3) = m ((SparseCore.T d).loc main_arg3)) ∧ r.2.sem = fun _ => 0 :=
  (θ_run Cert.KernelIdeal.defs _ _).mono (fun _ h => ⟨fun c => ⟨(h.1 c).1, (h.1 c).2.1, (h.1 c).2.2.1, (h.1 c).2.2.2.1⟩, h.2⟩)
    (run_main m ρ (packed_of_named h))

theorem frame_ideal : Cert.quiescent_KernelIdeal := fun m ρ hpre =>
  run_frame (F := Ideal) m ρ fun d => names_of_pre _ _ _ _ (hpre d)

/-- The kernel's own text and the text the run was proved of have the same bodies, label by label. -/
theorem bodies_eq : (@Cert.Kernel.defs₀ Bits _ Cert.Kernel.Gen.facts) = @Cert.KernelIdeal.defs₀ Bits _ Cert.KernelIdeal.Gen.facts := by
  funext k ℓ a
  match k, ℓ, a with
  | .tc, 0, a => rfl
  | .tc, 1, a => rfl
  | .scScalar c, 0, a => rfl
  | .scScalar c, 1, a => rfl
  | .scVector c s, 0, a => rfl
  | .scVector c s, 1, a => rfl

theorem defs_eq : (@Cert.Kernel.defs Bits _ Cert.Kernel.Gen.facts) = @Cert.KernelIdeal.defs Bits _ Cert.KernelIdeal.Gen.facts :=
  congrArg (fun D => (Cert.KernelIdeal.sc (F := Bits)).defs (Pipeline.defs Cert.KernelIdeal.pcfgs D)) bodies_eq

theorem frame_kernel : Cert.quiescent_Kernel := fun m ρ hpre => by
  have h := run_frame (F := Bits) m ρ fun d => names_of_pre _ _ _ _ (hpre d)
  rw [← defs_eq] at h
  exact h

end Cert.Proof

end
-- ==== Proof.RefFrame.lean ====
/-
  The reference runs and leaves its arguments as they were.
-/
module

public import proofs.«01_k».proof.Defs
public import proofs.«01_k».proof.Proof.Gen.ReferenceIdeal.Run
public import proofs.«01_k».proof.Proof.Gen.Pre_names_in_range
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_pre : Cert.quiescent_ReferenceIdeal_pre_names_in_range := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.RefSpec.lean ====
/-
  The reference, stage by stage: the types of the atoms, the order a stable sort by type puts them in, the two gathers along
  that order, the counts of the types and their running sums, each a function of the arrays before it.
-/
module

public import proofs.«01_k».proof.Proof.Gen.ReferenceIdeal.Run
public import Idealize.ShloMosaic.Lib.Routing.Words

@[expose] public section

noncomputable section

namespace Cert.Proof.Ref

open Cert.ReferenceIdeal Cert.ReferenceIdeal.Gen
open Idealize.ShloMosaic Idealize.ShloMosaic.TcCoe Idealize.SL.Sem

variable {F : FTy → Type} [FloatOps F]

/-- A number in every cell of an array. -/
abbrev all (b : BitVec 32) : IVec S1024x4096 32 := broadcastInDim S1024x4096 ![] bcast_S_S1024x4096 (constantI S_ 32 b)
abbrev all1 (b : BitVec 32) : IVec S1024x4096x1 32 := broadcastInDim S1024x4096x1 ![] bcast_S_S1024x4096x1 (constantI S_ 32 b)

/-- The sum of the two names, modulo eleven. -/
def names (a1 a2 : IVec S1024x4096 32) : IVec S1024x4096 32 := Routing.pyRem bcast_S_S1024x4096 (addi a1 a2) (id (constantI S_ 32 11#32))

/-- Whether a column is below its row's number of atoms. -/
def present (a3 : IVec S1024 32) : IVec S1024x4096 1 :=
  cmpi .slt (broadcastInDim S1024x4096 ![0, 1] bcast_S1x4096_S1024x4096_0_1 (broadcastInDim S1x4096 ![1] bcast_S4096_S1x4096_1 (iotaInDim S4096 32 0)))
    (broadcastInDim S1024x4096 ![0, 1] bcast_S1024x1_S1024x4096_0_1 (broadcastInDim S1024x1 ![0] bcast_S1024_S1024x1_0 a3))

/-- The types: the names modulo eleven, eleven for an absent atom. -/
def types (a1 a2 : IVec S1024x4096 32) (a3 : IVec S1024 32) : IVec S1024x4096 32 :=
  select (present a3) (names a1 a2) (broadcastInDim S1024x4096 ![] bcast_S_S1024x4096 (id (constantI S_ 32 11#32)))

/-- The columns in the order of the types. -/
def order (t : IVec S1024x4096 32) : IVec S1024x4096 32 := (Host.sort2 S1024x4096 1 comparator_i32_i32_d1 t (iotaInDim S1024x4096 32 1)).2

/-- The order as start indices, a negative one counted from the end. -/
def starts (o : IVec S1024x4096 32) : IVec S1024x4096x1 32 :=
  shapeCast _ (select (cmpi .slt o (all 0#32)) (addi o (all 4096#32)) o) shapeCasts_S1024x4096_S1024x4096x1

def line (o : IVec S1024x4096 32) : IVec S1024x4096x1 32 := broadcastInDim S1024x4096x1 ![0, 1] bcast_S1024x4096_S1024x4096x1_0_1 o
def starts3 (o : IVec S1024x4096 32) : IVec S1024x4096x1 32 :=
  select (cmpi .slt (line o) (all1 0#32)) (addi (line o) (all1 4096#32)) (line o)

/-- Whether a start index is a column. -/
def inRange (i : IVec S1024x4096x1 32) : IVec S1024x4096 1 :=
  Host.reduce IntOp.andi
    (andi (cmpi .sge i (all1 0#32))
      (cmpi .sle i (broadcastInDim S1024x4096x1 ![0, 1, 2] bcast_S1x1x1_S1024x4096x1_0_1_2 (broadcastInDim S1x1x1 ![2] bcast_S1_S1x1x1_2 (constantI S1 32 4095#32)))))
    (constantI S_ 1 1#1) reducesTo_S1024x4096x1_S1024x4096_d2 h_S_

/-- The types along the order. -/
def typesAlong (t o : IVec S1024x4096 32) : IVec S1024x4096 32 :=
  select (inRange (starts o)) (Host.gather gather_S1024x4096_S1024x4096x1_S1024x4096_n_1_0_0_1_2_11 t (starts o)) (all 2147483648#32)

/-- The coordinates along the order. -/
def coordsAlong (x : S1024x12288.Idx → F .f32) (o : IVec S1024x4096 32) : S1024x4096x3.Idx → F .f32 :=
  select (broadcastInDim S1024x4096x3 ![0, 1] bcast_S1024x4096_S1024x4096x3_0_1 (inRange (starts3 o)))
    (Host.gather gather_S1024x4096x3_S1024x4096x1_S1024x4096x3_2_1_0_0_1_2_113 (shapeCast _ x shapeCasts_S1024x12288_S1024x4096x3) (starts3 o))
    (broadcastInDim S1024x4096x3 ![] bcast_S_S1024x4096x3 (constant S_ .f32 0x7FC00000#32))

/-- Whether the atom at a place is present. -/
def keep (t o : IVec S1024x4096 32) : IVec S1024x4096x3 1 :=
  broadcastInDim S1024x4096x3 ![0, 1, 2] bcast_S1024x4096x1_S1024x4096x3_0_1_2
    (broadcastInDim S1024x4096x1 ![0, 1] bcast_S1024x4096_S1024x4096x1_0_1 (cmpi .slt (typesAlong t o) (all 11#32)))

/-- The sorted coordinates, zero at the absent atoms. -/
def sortedOut (x : S1024x12288.Idx → F .f32) (t o : IVec S1024x4096 32) : S1024x12288.Idx → F .f32 :=
  shapeCast _ (select (keep t o) (coordsAlong x o) (broadcastInDim S1024x4096x3 ![] bcast_S_S1024x4096x3 (id (constant S_ .f32 0x00000000#32))))
    shapeCasts_S1024x4096x3_S1024x12288

/-- Whether an atom has a type. -/
def isType (t : IVec S1024x4096 32) : IVec S1024x4096x11 1 :=
  cmpi .eq (broadcastInDim S1024x4096x11 ![0, 1, 2] bcast_S1024x4096x1_S1024x4096x11_0_1_2 (broadcastInDim S1024x4096x1 ![0, 1] bcast_S1024x4096_S1024x4096x1_0_1 t))
    (broadcastInDim S1024x4096x11 ![0, 1, 2] bcast_S1x1x11_S1024x4096x11_0_1_2 (broadcastInDim S1x1x11 ![2] bcast_S11_S1x1x11_2 (iotaInDim S11 32 0)))

/-- The number of atoms of each type. -/
def countsOut (t : IVec S1024x4096 32) : IVec S1024x11 32 :=
  Host.reduce IntOp.addi (extui 32 (isType t) natLt_1_32) (constantI S_ 32 0#32) reducesTo_S1024x4096x11_S1024x11_d1 h_S_

/-- The running sums of the counts. -/
def sums (n : IVec S1024x11 32) : IVec S1024x11 32 :=
  Host.reduceWindow IntOp.addi ![1, 11] ![1, 1] ![0, 10] ![0, 0] n (broadcastInDim S_ ![] bcast_S_S_ (constantI S_ 32 0#32))
    reduceWindows_S1024x11_S1024x11_w1s1p0_0_w11s1p10_0 h_S_

/-- The number of atoms of the types before each. -/
def offsetsOut (n : IVec S1024x11 32) : IVec S1024x11 32 :=
  concatenate S1024x11 1 [⟨S1024x1, broadcastInDim S1024x1 ![] bcast_S_S1024x1 (constantI S_ 32 0#32)⟩,
    ⟨S1024x10, extractStridedSlice S1024x10 ![0, 0] (sums n) slices_S1024x11_S1024x10_0_0⟩] concatenates_S1024x1_S1024x10_S1024x11_d1

variable (m : (ℓ : Loc nD τ sig) → Buf (Elt F) ℓ) (c : Dev nD)

/-- The types of a memory's arguments. -/
abbrev typesIn : IVec S1024x4096 32 :=
  types (m ((c.tc : Thread nD τ).loc main_arg1)) (m ((c.tc : Thread nD τ).loc main_arg2)) (m ((c.tc : Thread nD τ).loc main_arg3))

theorem sortedOut_eq : Cert.ReferenceIdeal.Value.res_main_v18 m c = sortedOut (m ((c.tc : Thread nD τ).loc main_arg0)) (typesIn m c) (order (typesIn m c)) := by
  unfold Cert.ReferenceIdeal.Value.res_main_v18
  rfl

/-- The reference ends with its stages' results and its arguments unchanged. -/
theorem run (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v18) = sortedOut (m ((c.tc : Thread nD τ).loc main_arg0)) (typesIn m c) (order (typesIn m c))
      ∧ r.2.mem ((c.tc : Thread nD τ).loc main_v26) = countsOut (typesIn m c)
      ∧ r.2.mem ((c.tc : Thread nD τ).loc main_v30) = offsetsOut (countsOut (typesIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.ReferenceIdeal.defs _ _).mono
    (fun _ h c => ⟨(h c).1.trans (sortedOut_eq m c), (h c).2.1.trans rfl, (h c).2.2.1.trans rfl, (h c).2.2.2⟩)
    (Cert.ReferenceIdeal.Value.run (F := F) m ρ)

end Cert.Proof.Ref

end
-- ==== Proof.Stable.lean ====
/-
  A stable sort of positions by a key: the order it leaves is by key and, among equal keys, by position.
-/
module

public import proofs.«01_k».proof.Proof.Ranks
public import Idealize.ShloMosaic.Lib.SortFacts

@[expose] public section

noncomputable section

namespace Cert.Proof

open Idealize.ShloMosaic

variable {n : ℕ} (t : ℕ → ℕ)

/-- The strict comparison of two positions by their keys. -/
def keyLt (a b : Fin n) : Bool := decide (t a.val < t b.val)

/-- Key first, position second. -/
def KeyPos (a b : Fin n) : Prop := t a.val < t b.val ∨ t a.val = t b.val ∧ a.val < b.val

theorem pairwise_insert {a : Fin n} {l : List (Fin n)} (hl : l.Pairwise (KeyPos t)) (ha : ∀ b ∈ l, a.val < b.val) :
    (insertBefore (keyLt t) a l).Pairwise (KeyPos t) := by
  induction l with
  | nil => exact List.pairwise_singleton _ _
  | cons b l ih =>
    obtain ⟨hb, hl⟩ := List.pairwise_cons.1 hl
    unfold insertBefore
    split
    · next h =>
      have h' : t b.val < t a.val := of_decide_eq_true h
      refine List.pairwise_cons.2 ⟨fun c hc => ?_, ih hl fun c hc => ha c (List.mem_cons_of_mem _ hc)⟩
      rcases List.mem_cons.1 ((perm_insertBefore (keyLt t) a l).mem_iff.1 hc) with rfl | hc
      · exact Or.inl h'
      · exact hb c hc
    · next h =>
      have h' : ¬ t b.val < t a.val := fun e => h (decide_eq_true e)
      have first : ∀ c, c.val ∈ Set.Ioi a.val → t b.val ≤ t c.val → KeyPos t a c := fun c hc hk => by
        rcases Nat.lt_or_eq_of_le (show t a.val ≤ t c.val by omega) with h1 | h1
        · exact Or.inl h1
        · exact Or.inr ⟨h1, hc⟩
      refine List.pairwise_cons.2 ⟨fun c hc => first c (ha c hc) ?_, List.pairwise_cons.2 ⟨hb, hl⟩⟩
      rcases List.mem_cons.1 hc with rfl | hc
      · exact Nat.le_refl _
      · rcases hb c hc with h1 | ⟨h1, -⟩ <;> omega

theorem pairwise_sorted {l : List (Fin n)} (hl : l.Pairwise (· < ·)) : (stableSort (keyLt t) l).Pairwise (KeyPos t) := by
  induction l with
  | nil => exact List.Pairwise.nil
  | cons a l ih =>
    obtain ⟨ha, hl⟩ := List.pairwise_cons.1 hl
    unfold stableSort
    exact pairwise_insert t (ih hl) fun b hb => ha b ((perm_stableSort _ l).mem_iff.1 hb)

/-- Of two places, the earlier holds the lesser key, or the same key and the earlier position. -/
theorem sorted_keyPos {p q : Fin n} (h : p < q) : KeyPos t (sortedFrom (keyLt t) p) (sortedFrom (keyLt t) q) :=
  List.pairwise_iff_get.1 (pairwise_sorted t (List.pairwise_lt_finRange n)) _ _ h

/-- The position a stable sort puts at place `p` is the one of rank `p`. -/
theorem rank_sortedFrom (p : Fin 4096) : rank t (sortedFrom (keyLt t) p).val = p.val :=
  rank_of_sorted (sortedFrom (keyLt t)) (fun _ _ h => sorted_keyPos t h) p

end Cert.Proof

end
-- ==== Proof.RefOrder.lean ====
/-
  The reference's types, read at a row and a column, and the order of a row: the column the sort puts at a place is the atom
  of that rank.
-/
module

public import proofs.«01_k».proof.Proof.RefSpec
public import proofs.«01_k».proof.Proof.Stable

@[expose] public section

noncomputable section

namespace Cert.Proof.Ref

open Cert.ReferenceIdeal Cert.ReferenceIdeal.Gen
open Idealize.ShloMosaic Idealize.ShloMosaic.ValueIdx Idealize.ShloMosaic.WordCmp

/-! ## The types -/

theorem names_at (a1 a2 : IVec S1024x4096 32) (i : S1024x4096.Idx) (h1 : (a1 i).toNat < 21) (h2 : (a2 i).toNat < 38) :
    names a1 a2 i = BitVec.ofNat 32 (((a1 i).toNat + (a2 i).toNat) % 11) := by
  refine Routing.pyRem_ap _ (addi a1 a2) _ i ?_ rfl (by omega) (by norm_num) (by norm_num)
  apply BitVec.eq_of_toNat_eq
  show (a1 i + a2 i).toNat = _
  rw [BitVec.toNat_add, BitVec.toNat_ofNat]

theorem present_at (a3 : IVec S1024 32) (r : Fin 1024) (p : Fin 4096) :
    present a3 (ix2 r p) = BitVec.ofBool ((BitVec.ofNat 32 p.val).slt (a3 (ix1 r))) := by
  unfold present
  rw [cmpi_at, Routing.bcCols, Routing.bcRows]
  rfl

/-- The types as naturals. -/
def typ (a1 a2 : IVec S1024x4096 32) (a3 : IVec S1024 32) (r : Fin 1024) (p : ℕ) : ℕ :=
  if (BitVec.ofNat 32 p).slt (a3 (ix1 r)) then
    ((a1 (ix2 r ⟨p % 4096, Nat.mod_lt _ (by norm_num)⟩)).toNat + (a2 (ix2 r ⟨p % 4096, Nat.mod_lt _ (by norm_num)⟩)).toNat) % 11
  else 11

theorem typ_lt (a1 a2 : IVec S1024x4096 32) (a3 : IVec S1024 32) (r : Fin 1024) (p : ℕ) : typ a1 a2 a3 r p < 12 := by
  unfold typ
  split
  · exact Nat.lt_succ_of_lt (Nat.mod_lt _ (by norm_num))
  · norm_num

theorem types_at (a1 a2 : IVec S1024x4096 32) (a3 : IVec S1024 32) (h : ∀ i, (a1 i).toNat < 21 ∧ (a2 i).toNat < 38) (r : Fin 1024) (p : Fin 4096) :
    types a1 a2 a3 (ix2 r p) = BitVec.ofNat 32 (typ a1 a2 a3 r p.val) := by
  unfold types typ
  rw [select_at, present_at, names_at a1 a2 _ (h _).1 (h _).2]
  have e : (⟨p.val % 4096, Nat.mod_lt _ (by norm_num)⟩ : Fin 4096) = p := Fin.ext (Nat.mod_eq_of_lt p.isLt)
  rw [e]
  cases (BitVec.ofNat 32 p.val).slt (a3 (ix1 r)) <;> rfl

/-! ## The order -/

/-- An array of words that holds, at row `r`, the naturals `t r`. -/
def Holds (T : IVec S1024x4096 32) (t : Fin 1024 → ℕ → ℕ) : Prop := ∀ r (p : Fin 4096), T (ix2 r p) = BitVec.ofNat 32 (t r p.val)

/-- The column at a place of a row. -/
abbrev at_ (t : ℕ → ℕ) (p : Fin 4096) : Fin 4096 := sortedFrom (keyLt t) p

theorem along_at {n m : ℕ} (r : Fin n) (p k : Fin m) : (ix2 r p : (⟨2, ![n, m]⟩ : Shape).Idx).along 1 k = ix2 r k := by
  funext a
  match a with
  | ⟨0, _⟩ => rfl
  | ⟨1, _⟩ => rfl

/-- The second array of a sort of two along the rows of a table, read at a row and a place. -/
theorem sort2_at {α β : Type} {n m : ℕ} (cmp : α × β → α × β → BitVec 1) (x : (⟨2, ![n, m]⟩ : Shape).Idx → α) (y : (⟨2, ![n, m]⟩ : Shape).Idx → β)
    (r : Fin n) (p : Fin m) :
    (Host.sort2 ⟨2, ![n, m]⟩ 1 cmp x y).2 (ix2 r p)
      = y (ix2 r (sortedFrom (fun k k' : Fin m => cmp (x (ix2 r k), y (ix2 r k)) (x (ix2 r k'), y (ix2 r k')) == 1#1) p)) := by
  unfold Host.sort2
  rw [dif_pos (show 1 < 2 by norm_num)]
  show y ((ix2 r p : (⟨2, ![n, m]⟩ : Shape).Idx).along 1 (sortedFrom (fun k k' : Fin m =>
    cmp (x ((ix2 r p : (⟨2, ![n, m]⟩ : Shape).Idx).along 1 k), y ((ix2 r p : (⟨2, ![n, m]⟩ : Shape).Idx).along 1 k))
      (x ((ix2 r p : (⟨2, ![n, m]⟩ : Shape).Idx).along 1 k'), y ((ix2 r p : (⟨2, ![n, m]⟩ : Shape).Idx).along 1 k')) == 1#1) p)) = _
  simp only [along_at]
  exact congrArg y (along_at r p _)

theorem order_at {T : IVec S1024x4096 32} {t : Fin 1024 → ℕ → ℕ} (hT : Holds T t) (ht : ∀ r p, t r p < 12) (r : Fin 1024) (p : Fin 4096) :
    order T (ix2 r p) = BitVec.ofNat 32 (at_ (t r) p).val := by
  have key : (fun k k' : Fin 4096 => comparator_i32_i32_d1 (T (ix2 r k), BitVec.ofNat 32 k.val) (T (ix2 r k'), BitVec.ofNat 32 k'.val) == 1#1)
      = keyLt (t r) := by
    funext k k'
    have h1 := ht r k.val
    have h2 := ht r k'.val
    show (IntOp.cmpi .slt (T (ix2 r k)) (T (ix2 r k')) == 1#1) = decide (t r k.val < t r k'.val)
    rw [hT, hT, cmpi_slt_ofNat (by omega) (by omega)]
    by_cases h : t r k.val < t r k'.val <;> simp [h]
  unfold order
  rw [sort2_at]
  exact congrArg (fun R => BitVec.ofNat 32 (sortedFrom R p).val) key

end Cert.Proof.Ref

end
-- ==== Proof.Along.lean ====
/-
  A table read along an array of columns, row by row: the entry of each row at the column its index word names.
-/
module

public import Idealize.ShloMosaic.Lib.ValueIdxCore
public import Idealize.ShloMosaic.Lib.StableHlo.Predicate

@[expose] public section

noncomputable section

namespace Cert.Proof.Ref

open Idealize.ShloMosaic Idealize.ShloMosaic.ValueIdx

section Scalars

variable {α : Type} {R N P : ℕ}

/-- One entry per row and place, the row paired with the index word's row, the column from the word. -/
abbrev oneDims (wf : GatherDims.WF ⟨2, ![R, N]⟩ ⟨3, ![R, P, 1]⟩ ⟨2, ![R, P]⟩ [] [1] [0] [1] [0] 2 ![1, 1]) :
    GatherDims ⟨2, ![R, N]⟩ ⟨3, ![R, P, 1]⟩ ⟨2, ![R, P]⟩ where
  offsetDims := []
  collapsedSliceDims := [1]
  operandBatchingDims := [0]
  startIndicesBatchingDims := [0]
  startIndexMap := [1]
  indexVectorDim := 2
  sliceSizes := ![1, 1]
  wf := wf

theorem gather_one (wf : GatherDims.WF ⟨2, ![R, N]⟩ ⟨3, ![R, P, 1]⟩ ⟨2, ![R, P]⟩ [] [1] [0] [1] [0] 2 ![1, 1])
    (x : (⟨2, ![R, N]⟩ : Shape).Idx → α) (idx : IVec ⟨3, ![R, P, 1]⟩ 32) (r : Fin R) (p : Fin P) (q : Fin N) (hN : N < 2 ^ 31)
    (hq : idx (ix3 r p (0 : Fin 1)) = BitVec.ofNat 32 q.val) : Host.gather (oneDims wf) x idx (ix2 r p) = x (ix2 r q) := by
  have hql := q.isLt
  unfold Host.gather
  refine congrArg x (funext fun a => Fin.ext ?_)
  match a with
  | ⟨0, _⟩ =>
    show (oneDims wf).start (ix2 r p) idx 0 + (oneDims wf).batchCoord (ix2 r p) 0 + (oneDims wf).offCoord (ix2 r p) 0 = r.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  | ⟨1, _⟩ =>
    show (oneDims wf).start (ix2 r p) idx 1 + (oneDims wf).batchCoord (ix2 r p) 1 + (oneDims wf).offCoord (ix2 r p) 1 = q.val
    rw [GatherDims.batchCoord_eq_zero _ _ _ (fun h => by simp at h),
      GatherDims.offCoord_eq_zero _ _ _ (fun h => ((GatherDims.mem_sKept _ _).mp h).1 (List.mem_singleton.mpr rfl)), Nat.add_zero]
    unfold GatherDims.start
    rw [dif_pos (show (1 : Fin 2) ∈ (oneDims wf).startIndexMap from List.mem_singleton.mpr rfl)]
    have hs : (oneDims wf).siIdx (ix2 r p) ⟨List.idxOf (1 : Fin 2) (oneDims wf).startIndexMap,
        List.idxOf_lt_length_iff.2 (List.mem_singleton.mpr rfl)⟩ = ix3 r p (0 : Fin 1) := by
      funext b
      refine Fin.ext ?_
      match b with
      | ⟨0, _⟩ => rfl
      | ⟨1, _⟩ => rfl
      | ⟨2, _⟩ => rfl
    rw [hs, hq, StableHlo.Predicate.toInt_ofNat_small _ (by omega)]
    show min ((q.val : ℤ)).toNat (N - 1) = q.val
    omega

end Scalars

section Lines

variable {α : Type} {R N P K : ℕ}

/-- The same of a table whose entries are lines of `K` numbers. -/
abbrev lineDims (wf : GatherDims.WF ⟨3, ![R, N, K]⟩ ⟨3, ![R, P, 1]⟩ ⟨3, ![R, P, K]⟩ [2] [1] [0] [1] [0] 2 ![1, 1, K]) :
    GatherDims ⟨3, ![R, N, K]⟩ ⟨3, ![R, P, 1]⟩ ⟨3, ![R, P, K]⟩ where
  offsetDims := [2]
  collapsedSliceDims := [1]
  operandBatchingDims := [0]
  startIndicesBatchingDims := [0]
  startIndexMap := [1]
  indexVectorDim := 2
  sliceSizes := ![1, 1, K]
  wf := wf

theorem gather_line (wf : GatherDims.WF ⟨3, ![R, N, K]⟩ ⟨3, ![R, P, 1]⟩ ⟨3, ![R, P, K]⟩ [2] [1] [0] [1] [0] 2 ![1, 1, K])
    (x : (⟨3, ![R, N, K]⟩ : Shape).Idx → α) (idx : IVec ⟨3, ![R, P, 1]⟩ 32) (r : Fin R) (p : Fin P) (k : Fin K) (q : Fin N) (hN : N < 2 ^ 31)
    (hq : idx (ix3 r p (0 : Fin 1)) = BitVec.ofNat 32 q.val) : Host.gather (lineDims wf) x idx (ix3 r p k) = x (ix3 r q k) := by
  have hql := q.isLt
  unfold Host.gather
  refine congrArg x (funext fun a => Fin.ext ?_)
  match a with
  | ⟨0, _⟩ =>
    show (lineDims wf).start (ix3 r p k) idx 0 + (lineDims wf).batchCoord (ix3 r p k) 0 + (lineDims wf).offCoord (ix3 r p k) 0 = r.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  | ⟨1, _⟩ =>
    show (lineDims wf).start (ix3 r p k) idx 1 + (lineDims wf).batchCoord (ix3 r p k) 1 + (lineDims wf).offCoord (ix3 r p k) 1 = q.val
    rw [GatherDims.batchCoord_eq_zero _ _ _ (fun h => by simp at h),
      GatherDims.offCoord_eq_zero _ _ _ (fun h => ((GatherDims.mem_sKept _ _).mp h).1 (List.mem_singleton.mpr rfl)), Nat.add_zero]
    unfold GatherDims.start
    rw [dif_pos (show (1 : Fin 3) ∈ (lineDims wf).startIndexMap from List.mem_singleton.mpr rfl)]
    have hs : (lineDims wf).siIdx (ix3 r p k) ⟨List.idxOf (1 : Fin 3) (lineDims wf).startIndexMap,
        List.idxOf_lt_length_iff.2 (List.mem_singleton.mpr rfl)⟩ = ix3 r p (0 : Fin 1) := by
      funext b
      refine Fin.ext ?_
      match b with
      | ⟨0, _⟩ => rfl
      | ⟨1, _⟩ => rfl
      | ⟨2, _⟩ => rfl
    rw [hs, hq, StableHlo.Predicate.toInt_ofNat_small _ (by omega)]
    show min ((q.val : ℤ)).toNat (N - 1) = q.val
    omega
  | ⟨2, _⟩ =>
    have hk : (2 : Fin 3) ∈ (lineDims wf).sKept := (GatherDims.mem_sKept _ _).mpr ⟨fun h => by simp at h, fun h => by simp at h⟩
    show (lineDims wf).start (ix3 r p k) idx 2 + (lineDims wf).batchCoord (ix3 r p k) 2 + (lineDims wf).offCoord (ix3 r p k) 2 = k.val
    rw [GatherDims.batchCoord_eq_zero _ _ _ (fun h => by simp at h), Nat.add_zero]
    unfold GatherDims.start GatherDims.offCoord
    rw [dif_neg (show (2 : Fin 3) ∉ (lineDims wf).startIndexMap from fun h => by simp at h), dif_pos hk, Nat.zero_add]
    rfl

end Lines

end Cert.Proof.Ref

end
-- ==== Proof.RefRows.lean ====
/-
  The reference's sorted coordinates, read at a row, a place and a component.
-/
module

public import proofs.«01_k».proof.Proof.RefOrder
public import proofs.«01_k».proof.Proof.Along
public import Idealize.ShloMosaic.Lib.ReduceAll
public import Idealize.ShloMosaic.Lib.Routing.OpsPair

@[expose] public section

noncomputable section

namespace Cert.Proof.Ref

open Cert.ReferenceIdeal Cert.ReferenceIdeal.Gen
open Idealize.ShloMosaic Idealize.ShloMosaic.ValueIdx Idealize.ShloMosaic.WordCmp

theorem column_lt (σ : Fin 4096) : σ.val < 2 ^ 31 := by have := σ.isLt; omega

/-- A column's word, wrapped as an index from the end would be, is itself. -/
theorem wrap_column (σ : Fin 4096) (a : BitVec 32) :
    Scalar.select (IntOp.cmpi .slt (BitVec.ofNat 32 σ.val) 0#32) a (BitVec.ofNat 32 σ.val) = BitVec.ofNat 32 σ.val :=
  Routing.wrap_of_lt _ a (by have := column_lt σ; rw [BitVec.toNat_ofNat, Nat.mod_eq_of_lt (by omega)]; exact this)

section

variable {o : IVec S1024x4096 32} {σ : Fin 1024 → Fin 4096 → Fin 4096} (ho : ∀ r p, o (ix2 r p) = BitVec.ofNat 32 (σ r p).val)

include ho

theorem starts_at (r : Fin 1024) (p : Fin 4096) : starts o (ix3 r p (0 : Fin 1)) = BitVec.ofNat 32 (σ r p).val := by
  unfold starts
  rw [shapeCast_apply _ _ (ix3 r p (0 : Fin 1)) (ix2 r p) (by
    rw [Shape.rowMajor_val_two, Shape.rowMajor_val_three]
    show r.val * 4096 + p.val = (r.val * 4096 + p.val) * 1 + 0
    omega)]
  show Scalar.select (IntOp.cmpi .slt (o (ix2 r p)) 0#32) (addi o (all 4096#32) (ix2 r p)) (o (ix2 r p)) = _
  rw [ho]
  exact wrap_column _ _

theorem line_at (r : Fin 1024) (p : Fin 4096) : line o (ix3 r p (0 : Fin 1)) = BitVec.ofNat 32 (σ r p).val := by
  unfold line
  rw [broadcastInDim_apply _ _ _ (ix3 r p (0 : Fin 1)) (ix2 r p) fun a => by
    match a with
    | ⟨0, _⟩ => exact (if_neg (show ¬ 1024 = 1 by norm_num)).symm
    | ⟨1, _⟩ => exact (if_neg (show ¬ 4096 = 1 by norm_num)).symm]
  exact ho r p

theorem starts3_at (r : Fin 1024) (p : Fin 4096) : starts3 o (ix3 r p (0 : Fin 1)) = BitVec.ofNat 32 (σ r p).val := by
  unfold starts3
  show Scalar.select (IntOp.cmpi .slt (line o (ix3 r p (0 : Fin 1))) 0#32) (addi (line o) (all1 4096#32) (ix3 r p (0 : Fin 1))) (line o (ix3 r p (0 : Fin 1))) = _
  rw [line_at ho]
  exact wrap_column _ _

end

theorem inRange_at {i : IVec S1024x4096x1 32} {σ : Fin 1024 → Fin 4096 → Fin 4096} (hi : ∀ r p, i (ix3 r p (0 : Fin 1)) = BitVec.ofNat 32 (σ r p).val)
    (j : S1024x4096.Idx) : inRange i j = 1#1 := by
  unfold inRange
  refine Host.reduce_andi_one _ _ _ _ j rfl fun x => ?_
  have hx : x = ix3 (x 0) (x 1) (0 : Fin 1) := by
    funext a
    match a with
    | ⟨0, _⟩ => rfl
    | ⟨1, _⟩ => rfl
    | ⟨2, _⟩ => exact Subsingleton.elim (α := Fin 1) _ _
  show IntOp.andi (IntOp.cmpi .sge (i x) 0#32) (IntOp.cmpi .sle (i x) 4095#32) = 1#1
  have h1 := column_lt (σ (x 0) (x 1))
  have h2 := (σ (x 0) (x 1)).isLt
  have e : i x = BitVec.ofNat 32 (σ (x 0) (x 1)).val := (congrArg i hx).trans (hi _ _)
  rw [e, show (0#32 : BitVec 32) = BitVec.ofNat 32 0 from rfl, cmpi_sge_ofNat h1 (by norm_num), cmpi_sle_ofNat h1 (by norm_num),
    decide_eq_true (Nat.zero_le _), decide_eq_true (show (σ (x 0) (x 1)).val ≤ 4095 by omega)]
  rfl

section

variable {F : FTy → Type} [FloatOps F]
variable {o : IVec S1024x4096 32} {σ : Fin 1024 → Fin 4096 → Fin 4096} (ho : ∀ r p, o (ix2 r p) = BitVec.ofNat 32 (σ r p).val)

include ho

theorem typesAlong_at (T : IVec S1024x4096 32) (r : Fin 1024) (p : Fin 4096) : typesAlong T o (ix2 r p) = T (ix2 r (σ r p)) := by
  unfold typesAlong
  rw [select_at, inRange_at (starts_at ho), select_of_eq_one rfl]
  exact gather_one _ T _ r p (σ r p) (by norm_num) (starts_at ho r p)

/-- The place of a component in a row of coordinates. -/
def comp (q : Fin 4096) (k : Fin 3) : Fin 12288 := ⟨3 * q.val + k.val, by have := q.isLt; have := k.isLt; omega⟩

theorem coordsAlong_at (x : S1024x12288.Idx → F .f32) (r : Fin 1024) (p : Fin 4096) (k : Fin 3) :
    coordsAlong x o (ix3 r p k) = x (ix2 r (comp (σ r p) k)) := by
  unfold coordsAlong
  rw [select_at, broadcastInDim_apply _ _ _ (ix3 r p k) (ix2 r p) fun a => by
    match a with
    | ⟨0, _⟩ => exact (if_neg (show ¬ 1024 = 1 by norm_num)).symm
    | ⟨1, _⟩ => exact (if_neg (show ¬ 4096 = 1 by norm_num)).symm]
  rw [inRange_at (starts3_at ho), select_of_eq_one rfl]
  refine (gather_line _ _ _ r p k (σ r p) (by norm_num) (starts3_at ho r p)).trans ?_
  refine shapeCast_apply _ _ (ix3 r (σ r p) k) (ix2 r (comp (σ r p) k)) ?_
  rw [Shape.rowMajor_val_two, Shape.rowMajor_val_three]
  show r.val * 12288 + (3 * (σ r p).val + k.val) = (r.val * 4096 + (σ r p).val) * 3 + k.val
  omega

theorem keep_at {T : IVec S1024x4096 32} {t : Fin 1024 → ℕ → ℕ} (hT : Holds T t) (ht : ∀ r p, t r p < 12) (r : Fin 1024) (p : Fin 4096) (k : Fin 3) :
    keep T o (ix3 r p k) = BitVec.ofBool (decide (t r (σ r p).val < 11)) := by
  unfold keep
  rw [broadcastInDim_apply _ _ _ (ix3 r p k) (ix3 r p (0 : Fin 1)) fun a => by
    match a with
    | ⟨0, _⟩ => exact (if_neg (show ¬ 1024 = 1 by norm_num)).symm
    | ⟨1, _⟩ => exact (if_neg (show ¬ 4096 = 1 by norm_num)).symm
    | ⟨2, _⟩ => rfl]
  rw [broadcastInDim_apply _ _ _ (ix3 r p (0 : Fin 1)) (ix2 r p) fun a => by
    match a with
    | ⟨0, _⟩ => exact (if_neg (show ¬ 1024 = 1 by norm_num)).symm
    | ⟨1, _⟩ => exact (if_neg (show ¬ 4096 = 1 by norm_num)).symm]
  show IntOp.cmpi .slt (typesAlong T o (ix2 r p)) (BitVec.ofNat 32 11) = _
  have := ht r (σ r p).val
  rw [typesAlong_at ho, hT, cmpi_slt_ofNat (by omega) (by norm_num)]

theorem sortedOut_at (x : S1024x12288.Idx → F .f32) {T : IVec S1024x4096 32} {t : Fin 1024 → ℕ → ℕ} (hT : Holds T t) (ht : ∀ r p, t r p < 12)
    (r : Fin 1024) (p : Fin 4096) (k : Fin 3) :
    sortedOut x T o (ix2 r (comp p k)) = if t r (σ r p).val < 11 then x (ix2 r (comp (σ r p) k)) else Scalar.ofBits .f32 0x00000000#32 := by
  unfold sortedOut
  rw [shapeCast_apply _ _ (ix2 r (comp p k)) (ix3 r p k) (by
    rw [Shape.rowMajor_val_two, Shape.rowMajor_val_three]
    show (r.val * 4096 + p.val) * 3 + k.val = r.val * 12288 + (3 * p.val + k.val)
    omega)]
  rw [select_at, keep_at ho hT ht, select_decide, coordsAlong_at ho]
  rfl

end

end Cert.Proof.Ref

end
-- ==== Proof.RefTables.lean ====
/-
  The reference's counts and offsets, read at a row and a type.
-/
module

public import proofs.«01_k».proof.Proof.RefOrder
public import Idealize.ShloMosaic.Lib.IndicatorCount

@[expose] public section

noncomputable section

namespace Cert.Proof.Ref

open Cert.ReferenceIdeal Cert.ReferenceIdeal.Gen
open Idealize.ShloMosaic Idealize.ShloMosaic.ValueIdx Idealize.ShloMosaic.WordCmp

/-- The sum along the middle axis of a mask of bits, widened, is the number of bits set. -/
theorem reduce_middle {A B C : ℕ} (msk : IVec ⟨3, ![A, B, C]⟩ 1) (hw : 1 < 32) (h : (⟨3, ![A, B, C]⟩ : Shape).ReducesTo [1] ⟨2, ![A, C]⟩)
    {u : Shape} (hu : 0 < u.numel) (a : Fin A) (c : Fin C) (Q : ℕ → Prop) [DecidablePred Q] (hQ : ∀ b : Fin B, msk (ix3 a b c) = 1#1 ↔ Q b.val) :
    Host.reduce IntOp.addi (extui 32 msk hw) (constantI u 32 0#32) h hu (ix2 a c) = BitVec.ofNat 32 (Nat.count Q B) := by
  classical
  rw [Host.reduce_eq_fold]
  have hdrop : ∀ i : (⟨3, ![A, B, C]⟩ : Shape).Idx, h.drop i = ix2 a c ↔ i 0 = a ∧ i 2 = c := fun i => by
    have h0 : (h.drop i 0 : ℕ) = i 0 := Shape.ReducesTo.drop_apply_val h i 0
    have h1 : (h.drop i 1 : ℕ) = i 2 := Shape.ReducesTo.drop_apply_val h i 1
    constructor
    · intro e
      rw [e] at h0 h1
      exact ⟨Fin.ext h0.symm, Fin.ext h1.symm⟩
    · rintro ⟨e0, e2⟩
      funext b
      match b with
      | ⟨0, _⟩ => exact Fin.ext (h0.trans (congrArg Fin.val e0))
      | ⟨1, _⟩ => exact Fin.ext (h1.trans (congrArg Fin.val e2))
  have back : ∀ i : (⟨3, ![A, B, C]⟩ : Shape).Idx, i 0 = a → i 2 = c → ix3 a (i 1) c = i := fun i e0 e2 => by
    funext b
    match b with
    | ⟨0, _⟩ => exact e0.symm
    | ⟨1, _⟩ => rfl
    | ⟨2, _⟩ => exact e2.symm
  refine (IndicatorCount.fold_addi_setWidth_eq_card msk _).trans (congrArg (BitVec.ofNat 32) ?_)
  rw [← Routing.card_filter_fin B Q]
  refine Finset.card_nbij' (fun i => i 1) (fun b => ix3 a b c) (fun i hi => ?_) (fun b hb => ?_) (fun i hi => ?_) fun _ _ => rfl
  · obtain ⟨hi, hm⟩ := Finset.mem_filter.1 hi
    obtain ⟨e0, e2⟩ := (hdrop i).1 (Finset.mem_filter.1 hi).2
    refine Finset.mem_coe.2 (Finset.mem_filter.2 ⟨Finset.mem_univ _, (hQ (i 1)).1 ?_⟩)
    exact (congrArg msk (back i e0 e2)).trans hm
  · exact Finset.mem_coe.2 (Finset.mem_filter.2 ⟨Finset.mem_filter.2 ⟨Finset.mem_univ _, (hdrop _).2 ⟨rfl, rfl⟩⟩,
      (hQ b).2 (Finset.mem_filter.1 hb).2⟩)
  · obtain ⟨hi, -⟩ := Finset.mem_filter.1 hi
    obtain ⟨e0, e2⟩ := (hdrop i).1 (Finset.mem_filter.1 hi).2
    exact back i e0 e2

/-! ## The counts -/

section

variable {T : IVec S1024x4096 32} {t : Fin 1024 → ℕ → ℕ} (hT : Holds T t) (ht : ∀ r p, t r p < 12)

include hT ht

theorem isType_at (r : Fin 1024) (p : Fin 4096) (c : Fin 11) : isType T (ix3 r p c) = 1#1 ↔ t r p.val = c.val := by
  unfold isType
  rw [cmpi_at]
  rw [broadcastInDim_apply _ bcast_S1024x4096x1_S1024x4096x11_0_1_2 _ (ix3 r p c) (ix3 r p (0 : Fin 1)) fun a => by
    match a with
    | ⟨0, _⟩ => exact (if_neg (show ¬ 1024 = 1 by norm_num)).symm
    | ⟨1, _⟩ => exact (if_neg (show ¬ 4096 = 1 by norm_num)).symm
    | ⟨2, _⟩ => rfl]
  rw [broadcastInDim_apply _ bcast_S1024x4096_S1024x4096x1_0_1 _ (ix3 r p (0 : Fin 1)) (ix2 r p) fun a => by
    match a with
    | ⟨0, _⟩ => exact (if_neg (show ¬ 1024 = 1 by norm_num)).symm
    | ⟨1, _⟩ => exact (if_neg (show ¬ 4096 = 1 by norm_num)).symm]
  rw [broadcastInDim_apply _ bcast_S1x1x11_S1024x4096x11_0_1_2 _ (ix3 r p c) (ix3 (0 : Fin 1) (0 : Fin 1) c) fun a => by
    match a with
    | ⟨0, _⟩ => rfl
    | ⟨1, _⟩ => rfl
    | ⟨2, _⟩ => exact (if_neg (show ¬ 11 = 1 by norm_num)).symm]
  rw [broadcastInDim_apply _ bcast_S11_S1x1x11_2 _ (ix3 (0 : Fin 1) (0 : Fin 1) c) (ix1 c) fun a => by
    match a with
    | ⟨0, _⟩ => exact (if_neg (show ¬ 11 = 1 by norm_num)).symm]
  have h1 := ht r p.val
  have h2 := c.isLt
  rw [hT, show iotaInDim S11 32 0 (ix1 c) = BitVec.ofNat 32 c.val from rfl, cmpi_eq_ofNat_eq_one_iff (by omega) (by omega)]

theorem countsOut_at (r : Fin 1024) (c : Fin 11) : countsOut T (ix2 r c) = BitVec.ofNat 32 (before (t r) c.val 4096) :=
  reduce_middle (isType T) natLt_1_32 reducesTo_S1024x4096x11_S1024x11_d1 h_S_ r c (fun m => t r m = c.val) fun p => isType_at hT ht r p c

end

/-! ## The offsets -/

/-- A running sum along the rows of a table, read at a row, is the running sum of the row alone. -/
theorem window_row {α : Type} {A N : ℕ} {lo : ℕ} (f : α → α → α) (x : (⟨2, ![A, N]⟩ : Shape).Idx → α) {u : Shape} (init : u.Idx → α)
    (h : (⟨2, ![A, N]⟩ : Shape).ReduceWindows (![1, N] : Fin 2 → ℕ) ![1, 1] ![0, lo] ![0, 0] ⟨2, ![A, N]⟩)
    (h' : (⟨2, ![1, N]⟩ : Shape).ReduceWindows (![1, N] : Fin 2 → ℕ) ![1, 1] ![0, lo] ![0, 0] ⟨2, ![1, N]⟩) (hu : 0 < u.numel) (r : Fin A) (j : Fin N) :
    Host.reduceWindow f ![1, N] ![1, 1] ![0, lo] ![0, 0] x init h hu (ix2 r j)
      = Host.reduceWindow f ![1, N] ![1, 1] ![0, lo] ![0, 0] (fun y : (⟨2, ![1, N]⟩ : Shape).Idx => x (ix2 r (y 1))) init h' hu (ix2 (0 : Fin 1) j) := by
  unfold Host.reduceWindow
  dsimp only
  congr 1
  funext acc n
  congr 1
  have hw : ((⟨2, ![1, N]⟩ : Shape).rowMajor.symm n 0).val = 0 := by
    have := ((⟨2, ![1, N]⟩ : Shape).rowMajor.symm n 0).isLt
    change _ < 1 at this
    omega
  have hr := r.isLt
  split
  · next hin =>
    have h1 := hin 1
    rw [dif_pos fun a => ?_]
    · refine congrArg x (funext fun a => Fin.ext ?_)
      match a with
      | ⟨0, _⟩ =>
        show r.val * 1 + ((⟨2, ![1, N]⟩ : Shape).rowMajor.symm n 0).val - 0 = r.val
        omega
      | ⟨1, _⟩ => rfl
    · match a with
      | ⟨0, _⟩ =>
        show 0 ≤ 0 * 1 + ((⟨2, ![1, N]⟩ : Shape).rowMajor.symm n 0).val ∧ 0 * 1 + ((⟨2, ![1, N]⟩ : Shape).rowMajor.symm n 0).val - 0 < 1
        omega
      | ⟨1, _⟩ => exact h1
  · next hin =>
    rw [dif_neg fun hin' => hin fun a => ?_]
    have h1 := hin' 1
    match a with
    | ⟨0, _⟩ =>
      show 0 ≤ r.val * 1 + ((⟨2, ![1, N]⟩ : Shape).rowMajor.symm n 0).val ∧ r.val * 1 + ((⟨2, ![1, N]⟩ : Shape).rowMajor.symm n 0).val - 0 < A
      omega
    | ⟨1, _⟩ => exact h1

theorem window_line : (⟨2, ![1, 11]⟩ : Shape).ReduceWindows (![1, 11] : Fin 2 → ℕ) ![1, 1] ![0, 10] ![0, 0] ⟨2, ![1, 11]⟩ := by decide

theorem sums_at {n : IVec S1024x11 32} {f : ℕ → ℕ} (r : Fin 1024) (hn : ∀ c : Fin 11, n (ix2 r c) = BitVec.ofNat 32 (f c.val)) (j : Fin 11) :
    sums n (ix2 r j) = BitVec.ofNat 32 (∑ c ∈ Finset.range (j.val + 1), f c) := by
  unfold sums
  rw [window_row IntOp.addi n _ _ window_line]
  exact Routing.cumsum2 (by norm_num) _ f hn _ rfl window_line h_S_ j

theorem offsetsOut_at {n : IVec S1024x11 32} {t : Fin 1024 → ℕ → ℕ} (hn : ∀ r (c : Fin 11), n (ix2 r c) = BitVec.ofNat 32 (before (t r) c.val 4096))
    (r : Fin 1024) (c : Fin 11) : offsetsOut n (ix2 r c) = BitVec.ofNat 32 (below (t r) c.val) := by
  unfold offsetsOut
  have hc := c.isLt
  by_cases h : c.val = 0
  · rw [concatenate_pair_apply_left (t := S1024x11) (s₁ := S1024x1) (s₂ := S1024x10) 1 _ _ _ (ix2 r c) rfl (ix2 r (0 : Fin 1)) fun b => by
      match b with
      | ⟨0, _⟩ => rfl
      | ⟨1, _⟩ => exact h.symm, h, below_zero]
    rfl
  · have e : c.val - 1 < 10 := by omega
    rw [concatenate_pair_apply_right (t := S1024x11) (s₁ := S1024x1) (s₂ := S1024x10) 1 _ _ _ (ix2 r c) rfl rfl (ix2 r (⟨c.val - 1, e⟩ : Fin 10))
      (fun b hb => by
        match b with
        | ⟨0, _⟩ => rfl
        | ⟨1, _⟩ => exact absurd rfl hb)
      (by show c.val - 1 + 1 = c.val; omega)]
    have es : extractStridedSlice S1024x10 ![0, 0] (sums n) slices_S1024x11_S1024x10_0_0 (ix2 r (⟨c.val - 1, e⟩ : Fin 10))
        = sums n (ix2 r (⟨c.val - 1, by omega⟩ : Fin 11)) := by
      unfold extractStridedSlice
      refine congrArg (sums n) (funext fun a => Fin.ext ?_)
      match a with
      | ⟨0, _⟩ => exact Nat.zero_add _
      | ⟨1, _⟩ => exact Nat.zero_add _
    rw [es, sums_at (f := fun c => before (t r) c 4096) r (hn r), below_eq_sum, Nat.sub_add_cancel (by omega)]

end Cert.Proof.Ref

end
-- ==== Proof.Same.lean ====
/-
  The kernel's results and the reference's are the same arrays.
-/
module

public import proofs.«01_k».proof.Proof.Main
public import proofs.«01_k».proof.Proof.RefRows
public import proofs.«01_k».proof.Proof.RefTables

@[expose] public section

noncomputable section

namespace Cert.Proof

open Cert.KernelIdeal Cert.KernelIdeal.Gen
open Idealize.ShloMosaic Idealize.ShloMosaic.ValueIdx

theorem below_congr {t t' : ℕ → ℕ} (h : ∀ m < 4096, t m = t' m) (c : ℕ) : below t c = below t' c := by
  rw [below_eq_sum, below_eq_sum]
  exact Finset.sum_congr rfl fun c _ => before_congr h c

/-- A sorted row at a place and a component: the coordinate of the atom a stable sort puts there, or `z` when it is absent. -/
theorem sortedRow_at {α : Type} (z : α) {s t : ℕ → ℕ} (h : ∀ m < 4096, s m = t m) (crd : ℕ → α) (p : Fin 4096) {k : ℕ} (hk : k < 3) :
    sortedRow z s crd (3 * p.val + k) = if t (sortedFrom (keyLt t) p).val < 11 then crd (3 * (sortedFrom (keyLt t) p).val + k) else z := by
  have hq := (sortedFrom (keyLt t) p).isLt
  have e : atomAt s p.val = (sortedFrom (keyLt t) p).val := by
    have := atomAt_rank s hq
    rw [rank_congr h hq, rank_sortedFrom] at this
    exact this
  unfold sortedRow placed
  rw [show (3 * p.val + k) / 3 = p.val by omega, show (3 * p.val + k) % 3 = k by omega, e, h _ hq]

/-- The type of an atom read from the packed words is the type of its names. -/
theorem typ_packed {n : ℕ} {a b : (⟨2, ![n, 4096]⟩ : Shape).Idx → BitVec 32} (h : ∀ i, (a i).toNat < 21 ∧ (b i).toNat < 38) (na : BitVec 32)
    (r : Fin n) {p : ℕ} (hp : p < 4096) :
    typ (rowOf (packed a b) words_pos r) na p = if (BitVec.ofNat 32 p).slt na then
      ((a (ix2 r ⟨p % 4096, Nat.mod_lt _ (by norm_num)⟩)).toNat + (b (ix2 r ⟨p % 4096, Nat.mod_lt _ (by norm_num)⟩)).toNat) % 11 else 11 := by
  unfold typ
  have e : ∀ q, (nameOf (a (ix2 r (colOf q ⟨p % 1024 % 1024, Nat.mod_lt _ words_pos⟩))) (b (ix2 r (colOf q ⟨p % 1024 % 1024, Nat.mod_lt _ words_pos⟩)))).toNat
      = ((a (ix2 r (colOf q ⟨p % 1024 % 1024, Nat.mod_lt _ words_pos⟩))).toNat + (b (ix2 r (colOf q ⟨p % 1024 % 1024, Nat.mod_lt _ words_pos⟩))).toNat) % 11 :=
    fun q => nameOf_toNat (h _).1 (h _).2
  have hc : colOf (p / 1024) ⟨p % 1024 % 1024, Nat.mod_lt _ words_pos⟩ = (⟨p % 4096, Nat.mod_lt _ (by norm_num)⟩ : Fin 4096) :=
    Fin.ext (by show (p % 1024 % 1024 + 1024 * (p / 1024)) % 4096 = p % 4096; omega)
  have hb : byte (rowOf (packed a b) words_pos r (p % 1024)) (p / 1024) = _ :=
    byte_packWord (t := fun q => nameOf (a (ix2 r (colOf q ⟨p % 1024 % 1024, Nat.mod_lt _ words_pos⟩))) (b (ix2 r (colOf q ⟨p % 1024 % 1024, Nat.mod_lt _ words_pos⟩))))
      (fun q _ => by rw [e]; exact (Nat.mod_lt _ (by norm_num)).trans (by norm_num)) (show p / 1024 < 4 by omega)
  rw [hb, e, hc]

/-- Two tables equal at every row and column are equal. -/
theorem ext_rows {A B : ℕ} {α : Type} {X Y : (⟨2, ![A, B]⟩ : Shape).Idx → α} (h : ∀ (r : Fin A) (c : Fin B), X (ix2 r c) = Y (ix2 r c)) : X = Y :=
  funext fun x => by
    have hx : ix2 (x 0) (x 1) = x := by
      funext a
      match a with
      | ⟨0, _⟩ => rfl
      | ⟨1, _⟩ => rfl
    exact ((congrArg X hx).symm.trans (h _ _)).trans (congrArg Y hx)

/-- A flat table at a row and a column. -/
theorem tableOf_at (X : S11264.Idx → BitVec 32) (r : Fin 1024) (c : Fin 11) (h : r.val * 11 + c.val < 11264) : tableOf X (ix2 r c) = X (ix1 ⟨r.val * 11 + c.val, h⟩) := by
  unfold tableOf
  refine shapeCast_apply _ _ (ix2 r c) (ix1 ⟨r.val * 11 + c.val, h⟩) ?_
  rw [Shape.rowMajor_val_two, Shape.rowMajor_val_one]
  rfl

theorem flatRow_at (r : Fin 1024) (c : Fin 11) (h : r.val * 11 + c.val < 11264) : flatRow (ix1 ⟨r.val * 11 + c.val, h⟩) = r :=
  Fin.ext (by have := c.isLt; show (r.val * 11 + c.val) / 11 = r.val; omega)

theorem flatCol_at (r : Fin 1024) (c : Fin 11) : (r.val * 11 + c.val) % 11 = c.val := by have := c.isLt; omega

section

variable {F : FTy → Type} [FloatOps F] (I : Inputs F) {t : Fin 1024 → ℕ → ℕ} (hs : ∀ r, ∀ p < 4096, I.typ r p = t r p)

include hs

theorem out_eq {T : S1024x4096.Idx → BitVec 32} (hT : Ref.Holds T t) (ht : ∀ r p, t r p < 12) : I.out = Ref.sortedOut I.crd T (Ref.order T) := by
  refine ext_rows fun r c => ?_
  obtain ⟨p, k, rfl⟩ : ∃ p k, c = Ref.comp p k :=
    ⟨⟨c.val / 3, by have := c.isLt; omega⟩, ⟨c.val % 3, by omega⟩, Fin.ext (by show c.val = 3 * (c.val / 3) + c.val % 3; omega)⟩
  refine Eq.trans ?_ (Ref.sortedOut_at (Ref.order_at hT ht) I.crd hT ht r p k).symm
  refine (sortedRow_at (Scalar.ofBits .f32 0x00000000#32) (hs r) (I.coords r) p k.isLt).trans (if_congr Iff.rfl ?_ rfl)
  refine congrArg I.crd (congrArg (ix2 r) (Fin.ext ?_))
  have hq := (sortedFrom (keyLt (t r)) p).isLt
  have hk := k.isLt
  exact Nat.mod_eq_of_lt (by omega)

theorem counts_eq {T : S1024x4096.Idx → BitVec 32} (hT : Ref.Holds T t) (ht : ∀ r p, t r p < 12) : tableOf I.counts = Ref.countsOut T := by
  refine ext_rows fun r c => ?_
  have h : r.val * 11 + c.val < 11264 := by have := r.isLt; have := c.isLt; omega
  rw [Ref.countsOut_at hT ht, tableOf_at _ r c h]
  show BitVec.ofNat 32 (before (I.typ (flatRow (ix1 ⟨_, h⟩))) ((r.val * 11 + c.val) % 11) 4096) = _
  rw [flatRow_at, flatCol_at, before_congr (hs r)]

theorem offsets_eq {T : S1024x4096.Idx → BitVec 32} (hT : Ref.Holds T t) (ht : ∀ r p, t r p < 12) :
    tableOf I.offsets = Ref.offsetsOut (Ref.countsOut T) := by
  refine ext_rows fun r c => ?_
  have h : r.val * 11 + c.val < 11264 := by have := r.isLt; have := c.isLt; omega
  rw [Ref.offsetsOut_at (Ref.countsOut_at hT ht), tableOf_at _ r c h]
  show BitVec.ofNat 32 (below (I.typ (flatRow (ix1 ⟨_, h⟩))) ((r.val * 11 + c.val) % 11)) = _
  rw [flatRow_at, flatCol_at, below_congr (hs r)]

end

end Cert.Proof

end
-- ==== Proof.Algebraic.lean ====
/-
  The kernel and the reference, run from memories that agree on the arguments, end with the same results.
-/
module

public import proofs.«01_k».proof.Proof.Same
public import proofs.«01_k».proof.Proof.Frames
public import proofs.«01_k».proof.Proof.RefFrame

@[expose] public section

noncomputable section

namespace Cert.Proof

open Cert.KernelIdeal Cert.KernelIdeal.Gen
open Idealize.ShloMosaic Idealize.ShloMosaic.TcCoe Idealize.ShloMosaic.ValueIdx
open Idealize.SL.Sem

variable {F : FTy → Type} [FloatOps F] [∀ e, Nonempty (Elt F e)] {m : (ℓ : Loc nD τ sig) → Buf (Elt F) ℓ}

/-- The types of the reference, of the arrays a device of the kernel starts from. -/
abbrev typAt (m : (ℓ : Loc nD τ sig) → Buf (Elt F) ℓ) (d : Dev nD) : Fin 1024 → ℕ → ℕ :=
  Ref.typ (m ((SparseCore.T d).loc main_arg1)) (m ((SparseCore.T d).loc main_arg2)) (m ((SparseCore.T d).loc main_arg3))

abbrev typesAt (m : (ℓ : Loc nD τ sig) → Buf (Elt F) ℓ) (d : Dev nD) : S1024x4096.Idx → BitVec 32 :=
  Ref.types (m ((SparseCore.T d).loc main_arg1)) (m ((SparseCore.T d).loc main_arg2)) (m ((SparseCore.T d).loc main_arg3))

theorem typ_inputs (h : Named m) (d : Dev nD) (r : Fin 1024) : ∀ p < 4096, (inputs m (packed_of_named h) d).typ r p = typAt m d r p :=
  fun _ hp => typ_packed (n := 1024) (h d) (m ((SparseCore.T d).loc main_arg3) (ix1 r)) r hp

theorem holds_types (h : Named m) (d : Dev nD) : Ref.Holds (typesAt m d) (typAt m d) := fun r p => Ref.types_at _ _ _ (h d) r p

theorem typAt_lt (d : Dev nD) (r : Fin 1024) (p : ℕ) : typAt m d r p < 12 := Ref.typ_lt _ _ _ r p

/-- What the reference computes from a memory that agrees on the arguments. -/
theorem reference_of_agree (h : Named m) (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Ref.sortedOut (m' ((c.tc : Thread Cert.ReferenceIdeal.nD Cert.ReferenceIdeal.τ).loc Cert.ReferenceIdeal.main_arg0)) (Ref.typesIn m' c) (Ref.order (Ref.typesIn m' c))
        = (inputs m (packed_of_named h) c).out
      ∧ Ref.countsOut (Ref.typesIn m' c) = tableOf (inputs m (packed_of_named h) c).counts
      ∧ Ref.offsetsOut (Ref.countsOut (Ref.typesIn m' c)) = tableOf (inputs m (packed_of_named h) c).offsets := by
  have e : Ref.typesIn m' c = typesAt m c := by
    unfold Ref.typesIn typesAt
    rw [h1, h2, h3]
  rw [e, h0]
  exact ⟨(out_eq _ (typ_inputs h c) (holds_types h c) (typAt_lt c)).symm, (counts_eq _ (typ_inputs h c) (holds_types h c) (typAt_lt c)).symm,
    (offsets_eq _ (typ_inputs h c) (holds_types h c) (typAt_lt c)).symm⟩

theorem algebraic : Cert.algebraic_KernelIdeal_ReferenceIdeal := by
  intro m g m' g' hpre hargs
  have hn : Named m := fun d => names_of_pre _ _ _ _ (hpre d)
  refine ⟨fun c => (inputs m (packed_of_named hn) c).out, fun c => tableOf (inputs m (packed_of_named hn) c).counts,
    fun c => tableOf (inputs m (packed_of_named hn) c).offsets, ?_, ?_⟩
  · refine (θ_run Cert.KernelIdeal.defs _ _).mono (fun r h c => ?_) (run_main m g (packed_of_named hn))
    obtain ⟨a0, a1, a2, a3, o, n, s⟩ := h.1 c
    exact ⟨o, n, s, a0, a1, a2, a3⟩
  · refine (θ_run Cert.ReferenceIdeal.defs _ _).mono (fun r h c => ?_) (Ref.run (F := Ideal) m' g')
    obtain ⟨o, n, s, a⟩ := h c
    obtain ⟨e0, e1, e2⟩ := reference_of_agree hn m' c (hargs c).1 (hargs c).2.1 (hargs c).2.2.1 (hargs c).2.2.2
    exact ⟨o.trans e0, n.trans e1, s.trans e2, a⟩

end Cert.Proof

end
-- ==== Proof.lean ====
/-
  The certificate: the kernel sorts the atoms of every row by type.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_names_in_range
public import proofs.«01_k».proof.Proof.Frames
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_names_in_range.Gen.facts,
  frame_kernel, frame_ideal, frame_reference, frame_reference_pre, trivial, algebraic⟩

end Cert.Proof

end
